-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![2048, 512]⟩ ⟨2, ![32768, 512]⟩ 0 16 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v3) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2048x512 : Shape := ⟨2, ![2048, 512]⟩
abbrev S3840x256 : Shape := ⟨2, ![3840, 256]⟩
abbrev S4x19 : Shape := ⟨2, ![4, 19]⟩
abbrev S_ : Shape := ⟨0, ![]⟩
abbrev S256x256 : Shape := ⟨2, ![256, 256]⟩
abbrev S1x1 : Shape := ⟨2, ![1, 1]⟩
abbrev S128x256 : Shape := ⟨2, ![128, 256]⟩

abbrev nBuf : Space → Nat
  | .hbm => 2
  | .vmem => 6
  | .smem => 0
  | _ => 0

abbrev bufTy : (tb : Table) → Fin (tcTables nBuf tb) → BufTy
  | .hbm, ⟨0, _⟩ => ⟨S2048x512, .bf16⟩
  | .hbm, ⟨1, _⟩ => ⟨S2048x512, .bf16⟩
  | .local _ .vmem, ⟨0, _⟩ => ⟨S2048x512, .bf16⟩
  | .local _ .vmem, ⟨1, _⟩ => ⟨S2048x512, .bf16⟩
  | .local _ .vmem, ⟨2, _⟩ => ⟨S3840x256, .bf16⟩
  | .local _ .vmem, ⟨3, _⟩ => ⟨S3840x256, .bf16⟩
  | .local _ .vmem, ⟨4, _⟩ => ⟨S3840x256, .bf16⟩
  | .local _ .vmem, ⟨5, _⟩ => ⟨S3840x256, .bf16⟩
  | _, _ => ⟨S2048x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 1 → Bool
  | ⟨0, _⟩ => false
  | _ => false

abbrev dmaSemScoped : Fin 78 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | _ => false

abbrev sig : RefSig :=
  (ofTc nBuf bufTy 1 78 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_sem0_0 : DmaSem sig := 0
abbrev cc0_sem1_0 : DmaSem sig := 1
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32_22 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c4_i32_6 : BitVec 32 := 4#32
  let v11 : BitVec 32 := Scalar.muli v4 c4_i32_6
  let c4_i32 : BitVec 32 := 4#32
  let v3 : BitVec 32 := Scalar.remsi v2 c4_i32
  let c2_i32_7 : BitVec 32 := 2#32
  let v12 : BitVec 32 := Scalar.remsi v3 c2_i32_7
  let c0_i32_8 : BitVec 32 := 0#32
  let v13 : BitVec 1 := Scalar.cmpi .eq v12 c0_i32_8
  let c1_i32_9 : BitVec 32 := 1#32
  let v14 : BitVec 32 := Scalar.addi v3 c1_i32_9
  let c1_i32_10 : BitVec 32 := 1#32
  let v15 : BitVec 32 := Scalar.subi v3 c1_i32_10
  let v16 : BitVec 32 := Scalar.select v13 v14 v15
  let v17 : BitVec 32 := Scalar.addi v11 v16
  let c1_i32_21 : BitVec 32 := 1#32
  let v34 : BitVec 32 := Scalar.muli v17 c1_i32_21
  let v35 : BitVec 32 := Scalar.addi c0_i32_22 v34
  v35.toNat
def k0_dev2 (d0 : Dev nD) : Nat :=
  let c0_i32_25 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c4_i32_11 : BitVec 32 := 4#32
  let v18 : BitVec 32 := Scalar.muli v4 c4_i32_11
  let c3_i32 : BitVec 32 := 3#32
  let c4_i32 : BitVec 32 := 4#32
  let v3 : BitVec 32 := Scalar.remsi v2 c4_i32
  let v19 : BitVec 32 := Scalar.subi c3_i32 v3
  let v20 : BitVec 32 := Scalar.addi v18 v19
  let c1_i32_24 : BitVec 32 := 1#32
  let v36 : BitVec 32 := Scalar.muli v20 c1_i32_24
  let v37 : BitVec 32 := Scalar.addi c0_i32_25 v36
  v37.toNat
def k0_dev3 (d0 : Dev nD) : Nat :=
  let c0_i32_28 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c1_i32_14 : BitVec 32 := 1#32
  let v23 : BitVec 32 := Scalar.addi v4 c1_i32_14
  let c2_i32_15 : BitVec 32 := 2#32
  let c2_i32_12 : BitVec 32 := 2#32
  let v21 : BitVec 32 := Scalar.remsi v4 c2_i32_12
  let v24 : BitVec 32 := Scalar.muli c2_i32_15 v21
  let v25 : BitVec 32 := Scalar.subi v23 v24
  let c4_i32_16 : BitVec 32 := 4#32
  let v26 : BitVec 32 := Scalar.muli v25 c4_i32_16
  let c4_i32 : BitVec 32 := 4#32
  let v3 : BitVec 32 := Scalar.remsi v2 c4_i32
  let v27 : BitVec 32 := Scalar.addi v26 v3
  let c1_i32_27 : BitVec 32 := 1#32
  let v38 : BitVec 32 := Scalar.muli v27 c1_i32_27
  let v39 : BitVec 32 := Scalar.addi c0_i32_28 v38
  v39.toNat
def k0_dev4 (d0 : Dev nD) : Nat :=
  let c0_i32_31 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c2_i32_17 : BitVec 32 := 2#32
  let v28 : BitVec 32 := Scalar.addi v4 c2_i32_17
  let c4_i32_18 : BitVec 32 := 4#32
  let c2_i32_13 : BitVec 32 := 2#32
  let v22 : BitVec 32 := Scalar.divsi v4 c2_i32_13
  let v29 : BitVec 32 := Scalar.muli c4_i32_18 v22
  let v30 : BitVec 32 := Scalar.subi v28 v29
  let c4_i32_19 : BitVec 32 := 4#32
  let v31 : BitVec 32 := Scalar.muli v30 c4_i32_19
  let c4_i32 : BitVec 32 := 4#32
  let v3 : BitVec 32 := Scalar.remsi v2 c4_i32
  let v32 : BitVec 32 := Scalar.addi v31 v3
  let c1_i32_30 : BitVec 32 := 1#32
  let v40 : BitVec 32 := Scalar.muli v32 c1_i32_30
  let v41 : BitVec 32 := Scalar.addi c0_i32_31 v40
  v41.toNat
def k0_off1 (d0 : Dev nD) : Fin 2 → Nat :=
  let c1_i32_33 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c1_i32_1 : BitVec 32 := 1#32
  let v5 : BitVec 1 := Scalar.cmpi .eq v3 c1_i32_1
  let c2_i32 : BitVec 32 := 2#32
  let v6 : BitVec 1 := Scalar.cmpi .eq v3 c2_i32
  let v7 : BitVec 1 := Scalar.ori v5 v6
  let c1_i32_2 : BitVec 32 := 1#32
  let c0_i32 : BitVec 32 := 0#32
  let v8 : BitVec 32 := Scalar.select v7 c1_i32_2 c0_i32
  let v43 : BitVec 32 := Scalar.subi c1_i32_33 v8
  let c1024_i32_34 : BitVec 32 := 1024#32
  let v44 : BitVec 32 := Scalar.muli v43 c1024_i32_34
  let c1_i32_37 : BitVec 32 := 1#32
  let c2_i32_3 : BitVec 32 := 2#32
  let v9 : BitVec 1 := Scalar.cmpi .sge v3 c2_i32_3
  let c1_i32_4 : BitVec 32 := 1#32
  let c0_i32_5 : BitVec 32 := 0#32
  let v10 : BitVec 32 := Scalar.select v9 c1_i32_4 c0_i32_5
  let v50 : BitVec 32 := Scalar.subi c1_i32_37 v10
  let c512_i32_38 : BitVec 32 := 512#32
  let v51 : BitVec 32 := Scalar.muli v50 c512_i32_38
  let v52 : BitVec 32 := Scalar.addi v44 v51
  let c1_i32_53 : BitVec 32 := 1#32
  let c4_i32_0 : BitVec 32 := 4#32
  let v4 : BitVec 32 := Scalar.divsi v2 c4_i32_0
  let c2_i32_12 : BitVec 32 := 2#32
  let v21 : BitVec 32 := Scalar.remsi v4 c2_i32_12
  let v77 : BitVec 32 := Scalar.subi c1_i32_53 v21
  let c256_i32_54 : BitVec 32 := 256#32
  let v78 : BitVec 32 := Scalar.muli v77 c256_i32_54
  let v118 : BitVec 32 := Scalar.addi v52 v78
  let v119 : Index := Scalar.indexCast v118
  let c0 : Index := 0#32
  ![v119.toNat, 0]
def k0_dev5 (d0 : Dev nD) : Nat :=
  let c0_i32_89 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c4_i32_6 : BitVec 32 := 4#32
  let v11 : BitVec 32 := Scalar.muli v4 c4_i32_6
  let c4_i32 : BitVec 32 := 4#32
  let v3 : BitVec 32 := Scalar.remsi v2 c4_i32
  let c2_i32_7 : BitVec 32 := 2#32
  let v12 : BitVec 32 := Scalar.remsi v3 c2_i32_7
  let c0_i32_8 : BitVec 32 := 0#32
  let v13 : BitVec 1 := Scalar.cmpi .eq v12 c0_i32_8
  let c1_i32_9 : BitVec 32 := 1#32
  let v14 : BitVec 32 := Scalar.addi v3 c1_i32_9
  let c1_i32_10 : BitVec 32 := 1#32
  let v15 : BitVec 32 := Scalar.subi v3 c1_i32_10
  let v16 : BitVec 32 := Scalar.select v13 v14 v15
  let v17 : BitVec 32 := Scalar.addi v11 v16
  let c1_i32_88 : BitVec 32 := 1#32
  let v125 : BitVec 32 := Scalar.muli v17 c1_i32_88
  let v126 : BitVec 32 := Scalar.addi c0_i32_89 v125
  v126.toNat
def k0_off2 (d0 : Dev nD) : Fin 2 → Nat :=
  let c1_i32_57 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c2_i32_3 : BitVec 32 := 2#32
  let v9 : BitVec 1 := Scalar.cmpi .sge v3 c2_i32_3
  let c1_i32_4 : BitVec 32 := 1#32
  let c0_i32_5 : BitVec 32 := 0#32
  let v10 : BitVec 32 := Scalar.select v9 c1_i32_4 c0_i32_5
  let v81 : BitVec 32 := Scalar.subi c1_i32_57 v10
  let c1024_i32_58 : BitVec 32 := 1024#32
  let v82 : BitVec 32 := Scalar.muli v81 c1024_i32_58
  let c1_i32_62 : BitVec 32 := 1#32
  let c1_i32_1 : BitVec 32 := 1#32
  let v5 : BitVec 1 := Scalar.cmpi .eq v3 c1_i32_1
  let c2_i32 : BitVec 32 := 2#32
  let v6 : BitVec 1 := Scalar.cmpi .eq v3 c2_i32
  let v7 : BitVec 1 := Scalar.ori v5 v6
  let c1_i32_2 : BitVec 32 := 1#32
  let c0_i32 : BitVec 32 := 0#32
  let v8 : BitVec 32 := Scalar.select v7 c1_i32_2 c0_i32
  let v88 : BitVec 32 := Scalar.subi c1_i32_62 v8
  let c512_i32_63 : BitVec 32 := 512#32
  let v89 : BitVec 32 := Scalar.muli v88 c512_i32_63
  let v90 : BitVec 32 := Scalar.addi v82 v89
  let c1_i32_80 : BitVec 32 := 1#32
  let c4_i32_0 : BitVec 32 := 4#32
  let v4 : BitVec 32 := Scalar.divsi v2 c4_i32_0
  let c2_i32_13 : BitVec 32 := 2#32
  let v22 : BitVec 32 := Scalar.divsi v4 c2_i32_13
  let v115 : BitVec 32 := Scalar.subi c1_i32_80 v22
  let c256_i32_81 : BitVec 32 := 256#32
  let v116 : BitVec 32 := Scalar.muli v115 c256_i32_81
  let v133 : BitVec 32 := Scalar.addi v90 v116
  let v134 : Index := Scalar.indexCast v133
  let c256_94 : Index := 256#32
  ![v134.toNat, 256]
def k0_dev6 (d0 : Dev nD) : Nat :=
  let c0_i32_102 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c4_i32_11 : BitVec 32 := 4#32
  let v18 : BitVec 32 := Scalar.muli v4 c4_i32_11
  let c3_i32 : BitVec 32 := 3#32
  let c4_i32 : BitVec 32 := 4#32
  let v3 : BitVec 32 := Scalar.remsi v2 c4_i32
  let v19 : BitVec 32 := Scalar.subi c3_i32 v3
  let v20 : BitVec 32 := Scalar.addi v18 v19
  let c1_i32_101 : BitVec 32 := 1#32
  let v140 : BitVec 32 := Scalar.muli v20 c1_i32_101
  let v141 : BitVec 32 := Scalar.addi c0_i32_102 v140
  v141.toNat
def k0_off3 (d0 : Dev nD) : Fin 2 → Nat :=
  let c1_i32_33 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c1_i32_1 : BitVec 32 := 1#32
  let v5 : BitVec 1 := Scalar.cmpi .eq v3 c1_i32_1
  let c2_i32 : BitVec 32 := 2#32
  let v6 : BitVec 1 := Scalar.cmpi .eq v3 c2_i32
  let v7 : BitVec 1 := Scalar.ori v5 v6
  let c1_i32_2 : BitVec 32 := 1#32
  let c0_i32 : BitVec 32 := 0#32
  let v8 : BitVec 32 := Scalar.select v7 c1_i32_2 c0_i32
  let v43 : BitVec 32 := Scalar.subi c1_i32_33 v8
  let c1024_i32_34 : BitVec 32 := 1024#32
  let v44 : BitVec 32 := Scalar.muli v43 c1024_i32_34
  let c1_i32_37 : BitVec 32 := 1#32
  let c2_i32_3 : BitVec 32 := 2#32
  let v9 : BitVec 1 := Scalar.cmpi .sge v3 c2_i32_3
  let c1_i32_4 : BitVec 32 := 1#32
  let c0_i32_5 : BitVec 32 := 0#32
  let v10 : BitVec 32 := Scalar.select v9 c1_i32_4 c0_i32_5
  let v50 : BitVec 32 := Scalar.subi c1_i32_37 v10
  let c512_i32_38 : BitVec 32 := 512#32
  let v51 : BitVec 32 := Scalar.muli v50 c512_i32_38
  let v52 : BitVec 32 := Scalar.addi v44 v51
  let c4_i32_0 : BitVec 32 := 4#32
  let v4 : BitVec 32 := Scalar.divsi v2 c4_i32_0
  let c2_i32_12 : BitVec 32 := 2#32
  let v21 : BitVec 32 := Scalar.remsi v4 c2_i32_12
  let c256_i32_55 : BitVec 32 := 256#32
  let v79 : BitVec 32 := Scalar.muli v21 c256_i32_55
  let v148 : BitVec 32 := Scalar.addi v52 v79
  let v149 : Index := Scalar.indexCast v148
  let c0_107 : Index := 0#32
  ![v149.toNat, 0]
def k0_dev7 (d0 : Dev nD) : Nat :=
  let c0_i32_114 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c4_i32_6 : BitVec 32 := 4#32
  let v11 : BitVec 32 := Scalar.muli v4 c4_i32_6
  let c4_i32 : BitVec 32 := 4#32
  let v3 : BitVec 32 := Scalar.remsi v2 c4_i32
  let c2_i32_7 : BitVec 32 := 2#32
  let v12 : BitVec 32 := Scalar.remsi v3 c2_i32_7
  let c0_i32_8 : BitVec 32 := 0#32
  let v13 : BitVec 1 := Scalar.cmpi .eq v12 c0_i32_8
  let c1_i32_9 : BitVec 32 := 1#32
  let v14 : BitVec 32 := Scalar.addi v3 c1_i32_9
  let c1_i32_10 : BitVec 32 := 1#32
  let v15 : BitVec 32 := Scalar.subi v3 c1_i32_10
  let v16 : BitVec 32 := Scalar.select v13 v14 v15
  let v17 : BitVec 32 := Scalar.addi v11 v16
  let c1_i32_113 : BitVec 32 := 1#32
  let v155 : BitVec 32 := Scalar.muli v17 c1_i32_113
  let v156 : BitVec 32 := Scalar.addi c0_i32_114 v155
  v156.toNat
def k0_off4 (d0 : Dev nD) : Fin 2 → Nat :=
  let c1_i32_57 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c2_i32_3 : BitVec 32 := 2#32
  let v9 : BitVec 1 := Scalar.cmpi .sge v3 c2_i32_3
  let c1_i32_4 : BitVec 32 := 1#32
  let c0_i32_5 : BitVec 32 := 0#32
  let v10 : BitVec 32 := Scalar.select v9 c1_i32_4 c0_i32_5
  let v81 : BitVec 32 := Scalar.subi c1_i32_57 v10
  let c1024_i32_58 : BitVec 32 := 1024#32
  let v82 : BitVec 32 := Scalar.muli v81 c1024_i32_58
  let c1_i32_62 : BitVec 32 := 1#32
  let c1_i32_1 : BitVec 32 := 1#32
  let v5 : BitVec 1 := Scalar.cmpi .eq v3 c1_i32_1
  let c2_i32 : BitVec 32 := 2#32
  let v6 : BitVec 1 := Scalar.cmpi .eq v3 c2_i32
  let v7 : BitVec 1 := Scalar.ori v5 v6
  let c1_i32_2 : BitVec 32 := 1#32
  let c0_i32 : BitVec 32 := 0#32
  let v8 : BitVec 32 := Scalar.select v7 c1_i32_2 c0_i32
  let v88 : BitVec 32 := Scalar.subi c1_i32_62 v8
  let c512_i32_63 : BitVec 32 := 512#32
  let v89 : BitVec 32 := Scalar.muli v88 c512_i32_63
  let v90 : BitVec 32 := Scalar.addi v82 v89
  let c4_i32_0 : BitVec 32 := 4#32
  let v4 : BitVec 32 := Scalar.divsi v2 c4_i32_0
  let c2_i32_13 : BitVec 32 := 2#32
  let v22 : BitVec 32 := Scalar.divsi v4 c2_i32_13
  let c256_i32_82 : BitVec 32 := 256#32
  let v117 : BitVec 32 := Scalar.muli v22 c256_i32_82
  let v163 : BitVec 32 := Scalar.addi v90 v117
  let v164 : Index := Scalar.indexCast v163
  let c256_118 : Index := 256#32
  ![v164.toNat, 256]
def k0_dev8 (d0 : Dev nD) : Nat :=
  let c0_i32_126 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c4_i32_11 : BitVec 32 := 4#32
  let v18 : BitVec 32 := Scalar.muli v4 c4_i32_11
  let c3_i32 : BitVec 32 := 3#32
  let c4_i32 : BitVec 32 := 4#32
  let v3 : BitVec 32 := Scalar.remsi v2 c4_i32
  let v19 : BitVec 32 := Scalar.subi c3_i32 v3
  let v20 : BitVec 32 := Scalar.addi v18 v19
  let c1_i32_125 : BitVec 32 := 1#32
  let v170 : BitVec 32 := Scalar.muli v20 c1_i32_125
  let v171 : BitVec 32 := Scalar.addi c0_i32_126 v170
  v171.toNat
def k0_off5 (d0 : Dev nD) : Fin 2 → Nat :=
  let c1_i32_33 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c1_i32_1 : BitVec 32 := 1#32
  let v5 : BitVec 1 := Scalar.cmpi .eq v3 c1_i32_1
  let c2_i32 : BitVec 32 := 2#32
  let v6 : BitVec 1 := Scalar.cmpi .eq v3 c2_i32
  let v7 : BitVec 1 := Scalar.ori v5 v6
  let c1_i32_2 : BitVec 32 := 1#32
  let c0_i32 : BitVec 32 := 0#32
  let v8 : BitVec 32 := Scalar.select v7 c1_i32_2 c0_i32
  let v43 : BitVec 32 := Scalar.subi c1_i32_33 v8
  let c1024_i32_34 : BitVec 32 := 1024#32
  let v44 : BitVec 32 := Scalar.muli v43 c1024_i32_34
  let c2_i32_3 : BitVec 32 := 2#32
  let v9 : BitVec 1 := Scalar.cmpi .sge v3 c2_i32_3
  let c1_i32_4 : BitVec 32 := 1#32
  let c0_i32_5 : BitVec 32 := 0#32
  let v10 : BitVec 32 := Scalar.select v9 c1_i32_4 c0_i32_5
  let c512_i32_39 : BitVec 32 := 512#32
  let v53 : BitVec 32 := Scalar.muli v10 c512_i32_39
  let v54 : BitVec 32 := Scalar.addi v44 v53
  let c1_i32_53 : BitVec 32 := 1#32
  let c4_i32_0 : BitVec 32 := 4#32
  let v4 : BitVec 32 := Scalar.divsi v2 c4_i32_0
  let c2_i32_12 : BitVec 32 := 2#32
  let v21 : BitVec 32 := Scalar.remsi v4 c2_i32_12
  let v77 : BitVec 32 := Scalar.subi c1_i32_53 v21
  let c256_i32_54 : BitVec 32 := 256#32
  let v78 : BitVec 32 := Scalar.muli v77 c256_i32_54
  let v178 : BitVec 32 := Scalar.addi v54 v78
  let v179 : Index := Scalar.indexCast v178
  let c0_131 : Index := 0#32
  ![v179.toNat, 0]
def k0_dev9 (d0 : Dev nD) : Nat :=
  let c0_i32_139 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c4_i32_6 : BitVec 32 := 4#32
  let v11 : BitVec 32 := Scalar.muli v4 c4_i32_6
  let c4_i32 : BitVec 32 := 4#32
  let v3 : BitVec 32 := Scalar.remsi v2 c4_i32
  let c2_i32_7 : BitVec 32 := 2#32
  let v12 : BitVec 32 := Scalar.remsi v3 c2_i32_7
  let c0_i32_8 : BitVec 32 := 0#32
  let v13 : BitVec 1 := Scalar.cmpi .eq v12 c0_i32_8
  let c1_i32_9 : BitVec 32 := 1#32
  let v14 : BitVec 32 := Scalar.addi v3 c1_i32_9
  let c1_i32_10 : BitVec 32 := 1#32
  let v15 : BitVec 32 := Scalar.subi v3 c1_i32_10
  let v16 : BitVec 32 := Scalar.select v13 v14 v15
  let v17 : BitVec 32 := Scalar.addi v11 v16
  let c1_i32_138 : BitVec 32 := 1#32
  let v185 : BitVec 32 := Scalar.muli v17 c1_i32_138
  let v186 : BitVec 32 := Scalar.addi c0_i32_139 v185
  v186.toNat
def k0_off6 (d0 : Dev nD) : Fin 2 → Nat :=
  let c1_i32_57 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c2_i32_3 : BitVec 32 := 2#32
  let v9 : BitVec 1 := Scalar.cmpi .sge v3 c2_i32_3
  let c1_i32_4 : BitVec 32 := 1#32
  let c0_i32_5 : BitVec 32 := 0#32
  let v10 : BitVec 32 := Scalar.select v9 c1_i32_4 c0_i32_5
  let v81 : BitVec 32 := Scalar.subi c1_i32_57 v10
  let c1024_i32_58 : BitVec 32 := 1024#32
  let v82 : BitVec 32 := Scalar.muli v81 c1024_i32_58
  let c1_i32_1 : BitVec 32 := 1#32
  let v5 : BitVec 1 := Scalar.cmpi .eq v3 c1_i32_1
  let c2_i32 : BitVec 32 := 2#32
  let v6 : BitVec 1 := Scalar.cmpi .eq v3 c2_i32
  let v7 : BitVec 1 := Scalar.ori v5 v6
  let c1_i32_2 : BitVec 32 := 1#32
  let c0_i32 : BitVec 32 := 0#32
  let v8 : BitVec 32 := Scalar.select v7 c1_i32_2 c0_i32
  let c512_i32_64 : BitVec 32 := 512#32
  let v91 : BitVec 32 := Scalar.muli v8 c512_i32_64
  let v92 : BitVec 32 := Scalar.addi v82 v91
  let c1_i32_80 : BitVec 32 := 1#32
  let c4_i32_0 : BitVec 32 := 4#32
  let v4 : BitVec 32 := Scalar.divsi v2 c4_i32_0
  let c2_i32_13 : BitVec 32 := 2#32
  let v22 : BitVec 32 := Scalar.divsi v4 c2_i32_13
  let v115 : BitVec 32 := Scalar.subi c1_i32_80 v22
  let c256_i32_81 : BitVec 32 := 256#32
  let v116 : BitVec 32 := Scalar.muli v115 c256_i32_81
  let v193 : BitVec 32 := Scalar.addi v92 v116
  let v194 : Index := Scalar.indexCast v193
  let c256_144 : Index := 256#32
  ![v194.toNat, 256]
def k0_dev10 (d0 : Dev nD) : Nat :=
  let c0_i32_152 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c4_i32_11 : BitVec 32 := 4#32
  let v18 : BitVec 32 := Scalar.muli v4 c4_i32_11
  let c3_i32 : BitVec 32 := 3#32
  let c4_i32 : BitVec 32 := 4#32
  let v3 : BitVec 32 := Scalar.remsi v2 c4_i32
  let v19 : BitVec 32 := Scalar.subi c3_i32 v3
  let v20 : BitVec 32 := Scalar.addi v18 v19
  let c1_i32_151 : BitVec 32 := 1#32
  let v200 : BitVec 32 := Scalar.muli v20 c1_i32_151
  let v201 : BitVec 32 := Scalar.addi c0_i32_152 v200
  v201.toNat
def k0_off7 (d0 : Dev nD) : Fin 2 → Nat :=
  let c1_i32_33 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c1_i32_1 : BitVec 32 := 1#32
  let v5 : BitVec 1 := Scalar.cmpi .eq v3 c1_i32_1
  let c2_i32 : BitVec 32 := 2#32
  let v6 : BitVec 1 := Scalar.cmpi .eq v3 c2_i32
  let v7 : BitVec 1 := Scalar.ori v5 v6
  let c1_i32_2 : BitVec 32 := 1#32
  let c0_i32 : BitVec 32 := 0#32
  let v8 : BitVec 32 := Scalar.select v7 c1_i32_2 c0_i32
  let v43 : BitVec 32 := Scalar.subi c1_i32_33 v8
  let c1024_i32_34 : BitVec 32 := 1024#32
  let v44 : BitVec 32 := Scalar.muli v43 c1024_i32_34
  let c2_i32_3 : BitVec 32 := 2#32
  let v9 : BitVec 1 := Scalar.cmpi .sge v3 c2_i32_3
  let c1_i32_4 : BitVec 32 := 1#32
  let c0_i32_5 : BitVec 32 := 0#32
  let v10 : BitVec 32 := Scalar.select v9 c1_i32_4 c0_i32_5
  let c512_i32_39 : BitVec 32 := 512#32
  let v53 : BitVec 32 := Scalar.muli v10 c512_i32_39
  let v54 : BitVec 32 := Scalar.addi v44 v53
  let c4_i32_0 : BitVec 32 := 4#32
  let v4 : BitVec 32 := Scalar.divsi v2 c4_i32_0
  let c2_i32_12 : BitVec 32 := 2#32
  let v21 : BitVec 32 := Scalar.remsi v4 c2_i32_12
  let c256_i32_55 : BitVec 32 := 256#32
  let v79 : BitVec 32 := Scalar.muli v21 c256_i32_55
  let v208 : BitVec 32 := Scalar.addi v54 v79
  let v209 : Index := Scalar.indexCast v208
  let c0_157 : Index := 0#32
  ![v209.toNat, 0]
def k0_dev11 (d0 : Dev nD) : Nat :=
  let c0_i32_164 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c4_i32_6 : BitVec 32 := 4#32
  let v11 : BitVec 32 := Scalar.muli v4 c4_i32_6
  let c4_i32 : BitVec 32 := 4#32
  let v3 : BitVec 32 := Scalar.remsi v2 c4_i32
  let c2_i32_7 : BitVec 32 := 2#32
  let v12 : BitVec 32 := Scalar.remsi v3 c2_i32_7
  let c0_i32_8 : BitVec 32 := 0#32
  let v13 : BitVec 1 := Scalar.cmpi .eq v12 c0_i32_8
  let c1_i32_9 : BitVec 32 := 1#32
  let v14 : BitVec 32 := Scalar.addi v3 c1_i32_9
  let c1_i32_10 : BitVec 32 := 1#32
  let v15 : BitVec 32 := Scalar.subi v3 c1_i32_10
  let v16 : BitVec 32 := Scalar.select v13 v14 v15
  let v17 : BitVec 32 := Scalar.addi v11 v16
  let c1_i32_163 : BitVec 32 := 1#32
  let v215 : BitVec 32 := Scalar.muli v17 c1_i32_163
  let v216 : BitVec 32 := Scalar.addi c0_i32_164 v215
  v216.toNat
def k0_off8 (d0 : Dev nD) : Fin 2 → Nat :=
  let c1_i32_57 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c2_i32_3 : BitVec 32 := 2#32
  let v9 : BitVec 1 := Scalar.cmpi .sge v3 c2_i32_3
  let c1_i32_4 : BitVec 32 := 1#32
  let c0_i32_5 : BitVec 32 := 0#32
  let v10 : BitVec 32 := Scalar.select v9 c1_i32_4 c0_i32_5
  let v81 : BitVec 32 := Scalar.subi c1_i32_57 v10
  let c1024_i32_58 : BitVec 32 := 1024#32
  let v82 : BitVec 32 := Scalar.muli v81 c1024_i32_58
  let c1_i32_1 : BitVec 32 := 1#32
  let v5 : BitVec 1 := Scalar.cmpi .eq v3 c1_i32_1
  let c2_i32 : BitVec 32 := 2#32
  let v6 : BitVec 1 := Scalar.cmpi .eq v3 c2_i32
  let v7 : BitVec 1 := Scalar.ori v5 v6
  let c1_i32_2 : BitVec 32 := 1#32
  let c0_i32 : BitVec 32 := 0#32
  let v8 : BitVec 32 := Scalar.select v7 c1_i32_2 c0_i32
  let c512_i32_64 : BitVec 32 := 512#32
  let v91 : BitVec 32 := Scalar.muli v8 c512_i32_64
  let v92 : BitVec 32 := Scalar.addi v82 v91
  let c4_i32_0 : BitVec 32 := 4#32
  let v4 : BitVec 32 := Scalar.divsi v2 c4_i32_0
  let c2_i32_13 : BitVec 32 := 2#32
  let v22 : BitVec 32 := Scalar.divsi v4 c2_i32_13
  let c256_i32_82 : BitVec 32 := 256#32
  let v117 : BitVec 32 := Scalar.muli v22 c256_i32_82
  let v223 : BitVec 32 := Scalar.addi v92 v117
  let v224 : Index := Scalar.indexCast v223
  let c256_169 : Index := 256#32
  ![v224.toNat, 256]
def k0_dev12 (d0 : Dev nD) : Nat :=
  let c0_i32_177 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c4_i32_11 : BitVec 32 := 4#32
  let v18 : BitVec 32 := Scalar.muli v4 c4_i32_11
  let c3_i32 : BitVec 32 := 3#32
  let c4_i32 : BitVec 32 := 4#32
  let v3 : BitVec 32 := Scalar.remsi v2 c4_i32
  let v19 : BitVec 32 := Scalar.subi c3_i32 v3
  let v20 : BitVec 32 := Scalar.addi v18 v19
  let c1_i32_176 : BitVec 32 := 1#32
  let v230 : BitVec 32 := Scalar.muli v20 c1_i32_176
  let v231 : BitVec 32 := Scalar.addi c0_i32_177 v230
  v231.toNat
def k0_off9 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c1_i32_1 : BitVec 32 := 1#32
  let v5 : BitVec 1 := Scalar.cmpi .eq v3 c1_i32_1
  let c2_i32 : BitVec 32 := 2#32
  let v6 : BitVec 1 := Scalar.cmpi .eq v3 c2_i32
  let v7 : BitVec 1 := Scalar.ori v5 v6
  let c1_i32_2 : BitVec 32 := 1#32
  let c0_i32 : BitVec 32 := 0#32
  let v8 : BitVec 32 := Scalar.select v7 c1_i32_2 c0_i32
  let c1024_i32 : BitVec 32 := 1024#32
  let v42 : BitVec 32 := Scalar.muli v8 c1024_i32
  let c1_i32_35 : BitVec 32 := 1#32
  let c2_i32_3 : BitVec 32 := 2#32
  let v9 : BitVec 1 := Scalar.cmpi .sge v3 c2_i32_3
  let c1_i32_4 : BitVec 32 := 1#32
  let c0_i32_5 : BitVec 32 := 0#32
  let v10 : BitVec 32 := Scalar.select v9 c1_i32_4 c0_i32_5
  let v47 : BitVec 32 := Scalar.subi c1_i32_35 v10
  let c512_i32_36 : BitVec 32 := 512#32
  let v48 : BitVec 32 := Scalar.muli v47 c512_i32_36
  let v49 : BitVec 32 := Scalar.addi v42 v48
  let c1_i32_53 : BitVec 32 := 1#32
  let c4_i32_0 : BitVec 32 := 4#32
  let v4 : BitVec 32 := Scalar.divsi v2 c4_i32_0
  let c2_i32_12 : BitVec 32 := 2#32
  let v21 : BitVec 32 := Scalar.remsi v4 c2_i32_12
  let v77 : BitVec 32 := Scalar.subi c1_i32_53 v21
  let c256_i32_54 : BitVec 32 := 256#32
  let v78 : BitVec 32 := Scalar.muli v77 c256_i32_54
  let v245 : BitVec 32 := Scalar.addi v49 v78
  let v246 : Index := Scalar.indexCast v245
  let c0_192 : Index := 0#32
  ![v246.toNat, 0]
def k0_dev13 (d0 : Dev nD) : Nat :=
  let c0_i32_203 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c4_i32_11 : BitVec 32 := 4#32
  let v18 : BitVec 32 := Scalar.muli v4 c4_i32_11
  let c3_i32 : BitVec 32 := 3#32
  let c4_i32 : BitVec 32 := 4#32
  let v3 : BitVec 32 := Scalar.remsi v2 c4_i32
  let v19 : BitVec 32 := Scalar.subi c3_i32 v3
  let v20 : BitVec 32 := Scalar.addi v18 v19
  let c1_i32_202 : BitVec 32 := 1#32
  let v263 : BitVec 32 := Scalar.muli v20 c1_i32_202
  let v264 : BitVec 32 := Scalar.addi c0_i32_203 v263
  v264.toNat
def k0_off10 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c2_i32_3 : BitVec 32 := 2#32
  let v9 : BitVec 1 := Scalar.cmpi .sge v3 c2_i32_3
  let c1_i32_4 : BitVec 32 := 1#32
  let c0_i32_5 : BitVec 32 := 0#32
  let v10 : BitVec 32 := Scalar.select v9 c1_i32_4 c0_i32_5
  let c1024_i32_56 : BitVec 32 := 1024#32
  let v80 : BitVec 32 := Scalar.muli v10 c1024_i32_56
  let c1_i32_60 : BitVec 32 := 1#32
  let c1_i32_1 : BitVec 32 := 1#32
  let v5 : BitVec 1 := Scalar.cmpi .eq v3 c1_i32_1
  let c2_i32 : BitVec 32 := 2#32
  let v6 : BitVec 1 := Scalar.cmpi .eq v3 c2_i32
  let v7 : BitVec 1 := Scalar.ori v5 v6
  let c1_i32_2 : BitVec 32 := 1#32
  let c0_i32 : BitVec 32 := 0#32
  let v8 : BitVec 32 := Scalar.select v7 c1_i32_2 c0_i32
  let v85 : BitVec 32 := Scalar.subi c1_i32_60 v8
  let c512_i32_61 : BitVec 32 := 512#32
  let v86 : BitVec 32 := Scalar.muli v85 c512_i32_61
  let v87 : BitVec 32 := Scalar.addi v80 v86
  let c1_i32_80 : BitVec 32 := 1#32
  let c4_i32_0 : BitVec 32 := 4#32
  let v4 : BitVec 32 := Scalar.divsi v2 c4_i32_0
  let c2_i32_13 : BitVec 32 := 2#32
  let v22 : BitVec 32 := Scalar.divsi v4 c2_i32_13
  let v115 : BitVec 32 := Scalar.subi c1_i32_80 v22
  let c256_i32_81 : BitVec 32 := 256#32
  let v116 : BitVec 32 := Scalar.muli v115 c256_i32_81
  let v278 : BitVec 32 := Scalar.addi v87 v116
  let v279 : Index := Scalar.indexCast v278
  let c256_218 : Index := 256#32
  ![v279.toNat, 256]
def k0_dev14 (d0 : Dev nD) : Nat :=
  let c0_i32_230 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c4_i32_6 : BitVec 32 := 4#32
  let v11 : BitVec 32 := Scalar.muli v4 c4_i32_6
  let c4_i32 : BitVec 32 := 4#32
  let v3 : BitVec 32 := Scalar.remsi v2 c4_i32
  let c2_i32_7 : BitVec 32 := 2#32
  let v12 : BitVec 32 := Scalar.remsi v3 c2_i32_7
  let c0_i32_8 : BitVec 32 := 0#32
  let v13 : BitVec 1 := Scalar.cmpi .eq v12 c0_i32_8
  let c1_i32_9 : BitVec 32 := 1#32
  let v14 : BitVec 32 := Scalar.addi v3 c1_i32_9
  let c1_i32_10 : BitVec 32 := 1#32
  let v15 : BitVec 32 := Scalar.subi v3 c1_i32_10
  let v16 : BitVec 32 := Scalar.select v13 v14 v15
  let v17 : BitVec 32 := Scalar.addi v11 v16
  let c1_i32_229 : BitVec 32 := 1#32
  let v296 : BitVec 32 := Scalar.muli v17 c1_i32_229
  let v297 : BitVec 32 := Scalar.addi c0_i32_230 v296
  v297.toNat
def k0_off11 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c1_i32_1 : BitVec 32 := 1#32
  let v5 : BitVec 1 := Scalar.cmpi .eq v3 c1_i32_1
  let c2_i32 : BitVec 32 := 2#32
  let v6 : BitVec 1 := Scalar.cmpi .eq v3 c2_i32
  let v7 : BitVec 1 := Scalar.ori v5 v6
  let c1_i32_2 : BitVec 32 := 1#32
  let c0_i32 : BitVec 32 := 0#32
  let v8 : BitVec 32 := Scalar.select v7 c1_i32_2 c0_i32
  let c1024_i32 : BitVec 32 := 1024#32
  let v42 : BitVec 32 := Scalar.muli v8 c1024_i32
  let c1_i32_35 : BitVec 32 := 1#32
  let c2_i32_3 : BitVec 32 := 2#32
  let v9 : BitVec 1 := Scalar.cmpi .sge v3 c2_i32_3
  let c1_i32_4 : BitVec 32 := 1#32
  let c0_i32_5 : BitVec 32 := 0#32
  let v10 : BitVec 32 := Scalar.select v9 c1_i32_4 c0_i32_5
  let v47 : BitVec 32 := Scalar.subi c1_i32_35 v10
  let c512_i32_36 : BitVec 32 := 512#32
  let v48 : BitVec 32 := Scalar.muli v47 c512_i32_36
  let v49 : BitVec 32 := Scalar.addi v42 v48
  let c4_i32_0 : BitVec 32 := 4#32
  let v4 : BitVec 32 := Scalar.divsi v2 c4_i32_0
  let c2_i32_12 : BitVec 32 := 2#32
  let v21 : BitVec 32 := Scalar.remsi v4 c2_i32_12
  let c256_i32_55 : BitVec 32 := 256#32
  let v79 : BitVec 32 := Scalar.muli v21 c256_i32_55
  let v311 : BitVec 32 := Scalar.addi v49 v79
  let v312 : Index := Scalar.indexCast v311
  let c0_245 : Index := 0#32
  ![v312.toNat, 0]
def k0_dev15 (d0 : Dev nD) : Nat :=
  let c0_i32_255 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c4_i32_11 : BitVec 32 := 4#32
  let v18 : BitVec 32 := Scalar.muli v4 c4_i32_11
  let c3_i32 : BitVec 32 := 3#32
  let c4_i32 : BitVec 32 := 4#32
  let v3 : BitVec 32 := Scalar.remsi v2 c4_i32
  let v19 : BitVec 32 := Scalar.subi c3_i32 v3
  let v20 : BitVec 32 := Scalar.addi v18 v19
  let c1_i32_254 : BitVec 32 := 1#32
  let v329 : BitVec 32 := Scalar.muli v20 c1_i32_254
  let v330 : BitVec 32 := Scalar.addi c0_i32_255 v329
  v330.toNat
def k0_off12 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c2_i32_3 : BitVec 32 := 2#32
  let v9 : BitVec 1 := Scalar.cmpi .sge v3 c2_i32_3
  let c1_i32_4 : BitVec 32 := 1#32
  let c0_i32_5 : BitVec 32 := 0#32
  let v10 : BitVec 32 := Scalar.select v9 c1_i32_4 c0_i32_5
  let c1024_i32_56 : BitVec 32 := 1024#32
  let v80 : BitVec 32 := Scalar.muli v10 c1024_i32_56
  let c1_i32_60 : BitVec 32 := 1#32
  let c1_i32_1 : BitVec 32 := 1#32
  let v5 : BitVec 1 := Scalar.cmpi .eq v3 c1_i32_1
  let c2_i32 : BitVec 32 := 2#32
  let v6 : BitVec 1 := Scalar.cmpi .eq v3 c2_i32
  let v7 : BitVec 1 := Scalar.ori v5 v6
  let c1_i32_2 : BitVec 32 := 1#32
  let c0_i32 : BitVec 32 := 0#32
  let v8 : BitVec 32 := Scalar.select v7 c1_i32_2 c0_i32
  let v85 : BitVec 32 := Scalar.subi c1_i32_60 v8
  let c512_i32_61 : BitVec 32 := 512#32
  let v86 : BitVec 32 := Scalar.muli v85 c512_i32_61
  let v87 : BitVec 32 := Scalar.addi v80 v86
  let c4_i32_0 : BitVec 32 := 4#32
  let v4 : BitVec 32 := Scalar.divsi v2 c4_i32_0
  let c2_i32_13 : BitVec 32 := 2#32
  let v22 : BitVec 32 := Scalar.divsi v4 c2_i32_13
  let c256_i32_82 : BitVec 32 := 256#32
  let v117 : BitVec 32 := Scalar.muli v22 c256_i32_82
  let v344 : BitVec 32 := Scalar.addi v87 v117
  let v345 : Index := Scalar.indexCast v344
  let c256_269 : Index := 256#32
  ![v345.toNat, 256]
def k0_dev16 (d0 : Dev nD) : Nat :=
  let c0_i32_281 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c4_i32_6 : BitVec 32 := 4#32
  let v11 : BitVec 32 := Scalar.muli v4 c4_i32_6
  let c4_i32 : BitVec 32 := 4#32
  let v3 : BitVec 32 := Scalar.remsi v2 c4_i32
  let c2_i32_7 : BitVec 32 := 2#32
  let v12 : BitVec 32 := Scalar.remsi v3 c2_i32_7
  let c0_i32_8 : BitVec 32 := 0#32
  let v13 : BitVec 1 := Scalar.cmpi .eq v12 c0_i32_8
  let c1_i32_9 : BitVec 32 := 1#32
  let v14 : BitVec 32 := Scalar.addi v3 c1_i32_9
  let c1_i32_10 : BitVec 32 := 1#32
  let v15 : BitVec 32 := Scalar.subi v3 c1_i32_10
  let v16 : BitVec 32 := Scalar.select v13 v14 v15
  let v17 : BitVec 32 := Scalar.addi v11 v16
  let c1_i32_280 : BitVec 32 := 1#32
  let v362 : BitVec 32 := Scalar.muli v17 c1_i32_280
  let v363 : BitVec 32 := Scalar.addi c0_i32_281 v362
  v363.toNat
def k0_off13 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c1_i32_1 : BitVec 32 := 1#32
  let v5 : BitVec 1 := Scalar.cmpi .eq v3 c1_i32_1
  let c2_i32 : BitVec 32 := 2#32
  let v6 : BitVec 1 := Scalar.cmpi .eq v3 c2_i32
  let v7 : BitVec 1 := Scalar.ori v5 v6
  let c1_i32_2 : BitVec 32 := 1#32
  let c0_i32 : BitVec 32 := 0#32
  let v8 : BitVec 32 := Scalar.select v7 c1_i32_2 c0_i32
  let c1024_i32 : BitVec 32 := 1024#32
  let v42 : BitVec 32 := Scalar.muli v8 c1024_i32
  let c2_i32_3 : BitVec 32 := 2#32
  let v9 : BitVec 1 := Scalar.cmpi .sge v3 c2_i32_3
  let c1_i32_4 : BitVec 32 := 1#32
  let c0_i32_5 : BitVec 32 := 0#32
  let v10 : BitVec 32 := Scalar.select v9 c1_i32_4 c0_i32_5
  let c512_i32 : BitVec 32 := 512#32
  let v45 : BitVec 32 := Scalar.muli v10 c512_i32
  let v46 : BitVec 32 := Scalar.addi v42 v45
  let c1_i32_42 : BitVec 32 := 1#32
  let c4_i32_0 : BitVec 32 := 4#32
  let v4 : BitVec 32 := Scalar.divsi v2 c4_i32_0
  let c2_i32_12 : BitVec 32 := 2#32
  let v21 : BitVec 32 := Scalar.remsi v4 c2_i32_12
  let v60 : BitVec 32 := Scalar.subi c1_i32_42 v21
  let c256_i32_43 : BitVec 32 := 256#32
  let v61 : BitVec 32 := Scalar.muli v60 c256_i32_43
  let v62 : BitVec 32 := Scalar.addi v46 v61
  let v376 : Index := Scalar.indexCast v62
  let c0_296 : Index := 0#32
  ![v376.toNat, 0]
def k0_dev17 (d0 : Dev nD) : Nat :=
  let c0_i32_320 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c1_i32_14 : BitVec 32 := 1#32
  let v23 : BitVec 32 := Scalar.addi v4 c1_i32_14
  let c2_i32_15 : BitVec 32 := 2#32
  let c2_i32_12 : BitVec 32 := 2#32
  let v21 : BitVec 32 := Scalar.remsi v4 c2_i32_12
  let v24 : BitVec 32 := Scalar.muli c2_i32_15 v21
  let v25 : BitVec 32 := Scalar.subi v23 v24
  let c4_i32_16 : BitVec 32 := 4#32
  let v26 : BitVec 32 := Scalar.muli v25 c4_i32_16
  let c4_i32 : BitVec 32 := 4#32
  let v3 : BitVec 32 := Scalar.remsi v2 c4_i32
  let v27 : BitVec 32 := Scalar.addi v26 v3
  let c1_i32_319 : BitVec 32 := 1#32
  let v405 : BitVec 32 := Scalar.muli v27 c1_i32_319
  let v406 : BitVec 32 := Scalar.addi c0_i32_320 v405
  v406.toNat
def k0_off14 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c2_i32_3 : BitVec 32 := 2#32
  let v9 : BitVec 1 := Scalar.cmpi .sge v3 c2_i32_3
  let c1_i32_4 : BitVec 32 := 1#32
  let c0_i32_5 : BitVec 32 := 0#32
  let v10 : BitVec 32 := Scalar.select v9 c1_i32_4 c0_i32_5
  let c1024_i32_56 : BitVec 32 := 1024#32
  let v80 : BitVec 32 := Scalar.muli v10 c1024_i32_56
  let c1_i32_1 : BitVec 32 := 1#32
  let v5 : BitVec 1 := Scalar.cmpi .eq v3 c1_i32_1
  let c2_i32 : BitVec 32 := 2#32
  let v6 : BitVec 1 := Scalar.cmpi .eq v3 c2_i32
  let v7 : BitVec 1 := Scalar.ori v5 v6
  let c1_i32_2 : BitVec 32 := 1#32
  let c0_i32 : BitVec 32 := 0#32
  let v8 : BitVec 32 := Scalar.select v7 c1_i32_2 c0_i32
  let c512_i32_59 : BitVec 32 := 512#32
  let v83 : BitVec 32 := Scalar.muli v8 c512_i32_59
  let v84 : BitVec 32 := Scalar.addi v80 v83
  let c1_i32_68 : BitVec 32 := 1#32
  let c4_i32_0 : BitVec 32 := 4#32
  let v4 : BitVec 32 := Scalar.divsi v2 c4_i32_0
  let c2_i32_13 : BitVec 32 := 2#32
  let v22 : BitVec 32 := Scalar.divsi v4 c2_i32_13
  let v98 : BitVec 32 := Scalar.subi c1_i32_68 v22
  let c256_i32_69 : BitVec 32 := 256#32
  let v99 : BitVec 32 := Scalar.muli v98 c256_i32_69
  let v100 : BitVec 32 := Scalar.addi v84 v99
  let v419 : Index := Scalar.indexCast v100
  let c256_334 : Index := 256#32
  ![v419.toNat, 256]
def k0_dev18 (d0 : Dev nD) : Nat :=
  let c0_i32_360 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c2_i32_17 : BitVec 32 := 2#32
  let v28 : BitVec 32 := Scalar.addi v4 c2_i32_17
  let c4_i32_18 : BitVec 32 := 4#32
  let c2_i32_13 : BitVec 32 := 2#32
  let v22 : BitVec 32 := Scalar.divsi v4 c2_i32_13
  let v29 : BitVec 32 := Scalar.muli c4_i32_18 v22
  let v30 : BitVec 32 := Scalar.subi v28 v29
  let c4_i32_19 : BitVec 32 := 4#32
  let v31 : BitVec 32 := Scalar.muli v30 c4_i32_19
  let c4_i32 : BitVec 32 := 4#32
  let v3 : BitVec 32 := Scalar.remsi v2 c4_i32
  let v32 : BitVec 32 := Scalar.addi v31 v3
  let c1_i32_359 : BitVec 32 := 1#32
  let v448 : BitVec 32 := Scalar.muli v32 c1_i32_359
  let v449 : BitVec 32 := Scalar.addi c0_i32_360 v448
  v449.toNat
def k0_off15 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c1_i32_1 : BitVec 32 := 1#32
  let v5 : BitVec 1 := Scalar.cmpi .eq v3 c1_i32_1
  let c2_i32 : BitVec 32 := 2#32
  let v6 : BitVec 1 := Scalar.cmpi .eq v3 c2_i32
  let v7 : BitVec 1 := Scalar.ori v5 v6
  let c1_i32_2 : BitVec 32 := 1#32
  let c0_i32 : BitVec 32 := 0#32
  let v8 : BitVec 32 := Scalar.select v7 c1_i32_2 c0_i32
  let c1024_i32 : BitVec 32 := 1024#32
  let v42 : BitVec 32 := Scalar.muli v8 c1024_i32
  let c2_i32_3 : BitVec 32 := 2#32
  let v9 : BitVec 1 := Scalar.cmpi .sge v3 c2_i32_3
  let c1_i32_4 : BitVec 32 := 1#32
  let c0_i32_5 : BitVec 32 := 0#32
  let v10 : BitVec 32 := Scalar.select v9 c1_i32_4 c0_i32_5
  let c512_i32 : BitVec 32 := 512#32
  let v45 : BitVec 32 := Scalar.muli v10 c512_i32
  let v46 : BitVec 32 := Scalar.addi v42 v45
  let c4_i32_0 : BitVec 32 := 4#32
  let v4 : BitVec 32 := Scalar.divsi v2 c4_i32_0
  let c2_i32_12 : BitVec 32 := 2#32
  let v21 : BitVec 32 := Scalar.remsi v4 c2_i32_12
  let c256_i32 : BitVec 32 := 256#32
  let v58 : BitVec 32 := Scalar.muli v21 c256_i32
  let v59 : BitVec 32 := Scalar.addi v46 v58
  let v462 : Index := Scalar.indexCast v59
  let c0_375 : Index := 0#32
  ![v462.toNat, 0]
def k0_off16 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c2_i32_3 : BitVec 32 := 2#32
  let v9 : BitVec 1 := Scalar.cmpi .sge v3 c2_i32_3
  let c1_i32_4 : BitVec 32 := 1#32
  let c0_i32_5 : BitVec 32 := 0#32
  let v10 : BitVec 32 := Scalar.select v9 c1_i32_4 c0_i32_5
  let c1024_i32_56 : BitVec 32 := 1024#32
  let v80 : BitVec 32 := Scalar.muli v10 c1024_i32_56
  let c1_i32_1 : BitVec 32 := 1#32
  let v5 : BitVec 1 := Scalar.cmpi .eq v3 c1_i32_1
  let c2_i32 : BitVec 32 := 2#32
  let v6 : BitVec 1 := Scalar.cmpi .eq v3 c2_i32
  let v7 : BitVec 1 := Scalar.ori v5 v6
  let c1_i32_2 : BitVec 32 := 1#32
  let c0_i32 : BitVec 32 := 0#32
  let v8 : BitVec 32 := Scalar.select v7 c1_i32_2 c0_i32
  let c512_i32_59 : BitVec 32 := 512#32
  let v83 : BitVec 32 := Scalar.muli v8 c512_i32_59
  let v84 : BitVec 32 := Scalar.addi v80 v83
  let c4_i32_0 : BitVec 32 := 4#32
  let v4 : BitVec 32 := Scalar.divsi v2 c4_i32_0
  let c2_i32_13 : BitVec 32 := 2#32
  let v22 : BitVec 32 := Scalar.divsi v4 c2_i32_13
  let c256_i32_67 : BitVec 32 := 256#32
  let v96 : BitVec 32 := Scalar.muli v22 c256_i32_67
  let v97 : BitVec 32 := Scalar.addi v84 v96
  let v491 : Index := Scalar.indexCast v97
  let c256_403 : Index := 256#32
  ![v491.toNat, 256]
def k0_off17 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c1_i32_1 : BitVec 32 := 1#32
  let v5 : BitVec 1 := Scalar.cmpi .eq v3 c1_i32_1
  let c2_i32 : BitVec 32 := 2#32
  let v6 : BitVec 1 := Scalar.cmpi .eq v3 c2_i32
  let v7 : BitVec 1 := Scalar.ori v5 v6
  let c1_i32_2 : BitVec 32 := 1#32
  let c0_i32 : BitVec 32 := 0#32
  let v8 : BitVec 32 := Scalar.select v7 c1_i32_2 c0_i32
  let c1024_i32 : BitVec 32 := 1024#32
  let v42 : BitVec 32 := Scalar.muli v8 c1024_i32
  let c2_i32_3 : BitVec 32 := 2#32
  let v9 : BitVec 1 := Scalar.cmpi .sge v3 c2_i32_3
  let c1_i32_4 : BitVec 32 := 1#32
  let c0_i32_5 : BitVec 32 := 0#32
  let v10 : BitVec 32 := Scalar.select v9 c1_i32_4 c0_i32_5
  let c512_i32 : BitVec 32 := 512#32
  let v45 : BitVec 32 := Scalar.muli v10 c512_i32
  let v46 : BitVec 32 := Scalar.addi v42 v45
  let c4_i32_0 : BitVec 32 := 4#32
  let v4 : BitVec 32 := Scalar.divsi v2 c4_i32_0
  let c2_i32_12 : BitVec 32 := 2#32
  let v21 : BitVec 32 := Scalar.remsi v4 c2_i32_12
  let c256_i32 : BitVec 32 := 256#32
  let v58 : BitVec 32 := Scalar.muli v21 c256_i32
  let v59 : BitVec 32 := Scalar.addi v46 v58
  let c1_i32_44 : BitVec 32 := 1#32
  let c2_i32_13 : BitVec 32 := 2#32
  let v22 : BitVec 32 := Scalar.divsi v4 c2_i32_13
  let v65 : BitVec 32 := Scalar.subi c1_i32_44 v22
  let c128_i32_45 : BitVec 32 := 128#32
  let v66 : BitVec 32 := Scalar.muli v65 c128_i32_45
  let v67 : BitVec 32 := Scalar.addi v59 v66
  let v527 : Index := Scalar.indexCast v67
  let c0_435 : Index := 0#32
  ![v527.toNat, 0]
def k0_dev19 (d0 : Dev nD) : Nat :=
  let c0_i32_441 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c2_i32_17 : BitVec 32 := 2#32
  let v28 : BitVec 32 := Scalar.addi v4 c2_i32_17
  let c4_i32_18 : BitVec 32 := 4#32
  let c2_i32_13 : BitVec 32 := 2#32
  let v22 : BitVec 32 := Scalar.divsi v4 c2_i32_13
  let v29 : BitVec 32 := Scalar.muli c4_i32_18 v22
  let v30 : BitVec 32 := Scalar.subi v28 v29
  let c4_i32_19 : BitVec 32 := 4#32
  let v31 : BitVec 32 := Scalar.muli v30 c4_i32_19
  let c4_i32 : BitVec 32 := 4#32
  let v3 : BitVec 32 := Scalar.remsi v2 c4_i32
  let v32 : BitVec 32 := Scalar.addi v31 v3
  let c1_i32_440 : BitVec 32 := 1#32
  let v533 : BitVec 32 := Scalar.muli v32 c1_i32_440
  let v534 : BitVec 32 := Scalar.addi c0_i32_441 v533
  v534.toNat
def k0_off18 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c2_i32_3 : BitVec 32 := 2#32
  let v9 : BitVec 1 := Scalar.cmpi .sge v3 c2_i32_3
  let c1_i32_4 : BitVec 32 := 1#32
  let c0_i32_5 : BitVec 32 := 0#32
  let v10 : BitVec 32 := Scalar.select v9 c1_i32_4 c0_i32_5
  let c1024_i32_56 : BitVec 32 := 1024#32
  let v80 : BitVec 32 := Scalar.muli v10 c1024_i32_56
  let c1_i32_1 : BitVec 32 := 1#32
  let v5 : BitVec 1 := Scalar.cmpi .eq v3 c1_i32_1
  let c2_i32 : BitVec 32 := 2#32
  let v6 : BitVec 1 := Scalar.cmpi .eq v3 c2_i32
  let v7 : BitVec 1 := Scalar.ori v5 v6
  let c1_i32_2 : BitVec 32 := 1#32
  let c0_i32 : BitVec 32 := 0#32
  let v8 : BitVec 32 := Scalar.select v7 c1_i32_2 c0_i32
  let c512_i32_59 : BitVec 32 := 512#32
  let v83 : BitVec 32 := Scalar.muli v8 c512_i32_59
  let v84 : BitVec 32 := Scalar.addi v80 v83
  let c4_i32_0 : BitVec 32 := 4#32
  let v4 : BitVec 32 := Scalar.divsi v2 c4_i32_0
  let c2_i32_13 : BitVec 32 := 2#32
  let v22 : BitVec 32 := Scalar.divsi v4 c2_i32_13
  let c256_i32_67 : BitVec 32 := 256#32
  let v96 : BitVec 32 := Scalar.muli v22 c256_i32_67
  let v97 : BitVec 32 := Scalar.addi v84 v96
  let c1_i32_71 : BitVec 32 := 1#32
  let c2_i32_12 : BitVec 32 := 2#32
  let v21 : BitVec 32 := Scalar.remsi v4 c2_i32_12
  let v103 : BitVec 32 := Scalar.subi c1_i32_71 v21
  let c128_i32_72 : BitVec 32 := 128#32
  let v104 : BitVec 32 := Scalar.muli v103 c128_i32_72
  let v105 : BitVec 32 := Scalar.addi v97 v104
  let v554 : Index := Scalar.indexCast v105
  let c256_459 : Index := 256#32
  ![v554.toNat, 256]
def k0_dev20 (d0 : Dev nD) : Nat :=
  let c0_i32_467 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c1_i32_14 : BitVec 32 := 1#32
  let v23 : BitVec 32 := Scalar.addi v4 c1_i32_14
  let c2_i32_15 : BitVec 32 := 2#32
  let c2_i32_12 : BitVec 32 := 2#32
  let v21 : BitVec 32 := Scalar.remsi v4 c2_i32_12
  let v24 : BitVec 32 := Scalar.muli c2_i32_15 v21
  let v25 : BitVec 32 := Scalar.subi v23 v24
  let c4_i32_16 : BitVec 32 := 4#32
  let v26 : BitVec 32 := Scalar.muli v25 c4_i32_16
  let c4_i32 : BitVec 32 := 4#32
  let v3 : BitVec 32 := Scalar.remsi v2 c4_i32
  let v27 : BitVec 32 := Scalar.addi v26 v3
  let c1_i32_466 : BitVec 32 := 1#32
  let v560 : BitVec 32 := Scalar.muli v27 c1_i32_466
  let v561 : BitVec 32 := Scalar.addi c0_i32_467 v560
  v561.toNat
def k0_off19 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c1_i32_1 : BitVec 32 := 1#32
  let v5 : BitVec 1 := Scalar.cmpi .eq v3 c1_i32_1
  let c2_i32 : BitVec 32 := 2#32
  let v6 : BitVec 1 := Scalar.cmpi .eq v3 c2_i32
  let v7 : BitVec 1 := Scalar.ori v5 v6
  let c1_i32_2 : BitVec 32 := 1#32
  let c0_i32 : BitVec 32 := 0#32
  let v8 : BitVec 32 := Scalar.select v7 c1_i32_2 c0_i32
  let c1024_i32 : BitVec 32 := 1024#32
  let v42 : BitVec 32 := Scalar.muli v8 c1024_i32
  let c2_i32_3 : BitVec 32 := 2#32
  let v9 : BitVec 1 := Scalar.cmpi .sge v3 c2_i32_3
  let c1_i32_4 : BitVec 32 := 1#32
  let c0_i32_5 : BitVec 32 := 0#32
  let v10 : BitVec 32 := Scalar.select v9 c1_i32_4 c0_i32_5
  let c512_i32 : BitVec 32 := 512#32
  let v45 : BitVec 32 := Scalar.muli v10 c512_i32
  let v46 : BitVec 32 := Scalar.addi v42 v45
  let c4_i32_0 : BitVec 32 := 4#32
  let v4 : BitVec 32 := Scalar.divsi v2 c4_i32_0
  let c2_i32_12 : BitVec 32 := 2#32
  let v21 : BitVec 32 := Scalar.remsi v4 c2_i32_12
  let c256_i32 : BitVec 32 := 256#32
  let v58 : BitVec 32 := Scalar.muli v21 c256_i32
  let v59 : BitVec 32 := Scalar.addi v46 v58
  let c2_i32_13 : BitVec 32 := 2#32
  let v22 : BitVec 32 := Scalar.divsi v4 c2_i32_13
  let c128_i32 : BitVec 32 := 128#32
  let v63 : BitVec 32 := Scalar.muli v22 c128_i32
  let v64 : BitVec 32 := Scalar.addi v59 v63
  let v574 : Index := Scalar.indexCast v64
  let c0_482 : Index := 0#32
  ![v574.toNat, 0]
def k0_off20 (d0 : Dev nD) : Fin 2 → Nat :=
  let c2048_i32 : BitVec 32 := 2048#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c2_i32_13 : BitVec 32 := 2#32
  let v22 : BitVec 32 := Scalar.divsi v4 c2_i32_13
  let c128_i32_487 : BitVec 32 := 128#32
  let v584 : BitVec 32 := Scalar.muli v22 c128_i32_487
  let v585 : BitVec 32 := Scalar.addi c2048_i32 v584
  let v586 : Index := Scalar.indexCast v585
  let c0_488 : Index := 0#32
  ![v586.toNat, 0]
def k0_dev21 (d0 : Dev nD) : Nat :=
  let c0_i32_495 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c2_i32_17 : BitVec 32 := 2#32
  let v28 : BitVec 32 := Scalar.addi v4 c2_i32_17
  let c4_i32_18 : BitVec 32 := 4#32
  let c2_i32_13 : BitVec 32 := 2#32
  let v22 : BitVec 32 := Scalar.divsi v4 c2_i32_13
  let v29 : BitVec 32 := Scalar.muli c4_i32_18 v22
  let v30 : BitVec 32 := Scalar.subi v28 v29
  let c4_i32_19 : BitVec 32 := 4#32
  let v31 : BitVec 32 := Scalar.muli v30 c4_i32_19
  let c4_i32 : BitVec 32 := 4#32
  let v3 : BitVec 32 := Scalar.remsi v2 c4_i32
  let v32 : BitVec 32 := Scalar.addi v31 v3
  let c1_i32_494 : BitVec 32 := 1#32
  let v596 : BitVec 32 := Scalar.muli v32 c1_i32_494
  let v597 : BitVec 32 := Scalar.addi c0_i32_495 v596
  v597.toNat
def k0_dev22 (d0 : Dev nD) : Nat :=
  let c0_i32_503 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c4_i32_11 : BitVec 32 := 4#32
  let v18 : BitVec 32 := Scalar.muli v4 c4_i32_11
  let c3_i32 : BitVec 32 := 3#32
  let c4_i32 : BitVec 32 := 4#32
  let v3 : BitVec 32 := Scalar.remsi v2 c4_i32
  let v19 : BitVec 32 := Scalar.subi c3_i32 v3
  let v20 : BitVec 32 := Scalar.addi v18 v19
  let c1_i32_502 : BitVec 32 := 1#32
  let v604 : BitVec 32 := Scalar.muli v20 c1_i32_502
  let v605 : BitVec 32 := Scalar.addi c0_i32_503 v604
  v605.toNat
def k0_dev23 (d0 : Dev nD) : Nat :=
  let c0_i32_511 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c4_i32_6 : BitVec 32 := 4#32
  let v11 : BitVec 32 := Scalar.muli v4 c4_i32_6
  let c4_i32 : BitVec 32 := 4#32
  let v3 : BitVec 32 := Scalar.remsi v2 c4_i32
  let c2_i32_7 : BitVec 32 := 2#32
  let v12 : BitVec 32 := Scalar.remsi v3 c2_i32_7
  let c0_i32_8 : BitVec 32 := 0#32
  let v13 : BitVec 1 := Scalar.cmpi .eq v12 c0_i32_8
  let c1_i32_9 : BitVec 32 := 1#32
  let v14 : BitVec 32 := Scalar.addi v3 c1_i32_9
  let c1_i32_10 : BitVec 32 := 1#32
  let v15 : BitVec 32 := Scalar.subi v3 c1_i32_10
  let v16 : BitVec 32 := Scalar.select v13 v14 v15
  let v17 : BitVec 32 := Scalar.addi v11 v16
  let c1_i32_510 : BitVec 32 := 1#32
  let v612 : BitVec 32 := Scalar.muli v17 c1_i32_510
  let v613 : BitVec 32 := Scalar.addi c0_i32_511 v612
  v613.toNat
def k0_off21 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c2_i32_3 : BitVec 32 := 2#32
  let v9 : BitVec 1 := Scalar.cmpi .sge v3 c2_i32_3
  let c1_i32_4 : BitVec 32 := 1#32
  let c0_i32_5 : BitVec 32 := 0#32
  let v10 : BitVec 32 := Scalar.select v9 c1_i32_4 c0_i32_5
  let c1024_i32_56 : BitVec 32 := 1024#32
  let v80 : BitVec 32 := Scalar.muli v10 c1024_i32_56
  let c1_i32_1 : BitVec 32 := 1#32
  let v5 : BitVec 1 := Scalar.cmpi .eq v3 c1_i32_1
  let c2_i32 : BitVec 32 := 2#32
  let v6 : BitVec 1 := Scalar.cmpi .eq v3 c2_i32
  let v7 : BitVec 1 := Scalar.ori v5 v6
  let c1_i32_2 : BitVec 32 := 1#32
  let c0_i32 : BitVec 32 := 0#32
  let v8 : BitVec 32 := Scalar.select v7 c1_i32_2 c0_i32
  let c512_i32_59 : BitVec 32 := 512#32
  let v83 : BitVec 32 := Scalar.muli v8 c512_i32_59
  let v84 : BitVec 32 := Scalar.addi v80 v83
  let c4_i32_0 : BitVec 32 := 4#32
  let v4 : BitVec 32 := Scalar.divsi v2 c4_i32_0
  let c2_i32_13 : BitVec 32 := 2#32
  let v22 : BitVec 32 := Scalar.divsi v4 c2_i32_13
  let c256_i32_67 : BitVec 32 := 256#32
  let v96 : BitVec 32 := Scalar.muli v22 c256_i32_67
  let v97 : BitVec 32 := Scalar.addi v84 v96
  let c2_i32_12 : BitVec 32 := 2#32
  let v21 : BitVec 32 := Scalar.remsi v4 c2_i32_12
  let c128_i32_70 : BitVec 32 := 128#32
  let v101 : BitVec 32 := Scalar.muli v21 c128_i32_70
  let v102 : BitVec 32 := Scalar.addi v97 v101
  let v626 : Index := Scalar.indexCast v102
  let c256_525 : Index := 256#32
  ![v626.toNat, 256]
def k0_off22 (d0 : Dev nD) : Fin 2 → Nat :=
  let c2048_i32_532 : BitVec 32 := 2048#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c2_i32_12 : BitVec 32 := 2#32
  let v21 : BitVec 32 := Scalar.remsi v4 c2_i32_12
  let c128_i32_531 : BitVec 32 := 128#32
  let v636 : BitVec 32 := Scalar.muli v21 c128_i32_531
  let v637 : BitVec 32 := Scalar.addi c2048_i32_532 v636
  let v638 : Index := Scalar.indexCast v637
  let c0_533 : Index := 0#32
  ![v638.toNat, 0]
def k0_dev24 (d0 : Dev nD) : Nat :=
  let c0_i32_543 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c1_i32_14 : BitVec 32 := 1#32
  let v23 : BitVec 32 := Scalar.addi v4 c1_i32_14
  let c2_i32_15 : BitVec 32 := 2#32
  let c2_i32_12 : BitVec 32 := 2#32
  let v21 : BitVec 32 := Scalar.remsi v4 c2_i32_12
  let v24 : BitVec 32 := Scalar.muli c2_i32_15 v21
  let v25 : BitVec 32 := Scalar.subi v23 v24
  let c4_i32_16 : BitVec 32 := 4#32
  let v26 : BitVec 32 := Scalar.muli v25 c4_i32_16
  let c4_i32 : BitVec 32 := 4#32
  let v3 : BitVec 32 := Scalar.remsi v2 c4_i32
  let v27 : BitVec 32 := Scalar.addi v26 v3
  let c1_i32_542 : BitVec 32 := 1#32
  let v648 : BitVec 32 := Scalar.muli v27 c1_i32_542
  let v649 : BitVec 32 := Scalar.addi c0_i32_543 v648
  v649.toNat
def k0_dev25 (d0 : Dev nD) : Nat :=
  let c0_i32_553 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c4_i32_6 : BitVec 32 := 4#32
  let v11 : BitVec 32 := Scalar.muli v4 c4_i32_6
  let c4_i32 : BitVec 32 := 4#32
  let v3 : BitVec 32 := Scalar.remsi v2 c4_i32
  let c2_i32_7 : BitVec 32 := 2#32
  let v12 : BitVec 32 := Scalar.remsi v3 c2_i32_7
  let c0_i32_8 : BitVec 32 := 0#32
  let v13 : BitVec 1 := Scalar.cmpi .eq v12 c0_i32_8
  let c1_i32_9 : BitVec 32 := 1#32
  let v14 : BitVec 32 := Scalar.addi v3 c1_i32_9
  let c1_i32_10 : BitVec 32 := 1#32
  let v15 : BitVec 32 := Scalar.subi v3 c1_i32_10
  let v16 : BitVec 32 := Scalar.select v13 v14 v15
  let v17 : BitVec 32 := Scalar.addi v11 v16
  let c1_i32_552 : BitVec 32 := 1#32
  let v656 : BitVec 32 := Scalar.muli v17 c1_i32_552
  let v657 : BitVec 32 := Scalar.addi c0_i32_553 v656
  v657.toNat
def k0_dev26 (d0 : Dev nD) : Nat :=
  let c0_i32_563 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c4_i32_11 : BitVec 32 := 4#32
  let v18 : BitVec 32 := Scalar.muli v4 c4_i32_11
  let c3_i32 : BitVec 32 := 3#32
  let c4_i32 : BitVec 32 := 4#32
  let v3 : BitVec 32 := Scalar.remsi v2 c4_i32
  let v19 : BitVec 32 := Scalar.subi c3_i32 v3
  let v20 : BitVec 32 := Scalar.addi v18 v19
  let c1_i32_562 : BitVec 32 := 1#32
  let v664 : BitVec 32 := Scalar.muli v20 c1_i32_562
  let v665 : BitVec 32 := Scalar.addi c0_i32_563 v664
  v665.toNat
def k0_off23 (d0 : Dev nD) : Fin 2 → Nat :=
  let c2048_i32_583 : BitVec 32 := 2048#32
  let c1_i32_581 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c2_i32_13 : BitVec 32 := 2#32
  let v22 : BitVec 32 := Scalar.divsi v4 c2_i32_13
  let v681 : BitVec 32 := Scalar.subi c1_i32_581 v22
  let c128_i32_582 : BitVec 32 := 128#32
  let v682 : BitVec 32 := Scalar.muli v681 c128_i32_582
  let v683 : BitVec 32 := Scalar.addi c2048_i32_583 v682
  let v684 : Index := Scalar.indexCast v683
  let c0_584 : Index := 0#32
  ![v684.toNat, 0]
def k0_dev27 (d0 : Dev nD) : Nat :=
  let c0_i32_591 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c1_i32_14 : BitVec 32 := 1#32
  let v23 : BitVec 32 := Scalar.addi v4 c1_i32_14
  let c2_i32_15 : BitVec 32 := 2#32
  let c2_i32_12 : BitVec 32 := 2#32
  let v21 : BitVec 32 := Scalar.remsi v4 c2_i32_12
  let v24 : BitVec 32 := Scalar.muli c2_i32_15 v21
  let v25 : BitVec 32 := Scalar.subi v23 v24
  let c4_i32_16 : BitVec 32 := 4#32
  let v26 : BitVec 32 := Scalar.muli v25 c4_i32_16
  let c4_i32 : BitVec 32 := 4#32
  let v3 : BitVec 32 := Scalar.remsi v2 c4_i32
  let v27 : BitVec 32 := Scalar.addi v26 v3
  let c1_i32_590 : BitVec 32 := 1#32
  let v694 : BitVec 32 := Scalar.muli v27 c1_i32_590
  let v695 : BitVec 32 := Scalar.addi c0_i32_591 v694
  v695.toNat
def k0_dev28 (d0 : Dev nD) : Nat :=
  let c0_i32_600 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c4_i32_11 : BitVec 32 := 4#32
  let v18 : BitVec 32 := Scalar.muli v4 c4_i32_11
  let c3_i32 : BitVec 32 := 3#32
  let c4_i32 : BitVec 32 := 4#32
  let v3 : BitVec 32 := Scalar.remsi v2 c4_i32
  let v19 : BitVec 32 := Scalar.subi c3_i32 v3
  let v20 : BitVec 32 := Scalar.addi v18 v19
  let c1_i32_599 : BitVec 32 := 1#32
  let v702 : BitVec 32 := Scalar.muli v20 c1_i32_599
  let v703 : BitVec 32 := Scalar.addi c0_i32_600 v702
  v703.toNat
def k0_dev29 (d0 : Dev nD) : Nat :=
  let c0_i32_608 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c4_i32_6 : BitVec 32 := 4#32
  let v11 : BitVec 32 := Scalar.muli v4 c4_i32_6
  let c4_i32 : BitVec 32 := 4#32
  let v3 : BitVec 32 := Scalar.remsi v2 c4_i32
  let c2_i32_7 : BitVec 32 := 2#32
  let v12 : BitVec 32 := Scalar.remsi v3 c2_i32_7
  let c0_i32_8 : BitVec 32 := 0#32
  let v13 : BitVec 1 := Scalar.cmpi .eq v12 c0_i32_8
  let c1_i32_9 : BitVec 32 := 1#32
  let v14 : BitVec 32 := Scalar.addi v3 c1_i32_9
  let c1_i32_10 : BitVec 32 := 1#32
  let v15 : BitVec 32 := Scalar.subi v3 c1_i32_10
  let v16 : BitVec 32 := Scalar.select v13 v14 v15
  let v17 : BitVec 32 := Scalar.addi v11 v16
  let c1_i32_607 : BitVec 32 := 1#32
  let v710 : BitVec 32 := Scalar.muli v17 c1_i32_607
  let v711 : BitVec 32 := Scalar.addi c0_i32_608 v710
  v711.toNat
def k0_off24 (d0 : Dev nD) : Fin 2 → Nat :=
  let c2048_i32_627 : BitVec 32 := 2048#32
  let c1_i32_625 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c2_i32_12 : BitVec 32 := 2#32
  let v21 : BitVec 32 := Scalar.remsi v4 c2_i32_12
  let v727 : BitVec 32 := Scalar.subi c1_i32_625 v21
  let c128_i32_626 : BitVec 32 := 128#32
  let v728 : BitVec 32 := Scalar.muli v727 c128_i32_626
  let v729 : BitVec 32 := Scalar.addi c2048_i32_627 v728
  let v730 : Index := Scalar.indexCast v729
  let c0_628 : Index := 0#32
  ![v730.toNat, 0]
def k0_dev30 (d0 : Dev nD) : Nat :=
  let c0_i32_638 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c2_i32_17 : BitVec 32 := 2#32
  let v28 : BitVec 32 := Scalar.addi v4 c2_i32_17
  let c4_i32_18 : BitVec 32 := 4#32
  let c2_i32_13 : BitVec 32 := 2#32
  let v22 : BitVec 32 := Scalar.divsi v4 c2_i32_13
  let v29 : BitVec 32 := Scalar.muli c4_i32_18 v22
  let v30 : BitVec 32 := Scalar.subi v28 v29
  let c4_i32_19 : BitVec 32 := 4#32
  let v31 : BitVec 32 := Scalar.muli v30 c4_i32_19
  let c4_i32 : BitVec 32 := 4#32
  let v3 : BitVec 32 := Scalar.remsi v2 c4_i32
  let v32 : BitVec 32 := Scalar.addi v31 v3
  let c1_i32_637 : BitVec 32 := 1#32
  let v740 : BitVec 32 := Scalar.muli v32 c1_i32_637
  let v741 : BitVec 32 := Scalar.addi c0_i32_638 v740
  v741.toNat
def k0_dev31 (d0 : Dev nD) : Nat :=
  let c0_i32_648 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c4_i32_6 : BitVec 32 := 4#32
  let v11 : BitVec 32 := Scalar.muli v4 c4_i32_6
  let c4_i32 : BitVec 32 := 4#32
  let v3 : BitVec 32 := Scalar.remsi v2 c4_i32
  let c2_i32_7 : BitVec 32 := 2#32
  let v12 : BitVec 32 := Scalar.remsi v3 c2_i32_7
  let c0_i32_8 : BitVec 32 := 0#32
  let v13 : BitVec 1 := Scalar.cmpi .eq v12 c0_i32_8
  let c1_i32_9 : BitVec 32 := 1#32
  let v14 : BitVec 32 := Scalar.addi v3 c1_i32_9
  let c1_i32_10 : BitVec 32 := 1#32
  let v15 : BitVec 32 := Scalar.subi v3 c1_i32_10
  let v16 : BitVec 32 := Scalar.select v13 v14 v15
  let v17 : BitVec 32 := Scalar.addi v11 v16
  let c1_i32_647 : BitVec 32 := 1#32
  let v748 : BitVec 32 := Scalar.muli v17 c1_i32_647
  let v749 : BitVec 32 := Scalar.addi c0_i32_648 v748
  v749.toNat
def k0_dev32 (d0 : Dev nD) : Nat :=
  let c0_i32_658 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c4_i32_11 : BitVec 32 := 4#32
  let v18 : BitVec 32 := Scalar.muli v4 c4_i32_11
  let c3_i32 : BitVec 32 := 3#32
  let c4_i32 : BitVec 32 := 4#32
  let v3 : BitVec 32 := Scalar.remsi v2 c4_i32
  let v19 : BitVec 32 := Scalar.subi c3_i32 v3
  let v20 : BitVec 32 := Scalar.addi v18 v19
  let c1_i32_657 : BitVec 32 := 1#32
  let v756 : BitVec 32 := Scalar.muli v20 c1_i32_657
  let v757 : BitVec 32 := Scalar.addi c0_i32_658 v756
  v757.toNat
def k0_dev33 (d0 : Dev nD) : Nat :=
  let c0_i32_681 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c4_i32_11 : BitVec 32 := 4#32
  let v18 : BitVec 32 := Scalar.muli v4 c4_i32_11
  let c3_i32 : BitVec 32 := 3#32
  let c4_i32 : BitVec 32 := 4#32
  let v3 : BitVec 32 := Scalar.remsi v2 c4_i32
  let v19 : BitVec 32 := Scalar.subi c3_i32 v3
  let v20 : BitVec 32 := Scalar.addi v18 v19
  let c1_i32_680 : BitVec 32 := 1#32
  let v779 : BitVec 32 := Scalar.muli v20 c1_i32_680
  let v780 : BitVec 32 := Scalar.addi c0_i32_681 v779
  v780.toNat
def k0_dev34 (d0 : Dev nD) : Nat :=
  let c0_i32_689 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c4_i32_6 : BitVec 32 := 4#32
  let v11 : BitVec 32 := Scalar.muli v4 c4_i32_6
  let c4_i32 : BitVec 32 := 4#32
  let v3 : BitVec 32 := Scalar.remsi v2 c4_i32
  let c2_i32_7 : BitVec 32 := 2#32
  let v12 : BitVec 32 := Scalar.remsi v3 c2_i32_7
  let c0_i32_8 : BitVec 32 := 0#32
  let v13 : BitVec 1 := Scalar.cmpi .eq v12 c0_i32_8
  let c1_i32_9 : BitVec 32 := 1#32
  let v14 : BitVec 32 := Scalar.addi v3 c1_i32_9
  let c1_i32_10 : BitVec 32 := 1#32
  let v15 : BitVec 32 := Scalar.subi v3 c1_i32_10
  let v16 : BitVec 32 := Scalar.select v13 v14 v15
  let v17 : BitVec 32 := Scalar.addi v11 v16
  let c1_i32_688 : BitVec 32 := 1#32
  let v787 : BitVec 32 := Scalar.muli v17 c1_i32_688
  let v788 : BitVec 32 := Scalar.addi c0_i32_689 v787
  v788.toNat
def k0_dev35 (d0 : Dev nD) : Nat :=
  let c0_i32_715 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c4_i32_6 : BitVec 32 := 4#32
  let v11 : BitVec 32 := Scalar.muli v4 c4_i32_6
  let c4_i32 : BitVec 32 := 4#32
  let v3 : BitVec 32 := Scalar.remsi v2 c4_i32
  let c2_i32_7 : BitVec 32 := 2#32
  let v12 : BitVec 32 := Scalar.remsi v3 c2_i32_7
  let c0_i32_8 : BitVec 32 := 0#32
  let v13 : BitVec 1 := Scalar.cmpi .eq v12 c0_i32_8
  let c1_i32_9 : BitVec 32 := 1#32
  let v14 : BitVec 32 := Scalar.addi v3 c1_i32_9
  let c1_i32_10 : BitVec 32 := 1#32
  let v15 : BitVec 32 := Scalar.subi v3 c1_i32_10
  let v16 : BitVec 32 := Scalar.select v13 v14 v15
  let v17 : BitVec 32 := Scalar.addi v11 v16
  let c1_i32_714 : BitVec 32 := 1#32
  let v810 : BitVec 32 := Scalar.muli v17 c1_i32_714
  let v811 : BitVec 32 := Scalar.addi c0_i32_715 v810
  v811.toNat
def k0_dev36 (d0 : Dev nD) : Nat :=
  let c0_i32_725 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c4_i32_11 : BitVec 32 := 4#32
  let v18 : BitVec 32 := Scalar.muli v4 c4_i32_11
  let c3_i32 : BitVec 32 := 3#32
  let c4_i32 : BitVec 32 := 4#32
  let v3 : BitVec 32 := Scalar.remsi v2 c4_i32
  let v19 : BitVec 32 := Scalar.subi c3_i32 v3
  let v20 : BitVec 32 := Scalar.addi v18 v19
  let c1_i32_724 : BitVec 32 := 1#32
  let v818 : BitVec 32 := Scalar.muli v20 c1_i32_724
  let v819 : BitVec 32 := Scalar.addi c0_i32_725 v818
  v819.toNat
def k0_dev37 (d0 : Dev nD) : Nat :=
  let c0_i32_745 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c4_i32_6 : BitVec 32 := 4#32
  let v11 : BitVec 32 := Scalar.muli v4 c4_i32_6
  let c4_i32 : BitVec 32 := 4#32
  let v3 : BitVec 32 := Scalar.remsi v2 c4_i32
  let c2_i32_7 : BitVec 32 := 2#32
  let v12 : BitVec 32 := Scalar.remsi v3 c2_i32_7
  let c0_i32_8 : BitVec 32 := 0#32
  let v13 : BitVec 1 := Scalar.cmpi .eq v12 c0_i32_8
  let c1_i32_9 : BitVec 32 := 1#32
  let v14 : BitVec 32 := Scalar.addi v3 c1_i32_9
  let c1_i32_10 : BitVec 32 := 1#32
  let v15 : BitVec 32 := Scalar.subi v3 c1_i32_10
  let v16 : BitVec 32 := Scalar.select v13 v14 v15
  let v17 : BitVec 32 := Scalar.addi v11 v16
  let c1_i32_744 : BitVec 32 := 1#32
  let v832 : BitVec 32 := Scalar.muli v17 c1_i32_744
  let v833 : BitVec 32 := Scalar.addi c0_i32_745 v832
  v833.toNat
def k0_off25 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c1_i32_1 : BitVec 32 := 1#32
  let v5 : BitVec 1 := Scalar.cmpi .eq v3 c1_i32_1
  let c2_i32 : BitVec 32 := 2#32
  let v6 : BitVec 1 := Scalar.cmpi .eq v3 c2_i32
  let v7 : BitVec 1 := Scalar.ori v5 v6
  let c1_i32_2 : BitVec 32 := 1#32
  let c0_i32 : BitVec 32 := 0#32
  let v8 : BitVec 32 := Scalar.select v7 c1_i32_2 c0_i32
  let c1024_i32 : BitVec 32 := 1024#32
  let v42 : BitVec 32 := Scalar.muli v8 c1024_i32
  let c1_i32_35 : BitVec 32 := 1#32
  let c2_i32_3 : BitVec 32 := 2#32
  let v9 : BitVec 1 := Scalar.cmpi .sge v3 c2_i32_3
  let c1_i32_4 : BitVec 32 := 1#32
  let c0_i32_5 : BitVec 32 := 0#32
  let v10 : BitVec 32 := Scalar.select v9 c1_i32_4 c0_i32_5
  let v47 : BitVec 32 := Scalar.subi c1_i32_35 v10
  let c512_i32_36 : BitVec 32 := 512#32
  let v48 : BitVec 32 := Scalar.muli v47 c512_i32_36
  let v49 : BitVec 32 := Scalar.addi v42 v48
  let c4_i32_0 : BitVec 32 := 4#32
  let v4 : BitVec 32 := Scalar.divsi v2 c4_i32_0
  let c2_i32_12 : BitVec 32 := 2#32
  let v21 : BitVec 32 := Scalar.remsi v4 c2_i32_12
  let c256_i32_46 : BitVec 32 := 256#32
  let v68 : BitVec 32 := Scalar.muli v21 c256_i32_46
  let c2_i32_13 : BitVec 32 := 2#32
  let v22 : BitVec 32 := Scalar.divsi v4 c2_i32_13
  let c128_i32_47 : BitVec 32 := 128#32
  let v69 : BitVec 32 := Scalar.muli v22 c128_i32_47
  let v70 : BitVec 32 := Scalar.addi v68 v69
  let v840 : BitVec 32 := Scalar.addi v49 v70
  let v842 : Index := Scalar.indexCast v840
  let c0_751 : Index := 0#32
  ![v842.toNat, 0]
def k0_dev38 (d0 : Dev nD) : Nat :=
  let c0_i32_767 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c4_i32_11 : BitVec 32 := 4#32
  let v18 : BitVec 32 := Scalar.muli v4 c4_i32_11
  let c3_i32 : BitVec 32 := 3#32
  let c4_i32 : BitVec 32 := 4#32
  let v3 : BitVec 32 := Scalar.remsi v2 c4_i32
  let v19 : BitVec 32 := Scalar.subi c3_i32 v3
  let v20 : BitVec 32 := Scalar.addi v18 v19
  let c1_i32_766 : BitVec 32 := 1#32
  let v850 : BitVec 32 := Scalar.muli v20 c1_i32_766
  let v851 : BitVec 32 := Scalar.addi c0_i32_767 v850
  v851.toNat
def k0_off26 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c2_i32_3 : BitVec 32 := 2#32
  let v9 : BitVec 1 := Scalar.cmpi .sge v3 c2_i32_3
  let c1_i32_4 : BitVec 32 := 1#32
  let c0_i32_5 : BitVec 32 := 0#32
  let v10 : BitVec 32 := Scalar.select v9 c1_i32_4 c0_i32_5
  let c1024_i32_56 : BitVec 32 := 1024#32
  let v80 : BitVec 32 := Scalar.muli v10 c1024_i32_56
  let c1_i32_60 : BitVec 32 := 1#32
  let c1_i32_1 : BitVec 32 := 1#32
  let v5 : BitVec 1 := Scalar.cmpi .eq v3 c1_i32_1
  let c2_i32 : BitVec 32 := 2#32
  let v6 : BitVec 1 := Scalar.cmpi .eq v3 c2_i32
  let v7 : BitVec 1 := Scalar.ori v5 v6
  let c1_i32_2 : BitVec 32 := 1#32
  let c0_i32 : BitVec 32 := 0#32
  let v8 : BitVec 32 := Scalar.select v7 c1_i32_2 c0_i32
  let v85 : BitVec 32 := Scalar.subi c1_i32_60 v8
  let c512_i32_61 : BitVec 32 := 512#32
  let v86 : BitVec 32 := Scalar.muli v85 c512_i32_61
  let v87 : BitVec 32 := Scalar.addi v80 v86
  let c4_i32_0 : BitVec 32 := 4#32
  let v4 : BitVec 32 := Scalar.divsi v2 c4_i32_0
  let c2_i32_13 : BitVec 32 := 2#32
  let v22 : BitVec 32 := Scalar.divsi v4 c2_i32_13
  let c256_i32_73 : BitVec 32 := 256#32
  let v106 : BitVec 32 := Scalar.muli v22 c256_i32_73
  let c2_i32_12 : BitVec 32 := 2#32
  let v21 : BitVec 32 := Scalar.remsi v4 c2_i32_12
  let c128_i32_74 : BitVec 32 := 128#32
  let v107 : BitVec 32 := Scalar.muli v21 c128_i32_74
  let v108 : BitVec 32 := Scalar.addi v106 v107
  let v858 : BitVec 32 := Scalar.addi v87 v108
  let v860 : Index := Scalar.indexCast v858
  let c256_774 : Index := 256#32
  ![v860.toNat, 256]
def k0_dev39 (d0 : Dev nD) : Nat :=
  let c0_i32_789 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c4_i32_6 : BitVec 32 := 4#32
  let v11 : BitVec 32 := Scalar.muli v4 c4_i32_6
  let c4_i32 : BitVec 32 := 4#32
  let v3 : BitVec 32 := Scalar.remsi v2 c4_i32
  let c2_i32_7 : BitVec 32 := 2#32
  let v12 : BitVec 32 := Scalar.remsi v3 c2_i32_7
  let c0_i32_8 : BitVec 32 := 0#32
  let v13 : BitVec 1 := Scalar.cmpi .eq v12 c0_i32_8
  let c1_i32_9 : BitVec 32 := 1#32
  let v14 : BitVec 32 := Scalar.addi v3 c1_i32_9
  let c1_i32_10 : BitVec 32 := 1#32
  let v15 : BitVec 32 := Scalar.subi v3 c1_i32_10
  let v16 : BitVec 32 := Scalar.select v13 v14 v15
  let v17 : BitVec 32 := Scalar.addi v11 v16
  let c1_i32_788 : BitVec 32 := 1#32
  let v868 : BitVec 32 := Scalar.muli v17 c1_i32_788
  let v869 : BitVec 32 := Scalar.addi c0_i32_789 v868
  v869.toNat
def k0_off27 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c1_i32_1 : BitVec 32 := 1#32
  let v5 : BitVec 1 := Scalar.cmpi .eq v3 c1_i32_1
  let c2_i32 : BitVec 32 := 2#32
  let v6 : BitVec 1 := Scalar.cmpi .eq v3 c2_i32
  let v7 : BitVec 1 := Scalar.ori v5 v6
  let c1_i32_2 : BitVec 32 := 1#32
  let c0_i32 : BitVec 32 := 0#32
  let v8 : BitVec 32 := Scalar.select v7 c1_i32_2 c0_i32
  let c1024_i32 : BitVec 32 := 1024#32
  let v42 : BitVec 32 := Scalar.muli v8 c1024_i32
  let c1_i32_35 : BitVec 32 := 1#32
  let c2_i32_3 : BitVec 32 := 2#32
  let v9 : BitVec 1 := Scalar.cmpi .sge v3 c2_i32_3
  let c1_i32_4 : BitVec 32 := 1#32
  let c0_i32_5 : BitVec 32 := 0#32
  let v10 : BitVec 32 := Scalar.select v9 c1_i32_4 c0_i32_5
  let v47 : BitVec 32 := Scalar.subi c1_i32_35 v10
  let c512_i32_36 : BitVec 32 := 512#32
  let v48 : BitVec 32 := Scalar.muli v47 c512_i32_36
  let v49 : BitVec 32 := Scalar.addi v42 v48
  let c4_i32_0 : BitVec 32 := 4#32
  let v4 : BitVec 32 := Scalar.divsi v2 c4_i32_0
  let c2_i32_12 : BitVec 32 := 2#32
  let v21 : BitVec 32 := Scalar.remsi v4 c2_i32_12
  let c256_i32_48 : BitVec 32 := 256#32
  let v71 : BitVec 32 := Scalar.muli v21 c256_i32_48
  let c1_i32_49 : BitVec 32 := 1#32
  let c2_i32_13 : BitVec 32 := 2#32
  let v22 : BitVec 32 := Scalar.divsi v4 c2_i32_13
  let v72 : BitVec 32 := Scalar.subi c1_i32_49 v22
  let c128_i32_50 : BitVec 32 := 128#32
  let v73 : BitVec 32 := Scalar.muli v72 c128_i32_50
  let v74 : BitVec 32 := Scalar.addi v71 v73
  let v876 : BitVec 32 := Scalar.addi v49 v74
  let v878 : Index := Scalar.indexCast v876
  let c0_795 : Index := 0#32
  ![v878.toNat, 0]
def k0_dev40 (d0 : Dev nD) : Nat :=
  let c0_i32_811 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c4_i32_11 : BitVec 32 := 4#32
  let v18 : BitVec 32 := Scalar.muli v4 c4_i32_11
  let c3_i32 : BitVec 32 := 3#32
  let c4_i32 : BitVec 32 := 4#32
  let v3 : BitVec 32 := Scalar.remsi v2 c4_i32
  let v19 : BitVec 32 := Scalar.subi c3_i32 v3
  let v20 : BitVec 32 := Scalar.addi v18 v19
  let c1_i32_810 : BitVec 32 := 1#32
  let v886 : BitVec 32 := Scalar.muli v20 c1_i32_810
  let v887 : BitVec 32 := Scalar.addi c0_i32_811 v886
  v887.toNat
def k0_off28 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c2_i32_3 : BitVec 32 := 2#32
  let v9 : BitVec 1 := Scalar.cmpi .sge v3 c2_i32_3
  let c1_i32_4 : BitVec 32 := 1#32
  let c0_i32_5 : BitVec 32 := 0#32
  let v10 : BitVec 32 := Scalar.select v9 c1_i32_4 c0_i32_5
  let c1024_i32_56 : BitVec 32 := 1024#32
  let v80 : BitVec 32 := Scalar.muli v10 c1024_i32_56
  let c1_i32_60 : BitVec 32 := 1#32
  let c1_i32_1 : BitVec 32 := 1#32
  let v5 : BitVec 1 := Scalar.cmpi .eq v3 c1_i32_1
  let c2_i32 : BitVec 32 := 2#32
  let v6 : BitVec 1 := Scalar.cmpi .eq v3 c2_i32
  let v7 : BitVec 1 := Scalar.ori v5 v6
  let c1_i32_2 : BitVec 32 := 1#32
  let c0_i32 : BitVec 32 := 0#32
  let v8 : BitVec 32 := Scalar.select v7 c1_i32_2 c0_i32
  let v85 : BitVec 32 := Scalar.subi c1_i32_60 v8
  let c512_i32_61 : BitVec 32 := 512#32
  let v86 : BitVec 32 := Scalar.muli v85 c512_i32_61
  let v87 : BitVec 32 := Scalar.addi v80 v86
  let c4_i32_0 : BitVec 32 := 4#32
  let v4 : BitVec 32 := Scalar.divsi v2 c4_i32_0
  let c2_i32_13 : BitVec 32 := 2#32
  let v22 : BitVec 32 := Scalar.divsi v4 c2_i32_13
  let c256_i32_75 : BitVec 32 := 256#32
  let v109 : BitVec 32 := Scalar.muli v22 c256_i32_75
  let c1_i32_76 : BitVec 32 := 1#32
  let c2_i32_12 : BitVec 32 := 2#32
  let v21 : BitVec 32 := Scalar.remsi v4 c2_i32_12
  let v110 : BitVec 32 := Scalar.subi c1_i32_76 v21
  let c128_i32_77 : BitVec 32 := 128#32
  let v111 : BitVec 32 := Scalar.muli v110 c128_i32_77
  let v112 : BitVec 32 := Scalar.addi v109 v111
  let v894 : BitVec 32 := Scalar.addi v87 v112
  let v896 : Index := Scalar.indexCast v894
  let c256_818 : Index := 256#32
  ![v896.toNat, 256]
def k0_dev41 (d0 : Dev nD) : Nat :=
  let c0_i32_833 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c4_i32_6 : BitVec 32 := 4#32
  let v11 : BitVec 32 := Scalar.muli v4 c4_i32_6
  let c4_i32 : BitVec 32 := 4#32
  let v3 : BitVec 32 := Scalar.remsi v2 c4_i32
  let c2_i32_7 : BitVec 32 := 2#32
  let v12 : BitVec 32 := Scalar.remsi v3 c2_i32_7
  let c0_i32_8 : BitVec 32 := 0#32
  let v13 : BitVec 1 := Scalar.cmpi .eq v12 c0_i32_8
  let c1_i32_9 : BitVec 32 := 1#32
  let v14 : BitVec 32 := Scalar.addi v3 c1_i32_9
  let c1_i32_10 : BitVec 32 := 1#32
  let v15 : BitVec 32 := Scalar.subi v3 c1_i32_10
  let v16 : BitVec 32 := Scalar.select v13 v14 v15
  let v17 : BitVec 32 := Scalar.addi v11 v16
  let c1_i32_832 : BitVec 32 := 1#32
  let v904 : BitVec 32 := Scalar.muli v17 c1_i32_832
  let v905 : BitVec 32 := Scalar.addi c0_i32_833 v904
  v905.toNat
def k0_dev42 (d0 : Dev nD) : Nat :=
  let c0_i32_855 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c4_i32_11 : BitVec 32 := 4#32
  let v18 : BitVec 32 := Scalar.muli v4 c4_i32_11
  let c3_i32 : BitVec 32 := 3#32
  let c4_i32 : BitVec 32 := 4#32
  let v3 : BitVec 32 := Scalar.remsi v2 c4_i32
  let v19 : BitVec 32 := Scalar.subi c3_i32 v3
  let v20 : BitVec 32 := Scalar.addi v18 v19
  let c1_i32_854 : BitVec 32 := 1#32
  let v922 : BitVec 32 := Scalar.muli v20 c1_i32_854
  let v923 : BitVec 32 := Scalar.addi c0_i32_855 v922
  v923.toNat
def k0_off29 (d0 : Dev nD) : Fin 2 → Nat :=
  let c1_i32_33 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c1_i32_1 : BitVec 32 := 1#32
  let v5 : BitVec 1 := Scalar.cmpi .eq v3 c1_i32_1
  let c2_i32 : BitVec 32 := 2#32
  let v6 : BitVec 1 := Scalar.cmpi .eq v3 c2_i32
  let v7 : BitVec 1 := Scalar.ori v5 v6
  let c1_i32_2 : BitVec 32 := 1#32
  let c0_i32 : BitVec 32 := 0#32
  let v8 : BitVec 32 := Scalar.select v7 c1_i32_2 c0_i32
  let v43 : BitVec 32 := Scalar.subi c1_i32_33 v8
  let c1024_i32_34 : BitVec 32 := 1024#32
  let v44 : BitVec 32 := Scalar.muli v43 c1024_i32_34
  let c2_i32_3 : BitVec 32 := 2#32
  let v9 : BitVec 1 := Scalar.cmpi .sge v3 c2_i32_3
  let c1_i32_4 : BitVec 32 := 1#32
  let c0_i32_5 : BitVec 32 := 0#32
  let v10 : BitVec 32 := Scalar.select v9 c1_i32_4 c0_i32_5
  let c512_i32_39 : BitVec 32 := 512#32
  let v53 : BitVec 32 := Scalar.muli v10 c512_i32_39
  let v54 : BitVec 32 := Scalar.addi v44 v53
  let c4_i32_0 : BitVec 32 := 4#32
  let v4 : BitVec 32 := Scalar.divsi v2 c4_i32_0
  let c2_i32_12 : BitVec 32 := 2#32
  let v21 : BitVec 32 := Scalar.remsi v4 c2_i32_12
  let c256_i32_46 : BitVec 32 := 256#32
  let v68 : BitVec 32 := Scalar.muli v21 c256_i32_46
  let c2_i32_13 : BitVec 32 := 2#32
  let v22 : BitVec 32 := Scalar.divsi v4 c2_i32_13
  let c128_i32_47 : BitVec 32 := 128#32
  let v69 : BitVec 32 := Scalar.muli v22 c128_i32_47
  let v70 : BitVec 32 := Scalar.addi v68 v69
  let v940 : BitVec 32 := Scalar.addi v54 v70
  let v942 : Index := Scalar.indexCast v940
  let c0_875 : Index := 0#32
  ![v942.toNat, 0]
def k0_off30 (d0 : Dev nD) : Fin 2 → Nat :=
  let c1_i32_33 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c1_i32_1 : BitVec 32 := 1#32
  let v5 : BitVec 1 := Scalar.cmpi .eq v3 c1_i32_1
  let c2_i32 : BitVec 32 := 2#32
  let v6 : BitVec 1 := Scalar.cmpi .eq v3 c2_i32
  let v7 : BitVec 1 := Scalar.ori v5 v6
  let c1_i32_2 : BitVec 32 := 1#32
  let c0_i32 : BitVec 32 := 0#32
  let v8 : BitVec 32 := Scalar.select v7 c1_i32_2 c0_i32
  let v43 : BitVec 32 := Scalar.subi c1_i32_33 v8
  let c1024_i32_34 : BitVec 32 := 1024#32
  let v44 : BitVec 32 := Scalar.muli v43 c1024_i32_34
  let c2_i32_3 : BitVec 32 := 2#32
  let v9 : BitVec 1 := Scalar.cmpi .sge v3 c2_i32_3
  let c1_i32_4 : BitVec 32 := 1#32
  let c0_i32_5 : BitVec 32 := 0#32
  let v10 : BitVec 32 := Scalar.select v9 c1_i32_4 c0_i32_5
  let c512_i32_39 : BitVec 32 := 512#32
  let v53 : BitVec 32 := Scalar.muli v10 c512_i32_39
  let v54 : BitVec 32 := Scalar.addi v44 v53
  let c4_i32_0 : BitVec 32 := 4#32
  let v4 : BitVec 32 := Scalar.divsi v2 c4_i32_0
  let c2_i32_12 : BitVec 32 := 2#32
  let v21 : BitVec 32 := Scalar.remsi v4 c2_i32_12
  let c256_i32_48 : BitVec 32 := 256#32
  let v71 : BitVec 32 := Scalar.muli v21 c256_i32_48
  let c1_i32_49 : BitVec 32 := 1#32
  let c2_i32_13 : BitVec 32 := 2#32
  let v22 : BitVec 32 := Scalar.divsi v4 c2_i32_13
  let v72 : BitVec 32 := Scalar.subi c1_i32_49 v22
  let c128_i32_50 : BitVec 32 := 128#32
  let v73 : BitVec 32 := Scalar.muli v72 c128_i32_50
  let v74 : BitVec 32 := Scalar.addi v71 v73
  let v950 : BitVec 32 := Scalar.addi v54 v74
  let v952 : Index := Scalar.indexCast v950
  let c0_888 : Index := 0#32
  ![v952.toNat, 0]
def k0_off31 (d0 : Dev nD) : Fin 2 → Nat :=
  let c1_i32_33 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c1_i32_1 : BitVec 32 := 1#32
  let v5 : BitVec 1 := Scalar.cmpi .eq v3 c1_i32_1
  let c2_i32 : BitVec 32 := 2#32
  let v6 : BitVec 1 := Scalar.cmpi .eq v3 c2_i32
  let v7 : BitVec 1 := Scalar.ori v5 v6
  let c1_i32_2 : BitVec 32 := 1#32
  let c0_i32 : BitVec 32 := 0#32
  let v8 : BitVec 32 := Scalar.select v7 c1_i32_2 c0_i32
  let v43 : BitVec 32 := Scalar.subi c1_i32_33 v8
  let c1024_i32_34 : BitVec 32 := 1024#32
  let v44 : BitVec 32 := Scalar.muli v43 c1024_i32_34
  let c1_i32_40 : BitVec 32 := 1#32
  let c2_i32_3 : BitVec 32 := 2#32
  let v9 : BitVec 1 := Scalar.cmpi .sge v3 c2_i32_3
  let c1_i32_4 : BitVec 32 := 1#32
  let c0_i32_5 : BitVec 32 := 0#32
  let v10 : BitVec 32 := Scalar.select v9 c1_i32_4 c0_i32_5
  let v55 : BitVec 32 := Scalar.subi c1_i32_40 v10
  let c512_i32_41 : BitVec 32 := 512#32
  let v56 : BitVec 32 := Scalar.muli v55 c512_i32_41
  let v57 : BitVec 32 := Scalar.addi v44 v56
  let c4_i32_0 : BitVec 32 := 4#32
  let v4 : BitVec 32 := Scalar.divsi v2 c4_i32_0
  let c2_i32_12 : BitVec 32 := 2#32
  let v21 : BitVec 32 := Scalar.remsi v4 c2_i32_12
  let c256_i32_46 : BitVec 32 := 256#32
  let v68 : BitVec 32 := Scalar.muli v21 c256_i32_46
  let c2_i32_13 : BitVec 32 := 2#32
  let v22 : BitVec 32 := Scalar.divsi v4 c2_i32_13
  let c128_i32_47 : BitVec 32 := 128#32
  let v69 : BitVec 32 := Scalar.muli v22 c128_i32_47
  let v70 : BitVec 32 := Scalar.addi v68 v69
  let v970 : BitVec 32 := Scalar.addi v57 v70
  let v972 : Index := Scalar.indexCast v970
  let c0_913 : Index := 0#32
  ![v972.toNat, 0]
def k0_off32 (d0 : Dev nD) : Fin 2 → Nat :=
  let c1_i32_33 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c1_i32_1 : BitVec 32 := 1#32
  let v5 : BitVec 1 := Scalar.cmpi .eq v3 c1_i32_1
  let c2_i32 : BitVec 32 := 2#32
  let v6 : BitVec 1 := Scalar.cmpi .eq v3 c2_i32
  let v7 : BitVec 1 := Scalar.ori v5 v6
  let c1_i32_2 : BitVec 32 := 1#32
  let c0_i32 : BitVec 32 := 0#32
  let v8 : BitVec 32 := Scalar.select v7 c1_i32_2 c0_i32
  let v43 : BitVec 32 := Scalar.subi c1_i32_33 v8
  let c1024_i32_34 : BitVec 32 := 1024#32
  let v44 : BitVec 32 := Scalar.muli v43 c1024_i32_34
  let c1_i32_40 : BitVec 32 := 1#32
  let c2_i32_3 : BitVec 32 := 2#32
  let v9 : BitVec 1 := Scalar.cmpi .sge v3 c2_i32_3
  let c1_i32_4 : BitVec 32 := 1#32
  let c0_i32_5 : BitVec 32 := 0#32
  let v10 : BitVec 32 := Scalar.select v9 c1_i32_4 c0_i32_5
  let v55 : BitVec 32 := Scalar.subi c1_i32_40 v10
  let c512_i32_41 : BitVec 32 := 512#32
  let v56 : BitVec 32 := Scalar.muli v55 c512_i32_41
  let v57 : BitVec 32 := Scalar.addi v44 v56
  let c4_i32_0 : BitVec 32 := 4#32
  let v4 : BitVec 32 := Scalar.divsi v2 c4_i32_0
  let c2_i32_12 : BitVec 32 := 2#32
  let v21 : BitVec 32 := Scalar.remsi v4 c2_i32_12
  let c256_i32_48 : BitVec 32 := 256#32
  let v71 : BitVec 32 := Scalar.muli v21 c256_i32_48
  let c1_i32_49 : BitVec 32 := 1#32
  let c2_i32_13 : BitVec 32 := 2#32
  let v22 : BitVec 32 := Scalar.divsi v4 c2_i32_13
  let v72 : BitVec 32 := Scalar.subi c1_i32_49 v22
  let c128_i32_50 : BitVec 32 := 128#32
  let v73 : BitVec 32 := Scalar.muli v72 c128_i32_50
  let v74 : BitVec 32 := Scalar.addi v71 v73
  let v980 : BitVec 32 := Scalar.addi v57 v74
  let v982 : Index := Scalar.indexCast v980
  let c0_925 : Index := 0#32
  ![v982.toNat, 0]
def k0_off33 (d0 : Dev nD) : Fin 2 → Nat :=
  let c1_i32_57 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c2_i32_3 : BitVec 32 := 2#32
  let v9 : BitVec 1 := Scalar.cmpi .sge v3 c2_i32_3
  let c1_i32_4 : BitVec 32 := 1#32
  let c0_i32_5 : BitVec 32 := 0#32
  let v10 : BitVec 32 := Scalar.select v9 c1_i32_4 c0_i32_5
  let v81 : BitVec 32 := Scalar.subi c1_i32_57 v10
  let c1024_i32_58 : BitVec 32 := 1024#32
  let v82 : BitVec 32 := Scalar.muli v81 c1024_i32_58
  let c1_i32_1 : BitVec 32 := 1#32
  let v5 : BitVec 1 := Scalar.cmpi .eq v3 c1_i32_1
  let c2_i32 : BitVec 32 := 2#32
  let v6 : BitVec 1 := Scalar.cmpi .eq v3 c2_i32
  let v7 : BitVec 1 := Scalar.ori v5 v6
  let c1_i32_2 : BitVec 32 := 1#32
  let c0_i32 : BitVec 32 := 0#32
  let v8 : BitVec 32 := Scalar.select v7 c1_i32_2 c0_i32
  let c512_i32_64 : BitVec 32 := 512#32
  let v91 : BitVec 32 := Scalar.muli v8 c512_i32_64
  let v92 : BitVec 32 := Scalar.addi v82 v91
  let c4_i32_0 : BitVec 32 := 4#32
  let v4 : BitVec 32 := Scalar.divsi v2 c4_i32_0
  let c2_i32_13 : BitVec 32 := 2#32
  let v22 : BitVec 32 := Scalar.divsi v4 c2_i32_13
  let c256_i32_73 : BitVec 32 := 256#32
  let v106 : BitVec 32 := Scalar.muli v22 c256_i32_73
  let c2_i32_12 : BitVec 32 := 2#32
  let v21 : BitVec 32 := Scalar.remsi v4 c2_i32_12
  let c128_i32_74 : BitVec 32 := 128#32
  let v107 : BitVec 32 := Scalar.muli v21 c128_i32_74
  let v108 : BitVec 32 := Scalar.addi v106 v107
  let v1000 : BitVec 32 := Scalar.addi v92 v108
  let v1002 : Index := Scalar.indexCast v1000
  let c256_950 : Index := 256#32
  ![v1002.toNat, 256]
def k0_off34 (d0 : Dev nD) : Fin 2 → Nat :=
  let c1_i32_57 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c2_i32_3 : BitVec 32 := 2#32
  let v9 : BitVec 1 := Scalar.cmpi .sge v3 c2_i32_3
  let c1_i32_4 : BitVec 32 := 1#32
  let c0_i32_5 : BitVec 32 := 0#32
  let v10 : BitVec 32 := Scalar.select v9 c1_i32_4 c0_i32_5
  let v81 : BitVec 32 := Scalar.subi c1_i32_57 v10
  let c1024_i32_58 : BitVec 32 := 1024#32
  let v82 : BitVec 32 := Scalar.muli v81 c1024_i32_58
  let c1_i32_1 : BitVec 32 := 1#32
  let v5 : BitVec 1 := Scalar.cmpi .eq v3 c1_i32_1
  let c2_i32 : BitVec 32 := 2#32
  let v6 : BitVec 1 := Scalar.cmpi .eq v3 c2_i32
  let v7 : BitVec 1 := Scalar.ori v5 v6
  let c1_i32_2 : BitVec 32 := 1#32
  let c0_i32 : BitVec 32 := 0#32
  let v8 : BitVec 32 := Scalar.select v7 c1_i32_2 c0_i32
  let c512_i32_64 : BitVec 32 := 512#32
  let v91 : BitVec 32 := Scalar.muli v8 c512_i32_64
  let v92 : BitVec 32 := Scalar.addi v82 v91
  let c4_i32_0 : BitVec 32 := 4#32
  let v4 : BitVec 32 := Scalar.divsi v2 c4_i32_0
  let c2_i32_13 : BitVec 32 := 2#32
  let v22 : BitVec 32 := Scalar.divsi v4 c2_i32_13
  let c256_i32_75 : BitVec 32 := 256#32
  let v109 : BitVec 32 := Scalar.muli v22 c256_i32_75
  let c1_i32_76 : BitVec 32 := 1#32
  let c2_i32_12 : BitVec 32 := 2#32
  let v21 : BitVec 32 := Scalar.remsi v4 c2_i32_12
  let v110 : BitVec 32 := Scalar.subi c1_i32_76 v21
  let c128_i32_77 : BitVec 32 := 128#32
  let v111 : BitVec 32 := Scalar.muli v110 c128_i32_77
  let v112 : BitVec 32 := Scalar.addi v109 v111
  let v1010 : BitVec 32 := Scalar.addi v92 v112
  let v1012 : Index := Scalar.indexCast v1010
  let c256_963 : Index := 256#32
  ![v1012.toNat, 256]
def k0_off35 (d0 : Dev nD) : Fin 2 → Nat :=
  let c1_i32_57 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c2_i32_3 : BitVec 32 := 2#32
  let v9 : BitVec 1 := Scalar.cmpi .sge v3 c2_i32_3
  let c1_i32_4 : BitVec 32 := 1#32
  let c0_i32_5 : BitVec 32 := 0#32
  let v10 : BitVec 32 := Scalar.select v9 c1_i32_4 c0_i32_5
  let v81 : BitVec 32 := Scalar.subi c1_i32_57 v10
  let c1024_i32_58 : BitVec 32 := 1024#32
  let v82 : BitVec 32 := Scalar.muli v81 c1024_i32_58
  let c1_i32_65 : BitVec 32 := 1#32
  let c1_i32_1 : BitVec 32 := 1#32
  let v5 : BitVec 1 := Scalar.cmpi .eq v3 c1_i32_1
  let c2_i32 : BitVec 32 := 2#32
  let v6 : BitVec 1 := Scalar.cmpi .eq v3 c2_i32
  let v7 : BitVec 1 := Scalar.ori v5 v6
  let c1_i32_2 : BitVec 32 := 1#32
  let c0_i32 : BitVec 32 := 0#32
  let v8 : BitVec 32 := Scalar.select v7 c1_i32_2 c0_i32
  let v93 : BitVec 32 := Scalar.subi c1_i32_65 v8
  let c512_i32_66 : BitVec 32 := 512#32
  let v94 : BitVec 32 := Scalar.muli v93 c512_i32_66
  let v95 : BitVec 32 := Scalar.addi v82 v94
  let c4_i32_0 : BitVec 32 := 4#32
  let v4 : BitVec 32 := Scalar.divsi v2 c4_i32_0
  let c2_i32_13 : BitVec 32 := 2#32
  let v22 : BitVec 32 := Scalar.divsi v4 c2_i32_13
  let c256_i32_73 : BitVec 32 := 256#32
  let v106 : BitVec 32 := Scalar.muli v22 c256_i32_73
  let c2_i32_12 : BitVec 32 := 2#32
  let v21 : BitVec 32 := Scalar.remsi v4 c2_i32_12
  let c128_i32_74 : BitVec 32 := 128#32
  let v107 : BitVec 32 := Scalar.muli v21 c128_i32_74
  let v108 : BitVec 32 := Scalar.addi v106 v107
  let v1030 : BitVec 32 := Scalar.addi v95 v108
  let v1032 : Index := Scalar.indexCast v1030
  let c256_989 : Index := 256#32
  ![v1032.toNat, 256]
def k0_off36 (d0 : Dev nD) : Fin 2 → Nat :=
  let c1_i32_57 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c2_i32_3 : BitVec 32 := 2#32
  let v9 : BitVec 1 := Scalar.cmpi .sge v3 c2_i32_3
  let c1_i32_4 : BitVec 32 := 1#32
  let c0_i32_5 : BitVec 32 := 0#32
  let v10 : BitVec 32 := Scalar.select v9 c1_i32_4 c0_i32_5
  let v81 : BitVec 32 := Scalar.subi c1_i32_57 v10
  let c1024_i32_58 : BitVec 32 := 1024#32
  let v82 : BitVec 32 := Scalar.muli v81 c1024_i32_58
  let c1_i32_65 : BitVec 32 := 1#32
  let c1_i32_1 : BitVec 32 := 1#32
  let v5 : BitVec 1 := Scalar.cmpi .eq v3 c1_i32_1
  let c2_i32 : BitVec 32 := 2#32
  let v6 : BitVec 1 := Scalar.cmpi .eq v3 c2_i32
  let v7 : BitVec 1 := Scalar.ori v5 v6
  let c1_i32_2 : BitVec 32 := 1#32
  let c0_i32 : BitVec 32 := 0#32
  let v8 : BitVec 32 := Scalar.select v7 c1_i32_2 c0_i32
  let v93 : BitVec 32 := Scalar.subi c1_i32_65 v8
  let c512_i32_66 : BitVec 32 := 512#32
  let v94 : BitVec 32 := Scalar.muli v93 c512_i32_66
  let v95 : BitVec 32 := Scalar.addi v82 v94
  let c4_i32_0 : BitVec 32 := 4#32
  let v4 : BitVec 32 := Scalar.divsi v2 c4_i32_0
  let c2_i32_13 : BitVec 32 := 2#32
  let v22 : BitVec 32 := Scalar.divsi v4 c2_i32_13
  let c256_i32_75 : BitVec 32 := 256#32
  let v109 : BitVec 32 := Scalar.muli v22 c256_i32_75
  let c1_i32_76 : BitVec 32 := 1#32
  let c2_i32_12 : BitVec 32 := 2#32
  let v21 : BitVec 32 := Scalar.remsi v4 c2_i32_12
  let v110 : BitVec 32 := Scalar.subi c1_i32_76 v21
  let c128_i32_77 : BitVec 32 := 128#32
  let v111 : BitVec 32 := Scalar.muli v110 c128_i32_77
  let v112 : BitVec 32 := Scalar.addi v109 v111
  let v1040 : BitVec 32 := Scalar.addi v95 v112
  let v1042 : Index := Scalar.indexCast v1040
  let c256_1002 : Index := 256#32
  ![v1042.toNat, 256]
abbrev stage0_0 : Fin 1 → Memref sig .tc .vmem S2048x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S32768x512 : Shape := ⟨2, ![32768, 512]⟩
abbrev S16x2048x512 : Shape := ⟨3, ![16, 2048, 512]⟩
abbrev S_ : Shape := ⟨0, ![]⟩
abbrev S2048x512 : Shape := ⟨2, ![2048, 512]⟩

abbrev nBuf : Space → Nat
  | .hbm => 6
  | .vmem => 0
  | .smem => 0
  | _ => 0

abbrev bufTy : (tb : Table) → Fin (tcTables nBuf tb) → BufTy
  | .hbm, ⟨0, _⟩ => ⟨S32768x512, .bf16⟩
  | .hbm, ⟨1, _⟩ => ⟨S16x2048x512, .bf16⟩
  | .hbm, ⟨2, _⟩ => ⟨S16x2048x512, .f32⟩
  | .hbm, ⟨3, _⟩ => ⟨S_, .f32⟩
  | .hbm, ⟨4, _⟩ => ⟨S2048x512, .f32⟩
  | .hbm, ⟨5, _⟩ => ⟨S2048x512, .bf16⟩
  | _, _ => ⟨S32768x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Proof.Geo.lean ====
/-
The geometry of the exchange: the sixteen devices as a
four-dimensional cube, the units of the two halves' schedules, the rows each unit moves.
-/
module

public import proofs.«01_k».proof.Proof.Gen.KernelIdeal

@[expose] public section

namespace Cert.KernelIdeal.Cube

open Idealize.ShloMosaic Cert.KernelIdeal

/-- A device's neighbour along link `i`: 0 and 1 within its plane of four, 2 and 3 between
planes. -/
def nb (i : Fin 4) (c : Dev nD) : Dev nD :=
  ⟨(match i with
    | 0 => 4 * (c.val / 4) + (if c.val % 2 = 0 then c.val % 4 + 1 else c.val % 4 - 1)
    | 1 => 4 * (c.val / 4) + (3 - c.val % 4)
    | 2 => 4 * (if c.val / 4 % 2 = 0 then c.val / 4 + 1 else c.val / 4 - 1) + c.val % 4
    | 3 => 4 * ((c.val / 4 + 2) % 4) + c.val % 4) % 16, Nat.mod_lt _ (by decide)⟩

/-- The link that half `h` of the columns crosses for its bit `i`: the second half takes the two
links of each kind in the other order. -/
def ax (h : Fin 2) (i : Fin 4) : Fin 4 :=
  match h, i with
  | 0, i => i
  | 1, 0 => 1
  | 1, 1 => 0
  | 1, 2 => 3
  | 1, 3 => 2

/-- Half `h`'s neighbour of a device in bit `i`. -/
def fl (h : Fin 2) (i : Fin 4) (c : Dev nD) : Dev nD := nb (ax h i) c

/-- A device's bit along link `i`. -/
def bt (i : Fin 4) (c : Dev nD) : ℕ :=
  match i with
  | 0 => if c.val % 4 = 1 ∨ c.val % 4 = 2 then 1 else 0
  | 1 => if 2 ≤ c.val % 4 then 1 else 0
  | 2 => c.val / 4 % 2
  | 3 => c.val / 8

/-- The block of 128 rows that half `h` reduces on device `c`, by its number. -/
def idx (h : Fin 2) (c : Dev nD) : ℕ :=
  8 * bt (ax h 0) c + 4 * bt (ax h 1) c + 2 * bt (ax h 2) c + bt (ax h 3) c

/-- The device that reduces block `n` of half `h`. -/
def own (h : Fin 2) (n : Fin 16) : Dev nD :=
  let s (i : Fin 4) (b : Bool) (c : Dev nD) : Dev nD := if b then fl h i c else c
  s 0 (8 ≤ n.val) (s 1 (4 ≤ n.val % 8) (s 2 (2 ≤ n.val % 4) (s 3 (n.val % 2 = 1) 0)))

/-- The rows of unit `k`. -/
def ROWS (k : Fin 19) : ℕ :=
  match k with
  | 7 | 8 | 10 | 11 | 13 | 14 | 16 | 17 => 128
  | _ => 256

/-- The first row of unit `k`'s slot in the receive buffer. -/
def OFFS (k : Fin 19) : ℕ :=
  match k with
  | 0 => 0 | 1 => 256 | 2 => 512 | 3 => 768 | 4 => 1024 | 5 => 1280 | 6 => 1536
  | 7 => 1792 | 8 => 1920 | 9 => 2048 | 10 => 2304 | 11 => 2432 | 12 => 2560
  | 13 => 2816 | 14 => 2944 | 15 => 3072 | 16 => 3328 | 17 => 3456 | _ => 3584

/-- The first row of unit `k`'s source: its slot of the send buffer, and for the last three units
the slot of the receive buffer that holds what is forwarded. -/
def SOFF (k : Fin 19) : ℕ :=
  match k with
  | 16 => 2304 | 17 => 2432 | 18 => 2560
  | k => OFFS k

/-- The bit that unit `k` crosses. -/
def bitOf (k : Fin 19) : Fin 4 :=
  match k with
  | 0 | 1 | 2 | 3 => 0
  | 4 | 5 => 1
  | 6 => 2
  | 7 | 8 => 3
  | 9 => 2
  | 10 | 11 | 12 => 1
  | _ => 0

/-- The link that unit `k` of half `h` crosses. -/
def kind (h : Fin 2) (k : Fin 19) : Fin 4 := ax h (bitOf k)

/-- The device at the other end of unit `k` of half `h`. -/
def partner (h : Fin 2) (k : Fin 19) (c : Dev nD) : Dev nD := nb (kind h k) c

/-- The device whose own rows unit `k` of half `h` brings to device `c`. -/
def rdev (h : Fin 2) (k : Fin 19) (c : Dev nD) : Dev nD :=
  match k with
  | 0 | 4 | 9 => fl h 2 c
  | 1 | 12 => fl h 1 (fl h 2 c)
  | 2 | 5 | 6 | 7 => c
  | 3 | 10 => fl h 1 c
  | 8 => fl h 3 c
  | 11 => fl h 1 (fl h 3 c)
  | 13 => fl h 0 c
  | 14 => fl h 0 (fl h 3 c)
  | 15 => fl h 0 (fl h 2 c)
  | 16 => fl h 0 (fl h 1 c)
  | 17 => fl h 0 (fl h 1 (fl h 3 c))
  | _ => fl h 0 (fl h 1 (fl h 2 c))

/-- The first row of the result that unit `k` of half `h` concerns on device `c`. -/
def urow (h : Fin 2) (k : Fin 19) (c : Dev nD) : ℕ :=
  match k with
  | 7 | 8 | 10 | 11 | 13 | 14 | 16 | 17 => 128 * idx h (rdev h k c)
  | _ => 256 * (idx h (rdev h k c) / 2)

/-- The corner of the result that unit `k` of half `h` concerns on device `c`. -/
def uoff (h : Fin 2) (k : Fin 19) (c : Dev nD) : Fin 2 → ℕ := ![urow h k c, 256 * h.val]

theorem nb_nb (i : Fin 4) (c : Dev nD) : nb i (nb i c) = c := by revert i c; decide +kernel

theorem partner_partner (h : Fin 2) (k : Fin 19) (c : Dev nD) :
    partner h k (partner h k c) = c := nb_nb _ c

theorem own_idx (h : Fin 2) (c : Dev nD) (n : Fin 16) (hn : n.val = idx h c) : own h n = c := by
  revert h c n; decide +kernel

/-- A unit's rows lie in the result. -/
theorem uoff_inb (h : Fin 2) (k : Fin 19) (c : Dev nD) :
    ∀ a, uoff h k c a + (![ROWS k, 256] : Fin 2 → ℕ) a ≤ S2048x512.size a := by
  revert h k c; decide +kernel

theorem offs_inb (k : Fin 19) :
    ∀ a, (![OFFS k, 0] : Fin 2 → ℕ) a + (![ROWS k, 256] : Fin 2 → ℕ) a ≤ S3840x256.size a := by
  revert k; decide +kernel

theorem soff_inb (k : Fin 19) :
    ∀ a, (![SOFF k, 0] : Fin 2 → ℕ) a + (![ROWS k, 256] : Fin 2 → ℕ) a ≤ S3840x256.size a := by
  revert k; decide +kernel

/-! ## The kernel's own device numbers and offsets -/

theorem dev_bar (c : Dev nD) : k0_dev1 c = (nb 0 c).val ∧ k0_dev2 c = (nb 1 c).val ∧
    k0_dev3 c = (nb 2 c).val ∧ k0_dev4 c = (nb 3 c).val := by
  revert c; decide +kernel

/-- The order in which a device starts its transfers. -/
def sched : List (Fin 2 × Fin 19) :=
  [(0, 1), (1, 1), (0, 3), (1, 3), (0, 0), (1, 0), (0, 2), (1, 2), (0, 4), (1, 4), (0, 5), (1, 5),
   (0, 6), (1, 6), (0, 7), (1, 7), (0, 8), (0, 10), (0, 13), (1, 8), (1, 10), (1, 13),
   (0, 9), (0, 11), (0, 14), (1, 9), (1, 11), (1, 14), (0, 12), (0, 15), (1, 12), (1, 15),
   (0, 16), (1, 16), (0, 17), (1, 17), (0, 18), (1, 18)]

/-- The order in which a device waits for what it receives. -/
def rsched : List (Fin 2 × Fin 19) :=
  [(0, 1), (1, 1), (0, 3), (1, 3), (0, 0), (0, 4), (1, 0), (1, 4), (0, 2), (0, 5), (1, 2), (1, 5),
   (0, 6), (1, 6), (0, 7), (1, 7), (0, 8), (1, 8), (0, 9), (1, 9), (0, 10), (1, 10), (0, 11),
   (1, 11), (0, 12), (1, 12), (0, 13), (0, 14), (0, 15), (0, 16), (0, 17), (0, 18),
   (1, 13), (1, 14), (1, 15), (1, 16), (1, 17), (1, 18)]

/-- The devices the kernel's transfers address, in the order it starts them. -/
def devTab (c : Dev nD) : Fin 38 → ℕ :=
  ![k0_dev5 c, k0_dev6 c, k0_dev7 c, k0_dev8 c, k0_dev9 c, k0_dev10 c, k0_dev11 c, k0_dev12 c,
    k0_dev13 c, k0_dev14 c, k0_dev15 c, k0_dev16 c, k0_dev17 c, k0_dev18 c, k0_dev19 c, k0_dev20 c,
    k0_dev21 c, k0_dev22 c, k0_dev23 c, k0_dev24 c, k0_dev25 c, k0_dev26 c, k0_dev27 c, k0_dev28 c,
    k0_dev29 c, k0_dev30 c, k0_dev31 c, k0_dev32 c, k0_dev33 c, k0_dev34 c, k0_dev35 c, k0_dev36 c,
    k0_dev37 c, k0_dev38 c, k0_dev39 c, k0_dev40 c, k0_dev41 c, k0_dev42 c]

/-- Each transfer addresses the device at the other end of its unit. -/
theorem devTab_eq (c : Dev nD) (i : Fin 38) :
    devTab c i = (partner (sched.get i).1 (sched.get i).2 c).val := by
  revert c i; decide +kernel

/-- The offsets at which the kernel reads its operand for the first eight transfers, each with
its unit. -/
def xoffTab (c : Dev nD) : Fin 8 → Fin 2 → ℕ :=
  ![k0_off1 c, k0_off2 c, k0_off3 c, k0_off4 c, k0_off5 c, k0_off6 c, k0_off7 c, k0_off8 c]

/-- Such a read is at the rows that the unit concerns on the device it goes to. -/
theorem xoffTab_eq (c : Dev nD) (i : Fin 8) :
    xoffTab c i = uoff (sched[i]'(by have := i.isLt; simp [sched]; omega)).1
      (sched[i]'(by have := i.isLt; simp [sched]; omega)).2
      (partner (sched[i]'(by have := i.isLt; simp [sched]; omega)).1
        (sched[i]'(by have := i.isLt; simp [sched]; omega)).2 c) := by
  revert c i; decide +kernel

/-- The units whose rows of the result the kernel names, in the order of `offTab`. -/
def offUnit : Fin 28 → Fin 2 × Fin 19 :=
  ![(0, 1), (1, 1), (0, 3), (1, 3), (0, 0), (1, 0), (0, 2), (1, 2), (0, 8), (1, 8), (0, 7), (1, 7),
    (0, 10), (1, 10), (0, 11), (1, 11), (0, 13), (1, 13), (0, 14), (1, 14), (0, 16), (1, 16),
    (0, 17), (1, 17), (0, 15), (1, 15), (0, 18), (1, 18)]

/-- The offsets at which the kernel reads and writes the rows of the result. -/
def offTab (c : Dev nD) : Fin 28 → Fin 2 → ℕ :=
  ![k0_off9 c, k0_off10 c, k0_off11 c, k0_off12 c, k0_off13 c, k0_off14 c, k0_off15 c, k0_off16 c,
    k0_off17 c, k0_off18 c, k0_off19 c, k0_off21 c, k0_off25 c, k0_off26 c, k0_off27 c, k0_off28 c,
    k0_off29 c, k0_off33 c, k0_off30 c, k0_off34 c, k0_off31 c, k0_off35 c, k0_off32 c, k0_off36 c,
    k0_off5 c, k0_off6 c, k0_off1 c, k0_off2 c]

/-- Each is the corner of the rows of its unit. -/
theorem offTab_eq (c : Dev nD) (i : Fin 28) :
    offTab c i = uoff (offUnit i).1 (offUnit i).2 c := by
  revert c i; decide +kernel

/-- A device's own half of the rows that unit 9 of half `h` sends: the upper half of the slot when
its last bit is set. -/
def half9 (h : Fin 2) (c : Dev nD) : ℕ := 2048 + 128 * bt (ax h 3) c

/-- The other half of the slot. -/
def half9' (h : Fin 2) (c : Dev nD) : ℕ := 2048 + 128 * (1 - bt (ax h 3) c)

theorem off_half9 (c : Dev nD) : k0_off20 c = ![half9 0 c, 0] ∧ k0_off22 c = ![half9 1 c, 0] ∧
    k0_off23 c = ![half9' 0 c, 0] ∧ k0_off24 c = ![half9' 1 c, 0] := by
  revert c; decide +kernel

/-- The unit whose rows of the result a transfer from the fourth on takes its words from. -/
def srcUnit (k : Fin 19) : Fin 19 :=
  match k with
  | 4 => 1 | 5 => 3 | 6 => 0 | 7 => 8 | 8 => 7 | 9 => 2 | 10 => 7 | 11 => 8 | 12 => 0
  | 13 => 7 | 14 => 8 | 15 => 0 | 16 => 10 | 17 => 11 | _ => 12

/-- What a device sends from is, on the device it goes to, what the unit concerns there. -/
theorem srcUnit_row (h : Fin 2) (k : Fin 19) (hk : 4 ≤ k.val) (c : Dev nD) :
    urow h (srcUnit k) c = urow h k (partner h k c) := by
  revert h k c; decide +kernel

/-- The reduced rows lie where the device owning them says: a row of a unit of the second phase
lies in the block of the device whose rows the unit brings, or in that of its last bit's
neighbour. -/
theorem own_row7 (h : Fin 2) (c : Dev nD) : urow h 7 c = 128 * idx h c := rfl

/-! ## The regions of the result -/

/-- The units whose rows of the result make it up, half by half. -/
def cover : List (Fin 19) := [0, 1, 2, 3, 13, 14, 15, 16, 17, 18]

/-- Two such units' rows do not meet. -/
theorem cover_disj (h : Fin 2) (k k' : Fin 19) (hk : k ∈ cover) (hk' : k' ∈ cover) (hne : k ≠ k')
    (c : Dev nD) : urow h k c + ROWS k ≤ urow h k' c ∨ urow h k' c + ROWS k' ≤ urow h k c := by
  revert h k k' c; decide +kernel

/-- Every block of 128 rows lies in such a unit's rows. -/
theorem cover_all (h : Fin 2) (c : Dev nD) (n : Fin 16) :
    ∃ k ∈ cover, urow h k c ≤ 128 * n.val ∧ 128 * n.val + 128 ≤ urow h k c + ROWS k := by
  revert h c n; decide +kernel

/-- The two blocks of a pair: unit 2's rows are units 7 and 8's, unit 3's are units 10 and 11's. -/
theorem pair_rows (h : Fin 2) (c : Dev nD) :
    ((urow h 7 c = urow h 2 c ∧ urow h 8 c = urow h 2 c + 128) ∨
      (urow h 8 c = urow h 2 c ∧ urow h 7 c = urow h 2 c + 128)) ∧
    ((urow h 10 c = urow h 3 c ∧ urow h 11 c = urow h 3 c + 128) ∨
      (urow h 11 c = urow h 3 c ∧ urow h 10 c = urow h 3 c + 128)) := by
  revert h c; decide +kernel

end Cert.KernelIdeal.Cube
-- ==== Proof.Proto.lean ====
/-
The exchange's protocol: the buffers and semaphores each device uses, what travels with each
transfer, the schedule of duties, what a device owes, and the resources a device holds at each
point of its program.
-/
module

public import proofs.«01_k».proof.Proof.Geo
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.KernelIdeal.Cube

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The ghost state: the launch's own copy and the exchange's, whose duties are numbered. -/
abbrev UB : Type := URounds (GSem nD τ sig) (Fin 4)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## Buffers -/

/-- The operand's and the result's buffers, whole. -/
abbrev xM : Memref sig .tc .vmem S2048x512 .bf16 := Memref.whole cc0_stg0_0
abbrev oM : Memref sig .tc .vmem S2048x512 .bf16 := Memref.whole cc0_stg1_0

/-- Half `h`'s send buffer and receive buffer. -/
def sbM (h : Fin 2) : Memref sig .tc .vmem S3840x256 .bf16 :=
  match h with
  | 0 => Memref.whole cc0_scratch0
  | 1 => Memref.whole cc0_scratch2
def rbM (h : Fin 2) : Memref sig .tc .vmem S3840x256 .bf16 :=
  match h with
  | 0 => Memref.whole cc0_scratch1
  | 1 => Memref.whole cc0_scratch3

/-- The shape of unit `k`'s block. -/
abbrev US (k : Fin 19) : Shape := ⟨2, ![ROWS k, 256]⟩

/-- Unit `k`'s slot, as a rectangle of a send or receive buffer. -/
abbrev srect (k : Fin 19) : Rect S3840x256 :=
  Rect.unit (s := S3840x256) ![OFFS k, 0] ![ROWS k, 256] (offs_inb k)

/-- What unit `k`'s transfer reads, as a rectangle of its buffer. -/
abbrev qrect (k : Fin 19) : Rect S3840x256 :=
  Rect.unit (s := S3840x256) ![SOFF k, 0] ![ROWS k, 256] (soff_inb k)

/-- What unit `k` of half `h` concerns on device `c`, as a rectangle of the result. -/
abbrev urect (h : Fin 2) (k : Fin 19) (c : Dev nD) : Rect S2048x512 :=
  Rect.unit (s := S2048x512) (uoff h k c) ![ROWS k, 256] (uoff_inb h k c)

abbrev sbS (h : Fin 2) (k : Fin 19) : Memref sig .tc .vmem (US k) .bf16 :=
  (sbM h).slice (srect k) (fun _ => rfl)
abbrev rbS (h : Fin 2) (k : Fin 19) : Memref sig .tc .vmem (US k) .bf16 :=
  (rbM h).slice (srect k) (fun _ => rfl)

/-- The buffer unit `k` is sent from: the last three units forward what was received. -/
def srcM (h : Fin 2) (k : Fin 19) : Memref sig .tc .vmem S3840x256 .bf16 :=
  match k with
  | 16 | 17 | 18 => rbM h
  | _ => sbM h

abbrev srcS (h : Fin 2) (k : Fin 19) : Memref sig .tc .vmem (US k) .bf16 :=
  (srcM h k).slice (qrect k) (fun _ => rfl)

/-- The share of its source that a transfer holds: of a slot that is forwarded while its owner
reads it, the left half. -/
def qsh (k : Fin 19) : PosShare TreeShare :=
  match k with
  | 16 | 17 | 18 => fullShare.left
  | _ => fullShare

/-- The share of a receive slot that its owner keeps. -/
def dsh (k : Fin 19) : PosShare TreeShare :=
  match k with
  | 10 | 11 | 12 => fullShare.right
  | _ => fullShare

/-! ## Semaphores -/

/-- The barrier semaphore. -/
abbrev barS : Sem sig := (SemArray.scalar (sig.barrier 0 rfl) : Sems sig S_).sem

theorem sem_inb (r : Fin 4) (k : Fin 19) : ∀ a, (![r.val, k.val] : Fin 2 → ℕ) a + S1x1.size a ≤ S4x19.size a := by
  revert r k; decide +kernel

/-- The transfer semaphore in row `r` for unit `k`. -/
abbrev xsem (r : Fin 4) (k : Fin 19) : DmaSem sig :=
  ((cc0_scratch4.slice (Rect.unit (s := S4x19) ![r.val, k.val] S1x1.size (sem_inb r k))).squeeze S_ squeezes_S1x1_S_).sem

/-- The rows of half `h`: what it sends by and what it receives by. -/
def srow (h : Fin 2) : Fin 4 := match h with | 0 => 0 | 1 => 2
def rrow (h : Fin 2) : Fin 4 := match h with | 0 => 1 | 1 => 3

theorem xsem_val (r : Fin 4) (k : Fin 19) : (xsem r k).val = 2 + 19 * r.val + k.val := by
  revert r k; decide +kernel

/-- The row and unit of a transfer semaphore. -/
def srow' (s : DmaSem sig) : ℕ := (s.val - 2) / 19
def sunit (s : DmaSem sig) : Fin 19 := ⟨(s.val - 2) % 19, Nat.mod_lt _ (by decide)⟩
def shalf (s : DmaSem sig) : Fin 2 := ⟨srow' s / 2 % 2, Nat.mod_lt _ (by decide)⟩

theorem sunit_xsem (r : Fin 4) (k : Fin 19) : sunit (xsem r k) = k := by
  apply Fin.ext; simp only [sunit, xsem_val]; omega
theorem srow'_xsem (r : Fin 4) (k : Fin 19) : srow' (xsem r k) = r.val := by
  simp only [srow', xsem_val]; omega
theorem shalf_send (h : Fin 2) (k : Fin 19) : shalf (xsem (srow h) k) = h := by
  apply Fin.ext; simp only [shalf, srow'_xsem]; revert h; decide
theorem shalf_recv (h : Fin 2) (k : Fin 19) : shalf (xsem (rrow h) k) = h := by
  apply Fin.ext; simp only [shalf, srow'_xsem]; revert h; decide

abbrev barCell (c : Dev nD) : GSem nD τ sig := ((c : Thread nD τ), .reg barS)
abbrev sendCell (c : Dev nD) (h : Fin 2) (k : Fin 19) : GSem nD τ sig := ((c : Thread nD τ), .dma (xsem (srow h) k))
abbrev recvCell (c : Dev nD) (h : Fin 2) (k : Fin 19) : GSem nD τ sig := ((c : Thread nD τ), .dma (xsem (rrow h) k))

/-- The credit of unit `k`'s transfer. -/
abbrev NC (k : Fin 19) : ℕ := (rbS 0 k).view.dmaCredit
theorem NC_pos (k : Fin 19) : 0 < NC k := View.dmaCredit_pos _ (by revert k; decide +kernel)
theorem NC_eq (h : Fin 2) (k : Fin 19) : (rbS h k).view.dmaCredit = NC k := by
  fin_cases h <;> rfl
theorem NC_src (h : Fin 2) (k : Fin 19) : (srcS h k).view.dmaCredit = NC k := by
  fin_cases h <;> fin_cases k <;> rfl

/-! ## Values

`X c` is what device `c` holds of the operand. The reduction in its four steps, as functions of the
whole block: a device's value after a step is defined at every index, though it computes it only
where it keeps the rows. -/

section Values

variable (X : Dev nD → Vec F S2048x512 .bf16)

/-- A sum through the wide format, rounded back. -/
def addW (a b : F .bf16) : F .bf16 :=
  FloatOps.truncf .bf16 bitsLt_bf16_f32
    (FloatOps.addf (FloatOps.extf .f32 bitsLt_bf16_f32 a) (FloatOps.extf .f32 bitsLt_bf16_f32 b))

def T1 (h : Fin 2) (c : Dev nD) : Vec F S2048x512 .bf16 := fun i => addW (X c i) (X (fl h 0 c) i)
def T2 (h : Fin 2) (c : Dev nD) : Vec F S2048x512 .bf16 :=
  fun i => FloatOps.addf (T1 X h c i) (T1 X h (fl h 1 c) i)
def T3 (h : Fin 2) (c : Dev nD) : Vec F S2048x512 .bf16 :=
  fun i => FloatOps.addf (T2 X h c i) (T2 X h (fl h 2 c) i)
def T4 (h : Fin 2) (c : Dev nD) : Vec F S2048x512 .bf16 :=
  fun i => FloatOps.addf (T3 X h c i) (T3 X h (fl h 3 c) i)

/-- The half of the columns an index lies in, and the block of rows. -/
def hcol (i : S2048x512.Idx) : Fin 2 := ⟨(i 1).val / 256 % 2, Nat.mod_lt _ (by decide)⟩
def rblk (i : S2048x512.Idx) : Fin 16 := ⟨(i 0).val / 128 % 16, Nat.mod_lt _ (by decide)⟩

/-- The result: every element as the device that reduces its block computes it. -/
def G : Vec F S2048x512 .bf16 := fun i => T4 X (hcol i) (own (hcol i) (rblk i)) i

/-- What a unit's transfer from device `d` carries, as a function of the whole block. -/
def uval (h : Fin 2) (k : Fin 19) (d : Dev nD) : Vec F S2048x512 .bf16 :=
  match k with
  | 0 | 1 | 2 | 3 => X d
  | 4 | 5 => T1 X h d
  | 6 => T2 X h d
  | 7 => T3 X h d
  | _ => G X

/-- What unit `k` of half `h` brings to device `c`. -/
def V (h : Fin 2) (k : Fin 19) (c : Dev nD) : Vec F (US k) .bf16 :=
  fun j => uval X h k (partner h k c) ((urect h k c).emb j)

end Values

/-! ## The schedule of duties -/

/-- Device `d`'s receive slot for a unit, at any contents. -/
def rbAny (d : Dev nD) (u : Fin 2 × Fin 19) : sProp 𝕄 :=
  iprop(∃ Y, owns (d : Thread nD τ) (rbS u.1 u.2) fullShare Y)
/-- Device `c`'s send slot for a unit, at any contents. -/
def sbAny (c : Dev nD) (u : Fin 2 × Fin 19) : sProp 𝕄 :=
  iprop(∃ Y, owns (c : Thread nD τ) (sbS u.1 u.2) fullShare Y)
/-- A unit's source, back from its transfer. -/
def sendPay (c : Dev nD) (u : Fin 2 × Fin 19) : sProp 𝕄 :=
  iprop(∃ Y, owns (c : Thread nD τ) (srcS u.1 u.2) (qsh u.2) Y)
/-- A unit's receive slot, with what it brings. -/
def recvPay (X : Dev nD → Vec F S2048x512 .bf16) (c : Dev nD) (u : Fin 2 × Fin 19) : sProp 𝕄 :=
  owns (c : Thread nD τ) (rbS u.1 u.2) fullShare (V X u.1 u.2 c)
/-- What the neighbour along link `i` hands device `c` at the barrier: its receive slots for the
units that cross that link. -/
def barPay (c : Dev nD) (i : Fin 4) : sProp 𝕄 :=
  bigSep Finset.univ fun u : Fin 2 × Fin 19 => if kind u.1 u.2 = i then rbAny (nb i c) u else iprop(emp)

instance rbAny_storable (d : Dev nD) (u) : BI.Storable (upEmb : UEmb _ 𝕄) (rbAny (F := F) d u) := by
  unfold rbAny; infer_instance
instance sendPay_storable (d : Dev nD) (u) : BI.Storable (upEmb : UEmb _ 𝕄) (sendPay (F := F) d u) := by
  unfold sendPay; infer_instance
instance recvPay_storable (X : Dev nD → Vec F S2048x512 .bf16) (d : Dev nD) (u) :
    BI.Storable (upEmb : UEmb _ 𝕄) (recvPay (F := F) X d u) := by
  unfold recvPay; infer_instance
instance barPay_storable (c : Dev nD) (i : Fin 4) : BI.Storable (upEmb : UEmb _ 𝕄) (barPay (F := F) c i) := by
  unfold barPay
  have : ∀ u : Fin 2 × Fin 19, BI.Storable (upEmb : UEmb _ 𝕄)
      (if kind u.1 u.2 = i then rbAny (F := F) (nb i c) u else iprop(emp)) := fun u => by
    split <;> infer_instance
  infer_instance

variable (X : Dev nD → Vec F S2048x512 .bf16)

/-- The duties of a cell: at round 0 only, and only on a core's own cells. -/
def cubeDuties (g : GSem nD τ sig) (r : ℕ) : Finset (Fin 4) :=
  if r = 0 ∧ g.1.2 = .tc then (match g.2 with | .reg _ => Finset.univ | .dma _ => {0}) else ∅

/-- One round: a barrier cell has the four duties of its four neighbours, of one unit each; a
transfer cell the one duty of its unit's credit. -/
def cubeRd : Rounds.Schedule (GSem nD τ sig) (Fin 4) 𝕄 where
  duties := cubeDuties
  unitless _ := False
  amount g _ _ := match g.2 with | .reg _ => 1 | .dma s => NC (sunit s)
  payload g _ d := match g.2 with
    | .reg _ => barPay g.1.1 d
    | .dma s => if srow' s % 2 = 0 then sendPay g.1.1 (shalf s, sunit s)
        else recvPay X g.1.1 (shalf s, sunit s)
  amount_pos g _ _ _ := by
    rcases g with ⟨t, s | s⟩
    · exact Nat.one_pos
    · exact NC_pos _

instance cubeRd_payload_storable (g : GSem nD τ sig) (r : ℕ) (d : Fin 4) :
    BI.Storable (upEmb : UEmb _ 𝕄) ((cubeRd (F := F) X).payload g r d) := by
  rcases g with ⟨t, s | s⟩
  · show BI.Storable upEmb (barPay t.1 d); infer_instance
  · show BI.Storable upEmb (if srow' s % 2 = 0 then sendPay t.1 (shalf s, sunit s)
        else recvPay X t.1 (shalf s, sunit s))
    split <;> infer_instance

section Sched

variable (c : Dev nD) (h : Fin 2) (k : Fin 19)

theorem duties_bar : (cubeRd (F := F) X).duties (barCell c) 0 = Finset.univ := by
  show cubeDuties (barCell c) 0 = _
  unfold cubeDuties; rw [if_pos ⟨rfl, rfl⟩]
theorem duties_dma (s : DmaSem sig) : (cubeRd (F := F) X).duties ((c : Thread nD τ), .dma s) 0 = {0} := by
  show cubeDuties ((c : Thread nD τ), .dma s) 0 = _
  unfold cubeDuties; rw [if_pos ⟨rfl, rfl⟩]
theorem duties_later (g : GSem nD τ sig) : ∀ r, 1 ≤ r → (cubeRd (F := F) X).duties g r = ∅ :=
  fun r hr => if_neg fun h => by omega

theorem amount_bar (d : Fin 4) : (cubeRd (F := F) X).amount (barCell c) 0 d = 1 := rfl
theorem amount_xfer (r : Fin 4) (d : Fin 4) :
    (cubeRd (F := F) X).amount ((c : Thread nD τ), .dma (xsem r k)) 0 d = NC k := by
  show NC (sunit (xsem r k)) = NC k; rw [sunit_xsem]

theorem expect_bar : (cubeRd (F := F) X).expect (barCell c) 0 = 4 := by
  unfold Schedule.expect Schedule.amountOf
  rw [duties_bar, Finset.sum_congr rfl fun d _ => amount_bar X c d, Finset.sum_const,
    Finset.card_univ, Fintype.card_fin, smul_eq_mul]
theorem expect_xfer (r : Fin 4) :
    (cubeRd (F := F) X).expect ((c : Thread nD τ), .dma (xsem r k)) 0 = NC k := by
  unfold Schedule.expect Schedule.amountOf; rw [duties_dma, Finset.sum_singleton, amount_xfer]

theorem payload_bar (d : Fin 4) : (cubeRd (F := F) X).payload (barCell c) 0 d = barPay c d := rfl
theorem payload_send (d : Fin 4) :
    (cubeRd (F := F) X).payload (sendCell c h k) 0 d = sendPay c (h, k) := by
  show (if srow' (xsem (srow h) k) % 2 = 0 then sendPay c (shalf (xsem (srow h) k), sunit (xsem (srow h) k))
        else recvPay X c (shalf (xsem (srow h) k), sunit (xsem (srow h) k))) = _
  rw [srow'_xsem, shalf_send, sunit_xsem, if_pos (by revert h; decide)]
theorem payload_recv (d : Fin 4) :
    (cubeRd (F := F) X).payload (recvCell c h k) 0 d = recvPay X c (h, k) := by
  show (if srow' (xsem (rrow h) k) % 2 = 0 then sendPay c (shalf (xsem (rrow h) k), sunit (xsem (rrow h) k))
        else recvPay X c (shalf (xsem (rrow h) k), sunit (xsem (rrow h) k))) = _
  rw [srow'_xsem, shalf_recv, sunit_xsem, if_neg (by revert h; decide)]

theorem rest_send : bigSep ((cubeRd (F := F) X).duties (sendCell c h k) 0 \ ∅)
    (fun d => (cubeRd (F := F) X).payload (sendCell c h k) 0 d) = sendPay c (h, k) := by
  rw [Finset.sdiff_empty, duties_dma, bigSep_singleton, payload_send]
theorem rest_recv : bigSep ((cubeRd (F := F) X).duties (recvCell c h k) 0 \ ∅)
    (fun d => (cubeRd (F := F) X).payload (recvCell c h k) 0 d) = recvPay X c (h, k) := by
  rw [Finset.sdiff_empty, duties_dma, bigSep_singleton, payload_recv]
theorem rest_bar : bigSep ((cubeRd (F := F) X).duties (barCell c) 0 \ ∅)
    (fun d => (cubeRd (F := F) X).payload (barCell c) 0 d)
      = bigSep Finset.univ (fun d : Fin 4 => barPay (F := F) c d) := by
  rw [Finset.sdiff_empty, duties_bar]; rfl

/-- A family over links and units that is empty unless the unit crosses the link is the family
over the units, each at its link. -/
theorem deal_units (Ψ : Fin 4 → Fin 2 × Fin 19 → sProp 𝕄) :
    (bigSep Finset.univ fun i : Fin 4 => bigSep Finset.univ fun u : Fin 2 × Fin 19 =>
        if kind u.1 u.2 = i then Ψ i u else iprop(emp))
      = bigSep Finset.univ fun u : Fin 2 × Fin 19 => Ψ (kind u.1 u.2) u := by
  rw [← bigSep_univ_prod (Φ := fun p : Fin 4 × (Fin 2 × Fin 19) => if kind p.2.1 p.2.2 = p.1 then Ψ p.1 p.2 else iprop(emp)),
    bigSep_univ_equiv (Equiv.prodComm (Fin 2 × Fin 19) (Fin 4)), bigSep_univ_prod]
  refine bigSep_congr fun u _ => ?_
  show (bigSep Finset.univ fun i : Fin 4 => if kind u.1 u.2 = i then Ψ i u else iprop(emp)) = _
  rw [bigSep_univ_at _ (kind u.1 u.2), if_pos rfl,
    bigSep_congr (Ψ := fun _ => iprop(emp)) (fun i hi => if_neg fun e => (Finset.ne_of_mem_erase hi) e.symm)]
  refine (congrArg (fun P : sProp 𝕄 => iprop(Ψ (kind u.1 u.2) u ∗ P)) (bigSep_emp_const _)).trans ?_
  exact equiv_iff.mp sep_emp

end Sched

/-! ## Levels, and what a device owes -/

/-- A unit's place in the order of the transfers. -/
def pos (u : Fin 2 × Fin 19) : ℕ := sched.idxOf u

def L (g : GSem nD τ sig) : Finset Unit := if g.1.2 = .tc then {()} else ∅
/-- Barrier cells at 1; a receive cell above them, in the order of the transfers; the rest at 0. -/
def lv (g : GSem nD τ sig) (_ : Unit) : ℕ :=
  match g.2 with
  | .reg _ => 1
  | .dma s => if srow' s % 2 = 0 then 0 else 2 + pos (shalf s, sunit s)

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) : lv (barCell c) () = 1 := rfl
theorem lv_recv (c : Dev nD) (u : Fin 2 × Fin 19) : lv (recvCell c u.1 u.2) () = 2 + pos u := by
  obtain ⟨h, k⟩ := u
  show (if srow' (xsem (rrow h) k) % 2 = 0 then 0 else 2 + pos (shalf (xsem (rrow h) k), sunit (xsem (rrow h) k))) = _
  rw [srow'_xsem, shalf_recv, sunit_xsem, if_neg (by revert h; decide)]

/-- The receive cell a unit's transfer pays, and its credit. -/
abbrev dstCell (c : Dev nD) (u : Fin 2 × Fin 19) : GSem nD τ sig := recvCell (partner u.1 u.2 c) u.1 u.2
abbrev oweU (c : Dev nD) (u : Fin 2 × Fin 19) : CellTallies nD τ sig Unit := tallyAt (dstCell c u) () (NC u.2)

/-- What device `c` owes for the units of a list. -/
def Olist (c : Dev nD) : List (Fin 2 × Fin 19) → CellTallies nD τ sig Unit
  | [] => 0
  | u :: l => Olist c l + oweU c u

/-- What device `c` owes for transfers after its first `n`. -/
abbrev Orem (c : Dev nD) (n : ℕ) : CellTallies nD τ sig Unit := Olist c (sched.drop n)

theorem Olist_pos {c : Dev nD} {l : List (Fin 2 × Fin 19)} {g : GSem nD τ sig} {x : Unit}
    (h : 0 < Olist c l g x) : ∃ u ∈ l, g = dstCell c u := by
  induction l with
  | nil => exact absurd h (Nat.lt_irrefl 0)
  | cons u l ih =>
    rw [Olist, Pi.add_apply, Finsupp.add_apply, tallyAt_apply] at h
    by_cases hg : g = dstCell c u ∧ x = ()
    · exact ⟨u, List.mem_cons_self, hg.1⟩
    · rw [if_neg hg, Nat.add_zero] at h
      obtain ⟨u', hu', e⟩ := ih h
      exact ⟨u', List.mem_cons_of_mem _ hu', e⟩

/-- A device that owes only transfers may wait on a cell below all of them. -/
theorem mayWait_of (c : Dev nD) (sm : SemLoc sig) (l : List (Fin 2 × Fin 19)) (b : ℕ)
    (hb : lv ((c : Thread nD τ), sm) () ≤ b) (hl : ∀ u ∈ l, b < 2 + pos u) :
    (levAts L lv : sProp 𝕄) ⊢ MayWait (c : Thread nD τ) sm () (Olist c l) :=
  MayOwe.of_cut (L := L) (lev := lv) b
    (fun p hp => by rw [Finset.mem_singleton.mp hp, L_tc]; exact Finset.mem_singleton_self _)
    (fun g u hg => by obtain ⟨u', _, rfl⟩ := Olist_pos hg; rw [L_tc]; exact Finset.mem_singleton_self _)
    (fun p hp => by rw [Finset.mem_singleton.mp hp]; exact hb)
    (fun g u hg => by obtain ⟨u', hu', rfl⟩ := Olist_pos hg; rw [lv_recv]; exact hl u' hu')

end Cert.KernelIdeal.Cube
-- ==== Proof.Steps.lean ====
/-
The device's state as it runs, and what each kind of operation does to it.
-/
module

public import proofs.«01_k».proof.Proof.Proto
public import Idealize.ShloMosaic.Lib.Pipeline.BigSepL
public import Idealize.ShloMosaic.Lib.Memref

@[expose] public section

noncomputable section

namespace Cert.KernelIdeal.Cube

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

abbrev 𝒱₀ : Variants := Variants.none

/-- A program of device `c` meets a postcondition. -/
abbrev WP (c : Dev nD) {α : Type} (e : Prog (TpuEff nD τ sig (Elt F) Λ₀ .tc) α) (Q : α → sProp 𝕄) : sProp 𝕄 :=
  wp frame (wpE (defs₀ (F := F)) 𝒱₀ (c : Thread nD τ) none) Set.univ e Q

/-! ## Families used up in a fixed order -/

/-- What is left of a family after its first `n`, and what its first `n` have become. -/
def Bag {I : Type} (l : List I) (n : ℕ) (Φ : I → sProp 𝕄) : sProp 𝕄 := bigSepL (l.drop n) Φ
def Done {I : Type} (l : List I) (n : ℕ) (Φ : I → sProp 𝕄) : sProp 𝕄 := bigSepL (l.take n) Φ

theorem bag_pop {I : Type} {l : List I} {n : ℕ} {u : I} (hu : l[n]? = some u) (Φ : I → sProp 𝕄) :
    Bag l n Φ = iprop(Φ u ∗ Bag l (n + 1) Φ) := by
  obtain ⟨hn, e⟩ := List.getElem?_eq_some_iff.mp hu
  unfold Bag
  rw [List.drop_eq_getElem_cons hn, e, bigSepL_cons']

theorem done_push {I : Type} {l : List I} {n : ℕ} {u : I} (hu : l[n]? = some u) (Φ : I → sProp 𝕄) :
    Done l (n + 1) Φ = iprop(Done l n Φ ∗ Φ u) := by
  unfold Done
  rw [List.take_succ, hu, bigSepL_append]; rfl

/-! ## Cells and their records -/

/-- A device's cells: the barrier's, and the transfers' by row and unit. -/
abbrev CI : Type := Option (Fin 4 × Fin 19)
def csem (i : CI) : SemLoc sig :=
  match i with
  | none => .reg barS
  | some u => .dma (xsem u.1 u.2)
abbrev kcell (ck : Dev nD × CI) : GSem nD τ sig := ((ck.1 : Thread nD τ), csem ck.2)

section State

variable (X : Dev nD → Vec F S2048x512 .bf16)

/-- Every cell's invariant, and that every cell has reached its round. -/
def records (K : Dev nD × CI → ℕ) : sProp 𝕄 :=
  iprop((bigSep Finset.univ fun ck : Dev nD × CI => cellInv ER (cubeRd X) (K ck) (kcell ck))
    ∗ bigSep Finset.univ fun ck : Dev nD × CI => reached ER (kcell ck) 0)

instance records_persistent (K : Dev nD × CI → ℕ) : BI.Persistent (records (F := F) X K) := by
  unfold records; infer_instance

theorem rec_at (K : Dev nD × CI → ℕ) (c : Dev nD) (i : CI) :
    records X K ⊢ iprop(cellInv ER (cubeRd X) (K (c, i)) ((c : Thread nD τ), csem i)
      ∗ reached ER ((c : Thread nD τ), csem i) 0) :=
  BI.sep_mono (bigSep_elim (Φ := fun ck : Dev nD × CI => cellInv ER (cubeRd X) (K ck) (kcell ck)) (Finset.mem_univ (c, i)))
    (bigSep_elim (Φ := fun ck : Dev nD × CI => (reached ER (kcell ck) 0 : sProp 𝕄)) (Finset.mem_univ (c, i)))

/-! ## The state -/

/-- The order in which the send slots are first written. -/
def sbsched : List (Fin 2 × Fin 19) :=
  [(0,1), (1,1), (0,3), (1,3), (0,0), (1,0), (0,2), (1,2), (0,4), (1,4), (0,5), (1,5), (0,6), (1,6), (0,7), (1,7),
   (0,8), (0,9), (0,10), (0,13), (1,8), (1,9), (1,10), (1,13), (0,11), (0,14), (1,11), (1,14), (0,12), (0,15), (1,12), (1,15)]
/-- The order of the waits for the transfers sent. -/
def wsched : List (Fin 2 × Fin 19) :=
  (List.finRange 19).map (fun k => (0, k)) ++ (List.finRange 19).map (fun k => (1, k))

/-- What sending a unit takes: its two duties, and the slot it lands in. -/
def SendTok (c : Dev nD) (u : Fin 2 × Fin 19) : sProp 𝕄 :=
  iprop(dutyTok ER (sendCell c u.1 u.2) 0 0 ∗ dutyTok ER (dstCell c u) 0 0 ∗ rbAny (partner u.1 u.2 c) u)
/-- What a unit sent leaves: the credit of its source cell. -/
def SentCred (c : Dev nD) (u : Fin 2 × Fin 19) : sProp 𝕄 := cred (tallyAt (sendCell c u.1 u.2) () (NC u.2))
/-- What waiting for a unit takes. -/
def RecvTok (c : Dev nD) (u : Fin 2 × Fin 19) : sProp 𝕄 :=
  iprop(atPos ER (recvCell c u.1 u.2) 0 ∅ 0 ∗ cred (tallyAt (recvCell c u.1 u.2) () (NC u.2)))
/-- A receive cell done with. -/
def RecvZero (c : Dev nD) (u : Fin 2 × Fin 19) : sProp 𝕄 := semVal (recvCell c u.1 u.2) 0
/-- A receive slot that has been read. -/
def Kept (c : Dev nD) (u : Fin 2 × Fin 19) : sProp 𝕄 :=
  iprop(∃ Y, owns (c : Thread nD τ) (rbS u.1 u.2) (dsh u.2) Y)

/-- Device `c` after `n` transfers, `r` waits for a unit, `q` receive slots read and `j` send slots
written. -/
def S (c : Dev nD) (n r q j : ℕ) : sProp 𝕄 :=
  iprop(∃ (K : Dev nD × CI → ℕ) (W : Waits sig Unit), records X K ∗ levAts L lv ∗ owes (c : Thread nD τ) (Orem c n) W
    ∗ Bag sched n (SendTok c) ∗ Done sched n (SentCred c)
    ∗ Bag rsched r (RecvTok c) ∗ Done rsched r (RecvZero c) ∗ Done rsched q (Kept c)
    ∗ Bag sbsched j (sbAny c) ∗ owns (c : Thread nD τ) xM fullShare (X c))

/-- What unit `k` of half `h` takes from device `c`. -/
def Wv (h : Fin 2) (k : Fin 19) (c : Dev nD) : Vec F (US k) .bf16 :=
  fun j => uval X h k c ((urect h k (partner h k c)).emb j)

theorem V_partner (h : Fin 2) (k : Fin 19) (c : Dev nD) : V X h k (partner h k c) = Wv X h k c := by
  unfold V Wv; rw [partner_partner]

/-- A unit's source, ready to be sent. -/
def rdy (c : Dev nD) (h : Fin 2) (k : Fin 19) : sProp 𝕄 := owns (c : Thread nD τ) (srcS h k) (qsh k) (Wv X h k c)
/-- A unit's receive slot, with what it brought, at a share. -/
abbrev got (c : Dev nD) (h : Fin 2) (k : Fin 19) (q : PosShare TreeShare) : sProp 𝕄 :=
  owns (c : Thread nD τ) (rbS h k) q (V X h k c)
/-- The rows of the result that unit `k` of half `h` concerns on device `c`, at the values of `f`. -/
def O (h : Fin 2) (k : Fin 19) (c : Dev nD) (f : Vec F S2048x512 .bf16) : sProp 𝕄 :=
  owns (c : Thread nD τ) (oM.slice (urect h k c) (fun _ => rfl)) fullShare (fun j => f ((urect h k c).emb j))

end State

/-! ## Loads and stores of a slice -/

section Ops

variable (c : Dev nD) {s : Shape} (m : Memref sig .tc .vmem s .bf16) (r : Rect s)
  (hr : ∀ a, r.stride a = 1)

theorem ld_slice {q : PosShare TreeShare} {Y : r.shape.Idx → Elt F .bf16} {hl : m.view.LoadsAt r.toLoadRect}
    {α : Type} {Q : α → sProp 𝕄} {k : (r.shape.Idx → Elt F .bf16) → Prog (TpuEff nD τ sig (Elt F) Λ₀ .tc) α} :
    owns (c : Thread nD τ) (m.slice r hr) q Y
      ⊢ iprop((owns (c : Thread nD τ) (m.slice r hr) q Y -∗ WP c (k Y) Q) -∗ WP c (.op (.load m r.toLoadRect hl) k) Q) := by
  unfold owns
  iintro ⟨%f, %hf, H⟩ Hk
  iapply (wp_load_rect 𝒱₀ (c : Thread nD τ) none Set.univ (m := m) (r := r) (S := (m.slice r hr).view.set) (Finset.Subset.refl _)) $$ H
  iintro H
  rw [show (m.access r).read (Elt F) f = Y from hf]
  iapply Hk
  iexists f; isplitr; · ipureintro; exact hf
  iexact H

theorem st_slice {Y w : r.shape.Idx → Elt F .bf16} {hx : (m.access r).Stores Finset.univ}
    {hm : (Finset.univ : Finset r.shape.Idx) = Finset.univ ∨ ∀ a, r.stride a = 1}
    {α : Type} {Q : α → sProp 𝕄} {k : PUnit → Prog (TpuEff nD τ sig (Elt F) Λ₀ .tc) α} :
    owns (c : Thread nD τ) (m.slice r hr) fullShare Y
      ⊢ iprop((owns (c : Thread nD τ) (m.slice r hr) fullShare w -∗ WP c (k ⟨⟩) Q)
        -∗ WP c (.op (.store m r w Finset.univ hx hm) k) Q) := by
  unfold owns
  iintro ⟨%f, %hf, H⟩ Hk
  iapply (wp_store 𝒱₀ (c : Thread nD τ) none Set.univ (m := m) (r := r) (Mk := Finset.univ)
    (S := (m.slice r hr).view.set) (Finset.Subset.refl _)) $$ H
  iintro H
  iapply Hk
  iexists _; isplitr
  · ipureintro; exact View.read_write_univ f w
  iexact H

/-- A load, of no consequence, and a store. -/
theorem put_slice {Y w : r.shape.Idx → Elt F .bf16} {hl : m.view.LoadsAt r.toLoadRect} {hx : (m.access r).Stores Finset.univ}
    {hm : (Finset.univ : Finset r.shape.Idx) = Finset.univ ∨ ∀ a, r.stride a = 1}
    {α : Type} {Q : α → sProp 𝕄} {k : PUnit → Prog (TpuEff nD τ sig (Elt F) Λ₀ .tc) α} :
    owns (c : Thread nD τ) (m.slice r hr) fullShare Y
      ⊢ iprop((owns (c : Thread nD τ) (m.slice r hr) fullShare w -∗ WP c (k ⟨⟩) Q)
        -∗ WP c (.op (.load m r.toLoadRect hl) fun _ => .op (.store m r w Finset.univ hx hm) k) Q) := by
  iintro H Hk
  iapply (ld_slice c m r hr) $$ H; iintro H
  iapply (st_slice c m r hr) $$ H; iexact Hk

end Ops

/-- Two rectangles at equal offsets place an index alike. -/
theorem emb_off {s : Shape} {o o' sz : Fin s.rank → ℕ} (h : o = o') {hb : ∀ a, o a + sz a ≤ s.size a}
    {hb' : ∀ a, o' a + sz a ≤ s.size a} (j : (Rect.unit (s := s) o sz hb).shape.Idx) :
    (Rect.unit (s := s) o sz hb).emb j = (Rect.unit (s := s) o' sz hb').emb j := by
  subst h; rfl

/-! ## The operations -/

section Moves

variable (X : Dev nD → Vec F S2048x512 .bf16) (c : Dev nD) {n r q j : ℕ}

/-- A load from the operand. -/
theorem s_ldx {R : Rect S2048x512} (hR : ∀ a, R.stride a = 1) {hl : xM.view.LoadsAt R.toLoadRect}
    {α : Type} {Q : α → sProp 𝕄} {k : (R.shape.Idx → Elt F .bf16) → Prog (TpuEff nD τ sig (Elt F) Λ₀ .tc) α} :
    S X c n r q j ⊢ iprop((S X c n r q j -∗ WP c (k fun i => X c (R.emb i)) Q)
      -∗ WP c (.op (.load xM R.toLoadRect hl) k) Q) := by
  unfold S
  iintro ⟨%K, %W, #HR, #Hl, HO, H1, H2, H3, H4, H5, H6, Hx⟩ Hk
  ihave Hx := (Entails.of_eq (owns_whole (c : Thread nD τ) cc0_stg0_0 fullShare (X c))) $$ Hx
  iapply (wp_load_rect 𝒱₀ (c : Thread nD τ) none Set.univ (m := xM) (r := R) (Finset.subset_univ _)) $$ Hx
  iintro Hx
  iapply Hk
  iexists K; iexists W
  isplitr; · iexact HR
  isplitr; · iexact Hl
  isplitl [HO]; · iexact HO
  isplitl [H1]; · iexact H1
  isplitl [H2]; · iexact H2
  isplitl [H3]; · iexact H3
  isplitl [H4]; · iexact H4
  isplitl [H5]; · iexact H5
  isplitl [H6]; · iexact H6
  iapply (Entails.of_eq (owns_whole (c : Thread nD τ) cc0_stg0_0 fullShare (X c)).symm); iexact Hx

/-- The next send slot, taken out. -/
theorem s_take (u : Fin 2 × Fin 19) (hu : sbsched[j]? = some u) :
    S X c n r q j ⊢ iprop(S X c n r q (j + 1) ∗ sbAny c u) := by
  unfold S
  rw [bag_pop hu]
  iintro ⟨%K, %W, #HR, #Hl, HO, H1, H2, H3, H4, H5, ⟨Hs, H6⟩, Hx⟩
  isplitr [Hs]
  · iexists K; iexists W
    isplitr; · iexact HR
    isplitr; · iexact Hl
    isplitl [HO]; · iexact HO
    isplitl [H1]; · iexact H1
    isplitl [H2]; · iexact H2
    isplitl [H3]; · iexact H3
    isplitl [H4]; · iexact H4
    isplitl [H5]; · iexact H5
    isplitl [H6]; · iexact H6
    iexact Hx
  · iexact Hs

/-- Up to the sixteenth unit the source is the send slot, whole. -/
theorem src_own (h : Fin 2) (k : Fin 19) (hk : k.val < 16) (Y : Vec F (US k) .bf16) :
    (owns (c : Thread nD τ) (srcS h k) (qsh k) Y : sProp 𝕄) = owns (c : Thread nD τ) (sbS h k) fullShare Y := by
  fin_cases k <;> first | rfl | exact absurd hk (by decide)

/-- The next send slot, written with what its unit takes. -/
theorem s_putSB (h : Fin 2) (k : Fin 19) (hu : sbsched[j]? = some (h, k)) (hk : k.val < 16)
    {w : Vec F (US k) .bf16} (hw : ∀ i, w i = Wv X h k c i)
    {hl : (sbM h).view.LoadsAt (srect k).toLoadRect} {hx : ((sbM h).access (srect k)).Stores Finset.univ}
    {hm : (Finset.univ : Finset (srect k).shape.Idx) = Finset.univ ∨ ∀ a, (srect k).stride a = 1}
    {α : Type} {Q : α → sProp 𝕄} {kk : PUnit → Prog (TpuEff nD τ sig (Elt F) Λ₀ .tc) α} :
    S X c n r q j ⊢ iprop((S X c n r q (j + 1) -∗ rdy X c h k -∗ WP c (kk ⟨⟩) Q)
      -∗ WP c (.op (.load (sbM h) (srect k).toLoadRect hl) fun _ => .op (.store (sbM h) (srect k) w Finset.univ hx hm) kk) Q) := by
  refine (s_take X c (h, k) hu).trans ?_
  unfold sbAny rdy
  rw [src_own c h k hk, ← (funext hw : w = Wv X h k c)]
  iintro ⟨HS, ⟨%Y, Hs⟩⟩ Hk
  iapply (put_slice c (sbM h) (srect k) (fun _ => rfl)) $$ Hs
  iintro Hs
  iapply Hk $$ HS Hs

/-- A load from the result. -/
theorem o_ld (h : Fin 2) (k : Fin 19) {f : Vec F S2048x512 .bf16} {o : Fin 2 → ℕ} (ho : o = uoff h k c)
    {hb : ∀ a, o a + (![ROWS k, 256] : Fin 2 → ℕ) a ≤ S2048x512.size a}
    {hl : oM.view.LoadsAt (Rect.unit (s := S2048x512) o ![ROWS k, 256] hb).toLoadRect}
    {α : Type} {Q : α → sProp 𝕄} {kk : Vec F (US k) .bf16 → Prog (TpuEff nD τ sig (Elt F) Λ₀ .tc) α} :
    O h k c f ⊢ iprop((O h k c f -∗ WP c (kk fun i => f ((urect h k c).emb i)) Q)
      -∗ WP c (.op (.load oM (Rect.unit (s := S2048x512) o ![ROWS k, 256] hb).toLoadRect hl) kk) Q) := by
  subst ho
  exact ld_slice c oM (urect h k c) (fun _ => rfl)

/-- A store to the result. -/
theorem o_st (h : Fin 2) (k : Fin 19) {f : Vec F S2048x512 .bf16} (g : Vec F S2048x512 .bf16) {o : Fin 2 → ℕ} (ho : o = uoff h k c)
    {w : Vec F (US k) .bf16} (hw : ∀ i, w i = g ((urect h k c).emb i))
    {hb : ∀ a, o a + (![ROWS k, 256] : Fin 2 → ℕ) a ≤ S2048x512.size a}
    {hx : (oM.access (Rect.unit (s := S2048x512) o ![ROWS k, 256] hb)).Stores Finset.univ}
    {hm : (Finset.univ : Finset (US k).Idx) = Finset.univ ∨ ∀ a, (Rect.unit (s := S2048x512) o ![ROWS k, 256] hb).stride a = 1}
    {α : Type} {Q : α → sProp 𝕄} {kk : PUnit → Prog (TpuEff nD τ sig (Elt F) Λ₀ .tc) α} :
    O h k c f ⊢ iprop((O h k c g -∗ WP c (kk ⟨⟩) Q)
      -∗ WP c (.op (.store oM (Rect.unit (s := S2048x512) o ![ROWS k, 256] hb) w Finset.univ hx hm) kk) Q) := by
  subst ho
  obtain rfl : w = fun i => g ((urect h k c).emb i) := funext hw
  exact st_slice c oM (urect h k c) (fun _ => rfl)

/-- A load of no consequence from the result, and a store there. -/
theorem o_put (h : Fin 2) (k : Fin 19) {f : Vec F S2048x512 .bf16} (g : Vec F S2048x512 .bf16) {o : Fin 2 → ℕ} (ho : o = uoff h k c)
    {w : Vec F (US k) .bf16} (hw : ∀ i, w i = g ((urect h k c).emb i))
    {hb : ∀ a, o a + (![ROWS k, 256] : Fin 2 → ℕ) a ≤ S2048x512.size a}
    {hl : oM.view.LoadsAt (Rect.unit (s := S2048x512) o ![ROWS k, 256] hb).toLoadRect}
    {hx : (oM.access (Rect.unit (s := S2048x512) o ![ROWS k, 256] hb)).Stores Finset.univ}
    {hm : (Finset.univ : Finset (US k).Idx) = Finset.univ ∨ ∀ a, (Rect.unit (s := S2048x512) o ![ROWS k, 256] hb).stride a = 1}
    {α : Type} {Q : α → sProp 𝕄} {kk : PUnit → Prog (TpuEff nD τ sig (Elt F) Λ₀ .tc) α} :
    O h k c f ⊢ iprop((O h k c g -∗ WP c (kk ⟨⟩) Q)
      -∗ WP c (.op (.load oM (Rect.unit (s := S2048x512) o ![ROWS k, 256] hb).toLoadRect hl)
        fun _ => .op (.store oM (Rect.unit (s := S2048x512) o ![ROWS k, 256] hb) w Finset.univ hx hm) kk) Q) := by
  iintro H Hk
  iapply (o_ld c h k ho) $$ H; iintro H
  iapply (o_st c h k g ho hw) $$ H; iexact Hk

/-- A transfer: the next unit, from its source ready to be sent, to its partner. -/
theorem s_send (h : Fin 2) (k : Fin 19) (hu : sched[n]? = some (h, k)) {d : Dev nD} (hd : d.val = (partner h k c).val)
    {hsc : (rbS h k : Memref sig (Dev.tc d : Thread nD τ).2.kind .vmem (US k) .bf16).view.ref.isScScratch = false}
    {hsrc : (srcS h k).view.WordExact} {hdst : (rbS h k).view.WordExact}
    {hsem : DmaTarget.Typed .vmem (.dma (xsem (rrow h) k)) (.remote (Dev.tc d : Thread nD τ) (rbS h k) (.dma (xsem (srow h) k)) hsc)}
    {α : Type} {Q : α → sProp 𝕄} {kk : PUnit → Prog (TpuEff nD τ sig (Elt F) Λ₀ .tc) α} :
    S X c n r q j ⊢ iprop(rdy X c h k -∗ (S X c (n + 1) r q j -∗ WP c (kk ⟨⟩) Q)
      -∗ WP c (.op (.enqueueDma (srcS h k) (.remote (Dev.tc d : Thread nD τ) (rbS h k) (.dma (xsem (srow h) k)) hsc)
          (.dma (xsem (rrow h) k)) hsrc hdst hsem) kk) Q) := by
  obtain rfl : d = partner h k c := Fin.ext hd
  have hOe : Orem c n = Orem c (n + 1) + oweU c (h, k) := by
    obtain ⟨hn, e⟩ := List.getElem?_eq_some_iff.mp hu
    unfold Orem; rw [List.drop_eq_getElem_cons hn, e]; rfl
  unfold S
  rw [bag_pop hu, done_push hu]
  iintro ⟨%K, %W, #HR, #Hl, HO, ⟨Hs, H1⟩, H2, H3, H4, H5, H6, Hx⟩ Hr Hk
  unfold SendTok rbAny rdy owns
  icases Hs with ⟨Ht1, Ht2, ⟨%Y, %fd, %hfd, Hd⟩⟩
  icases Hr with ⟨%fs, %hfs, Hr⟩
  ihave HA := (rec_at X K c (some (srow h, k))) $$ HR
  ihave HB := (rec_at X K (partner h k c) (some (rrow h, k))) $$ HR
  icases HA with ⟨#HI1, #Hr1⟩
  icases HB with ⟨#HI2, #Hr2⟩
  iapply (Rounds.wp_send_pointsTo 𝒱₀ ER (cubeRd X) (c : Thread nD τ) none
    (κ₁ := K (c, some (srow h, k))) (κ₂ := K (partner h k c, some (rrow h, k)))
    (r₁ := 0) (r₂ := 0) (d₁ := 0) (d₂ := 0) (fd := fd)
    (by rw [duties_dma]; exact Finset.mem_singleton_self _) (by rw [duties_dma]; exact Finset.mem_singleton_self _)
    () () (NC k) (by exact NC_eq h k) (amount_xfer X c k (srow h) 0) (amount_xfer X (partner h k c) k (rrow h) 0) (Orem c (n + 1))
    hOe (W := W)
    (by
      rw [payload_send]; unfold sendPay
      exact (owns_intro (c : Thread nD τ) (srcS h k) (qsh k) fs).trans (by iintro H; iexists _; iexact H))
    (by
      rw [payload_recv]; unfold recvPay
      rw [V_partner, ← hfs]
      refine (owns_intro (partner h k c : Thread nD τ) (rbS h k) fullShare _).trans ?_
      rw [View.read_write_univ])) $$ [Hr Hd HO Ht1 Ht2]
  · isplitr; · iexact HI1
    isplitr; · iexact HI2
    isplitl [Hr]; · iexact Hr
    isplitl [Hd]; · iexact Hd
    isplitl [HO]; · iexact HO
    isplitl [Ht1]; · iexact Ht1
    isplitr; · iexact Hr1
    isplitl [Ht2]; · iexact Ht2
    iexact Hr2
  iintro ⟨Hc, HO⟩
  iapply Hk
  iexists K; iexists W
  isplitr; · iexact HR
  isplitr; · iexact Hl
  isplitl [HO]; · iexact HO
  isplitl [H1]; · iexact H1
  isplitl [H2 Hc]
  · isplitl [H2]; · iexact H2
    unfold SentCred; iexact Hc
  isplitl [H3]; · iexact H3
  isplitl [H4]; · iexact H4
  isplitl [H5]; · iexact H5
  isplitl [H6]; · iexact H6
  iexact Hx

/-- A wait for the next unit: every transfer still owed is later in the order. -/
theorem s_recv (h : Fin 2) (k : Fin 19) (hu : rsched[r]? = some (h, k))
    (hlt : ∀ u ∈ sched.drop n, pos (h, k) < pos u)
    {s s' : Shape} {e e' : EltTy} {sp sp' : Space} {src : Memref sig .tc sp s e} {dst : Memref sig .tc sp' s' e'}
    (hN : dst.view.dmaCredit = NC k) {h1 : src.view.WordExact} {h2 : dst.view.WordExact}
    {α : Type} {Q : α → sProp 𝕄} {kk : PUnit → Prog (TpuEff nD τ sig (Elt F) Λ₀ .tc) α} :
    S X c n r q j ⊢ iprop((S X c n (r + 1) q j -∗ got X c h k fullShare -∗ WP c (kk ⟨⟩) Q)
      -∗ WP c (.op (.waitDma2 (xsem (rrow h) k) src dst h1 h2) kk) Q) := by
  unfold S
  rw [bag_pop hu, done_push hu]
  iintro ⟨%K, %W, #HR, #Hl, HO, H1, H2, ⟨Hs, H3⟩, H4, H5, H6, Hx⟩ Hk
  unfold RecvTok
  icases Hs with ⟨Hat, Hcr⟩
  ihave HA := (rec_at X K c (some (rrow h, k))) $$ HR
  icases HA with ⟨#HI, #Hr1⟩
  iapply (Rounds.wp_wait_rest_token 𝒱₀ ER (cubeRd X) (c : Thread nD τ) none (κ := K (c, some (rrow h, k)))
      (wpE_waitDma2_eq 𝒱₀ (c : Thread nD τ) none Set.univ) (Set.mem_univ _) () (O := Orem c n) (W := W) (R := 0) (m := 0) (T := ∅)
      (by rw [Nat.zero_add, expect_xfer, hN])) $$ [Hcr HO Hat]
  · isplitr; · iexact HI
    isplitl [Hcr]; · rw [hN]; iexact Hcr
    isplitl [HO]; · iexact HO
    isplitr
    · iapply (mayWait_of c (.dma (xsem (rrow h) k)) (sched.drop n) (2 + pos (h, k)) (Nat.le_of_eq (lv_recv c (h, k)))
        (fun u hu' => Nat.add_lt_add_left (hlt u hu') 2))
      iexact Hl
    iexact Hat
  iintro ⟨HO, Hat, -, Hpay⟩
  ihave Hp := (Entails.of_eq ((rest_recv X c h k).trans (show recvPay X c (h, k) = got X c h k fullShare from rfl))) $$ Hpay
  imod (Rounds.cell_close ER (cubeRd X) (Set.mem_univ (K (c, some (rrow h, k)))) (fun h => h) (R := 0 + 1)
    (duties_later X (recvCell c h k))) $$ [Hat] with Hz
  · isplitr; · iexact HI
    iexact Hat
  iapply Hk $$ [HO H1 H2 H3 H4 H5 H6 Hx Hz] Hp
  iexists K; iexists _
  isplitr; · iexact HR
  isplitr; · iexact Hl
  isplitl [HO]; · iexact HO
  isplitl [H1]; · iexact H1
  isplitl [H2]; · iexact H2
  isplitl [H3]; · iexact H3
  isplitl [H4 Hz]
  · isplitl [H4]; · iexact H4
    unfold RecvZero; iexact Hz
  isplitl [H5]; · iexact H5
  isplitl [H6]; · iexact H6
  iexact Hx

/-- A load of a receive slot, which is then done with. -/
theorem s_ldrb (h : Fin 2) (k : Fin 19) (hu : rsched[q]? = some (h, k))
    {hl : (rbM h).view.LoadsAt (srect k).toLoadRect}
    {α : Type} {Q : α → sProp 𝕄} {kk : Vec F (US k) .bf16 → Prog (TpuEff nD τ sig (Elt F) Λ₀ .tc) α} :
    S X c n r q j ⊢ iprop(got X c h k (dsh k) -∗ (S X c n r (q + 1) j -∗ WP c (kk (V X h k c)) Q)
      -∗ WP c (.op (.load (rbM h) (srect k).toLoadRect hl) kk) Q) := by
  unfold S
  rw [done_push hu]
  iintro ⟨%K, %W, #HR, #Hl, HO, H1, H2, H3, H4, H5, H6, Hx⟩ Hg Hk
  iapply (ld_slice c (rbM h) (srect k) (fun _ => rfl)) $$ Hg
  iintro Hg
  iapply Hk
  iexists K; iexists W
  isplitr; · iexact HR
  isplitr; · iexact Hl
  isplitl [HO]; · iexact HO
  isplitl [H1]; · iexact H1
  isplitl [H2]; · iexact H2
  isplitl [H3]; · iexact H3
  isplitl [H4]; · iexact H4
  isplitl [H5 Hg]
  · isplitl [H5]; · iexact H5
    unfold Kept; iexists _; iexact Hg
  isplitl [H6]; · iexact H6
  iexact Hx

end Moves

end Cert.KernelIdeal.Cube
-- ==== Proof.Splits.lean ====
/-
Cutting a buffer into pieces and putting it together again.
-/
module

public import proofs.«01_k».proof.Proof.Steps
public import Idealize.ShloMosaic.Lib.Pipeline.Value

@[expose] public section

noncomputable section

namespace Cert.KernelIdeal.Cube

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

section General

variable (c : Dev nD) {s : Shape} (m : Memref sig .tc .vmem s .bf16)

/-- A rectangle that is two others is owned when both are. -/
theorem owns_two_join {rA rB rC : Rect s} {hA : ∀ a, rA.stride a = 1} {hB : ∀ a, rB.stride a = 1}
    {hC : ∀ a, rC.stride a = 1} (hu : rC.set = rA.set ∪ rB.set) (hd : Disjoint rA.set rB.set)
    {A : rA.shape.Idx → Elt F .bf16} {B : rB.shape.Idx → Elt F .bf16} {C : rC.shape.Idx → Elt F .bf16}
    (hCA : ∀ j i, rC.emb j = rA.emb i → C j = A i) (hCB : ∀ j i, rC.emb j = rB.emb i → C j = B i)
    (q : PosShare TreeShare) :
    iprop(owns (c : Thread nD τ) (m.slice rA hA) q A ∗ owns (c : Thread nD τ) (m.slice rB hB) q B)
      ⊢ (owns (c : Thread nD τ) (m.slice rC hC) q C : sProp 𝕄) := by
  have hset : (m.slice rC hC).view.set = (m.slice rA hA).view.set ∪ (m.slice rB hB).view.set := by
    show (m.view.slice rC).set = (m.view.slice rA).set ∪ (m.view.slice rB).set
    rw [View.set_slice, View.set_slice, View.set_slice, hu, Finset.map_union]
  have hdis : Disjoint (m.slice rA hA).view.set (m.slice rB hB).view.set := by
    show Disjoint (m.view.slice rA).set (m.view.slice rB).set
    rw [View.set_slice, View.set_slice]; exact (Finset.disjoint_map _).mpr hd
  unfold owns
  iintro ⟨⟨%f, %hf, H1⟩, ⟨%g, %hg, H2⟩⟩
  iexists (m.slice rB hB).view.set.piecewise g f
  isplitr
  · ipureintro
    subst hf; subst hg
    funext j
    have hj : rC.emb j ∈ rA.set ∪ rB.set := hu ▸ (rC.map_emb_univ ▸ Finset.mem_map_of_mem _ (Finset.mem_univ j))
    rcases Finset.mem_union.mp hj with h | h
    · obtain ⟨i, hi⟩ := rA.exists_idx_of_mem h
      replace hi : rC.emb j = rA.emb i := hi.symm
      rw [hCA j i hi]
      show m.view.read (Elt F) _ (rC.emb j) = m.view.read (Elt F) f (rA.emb i)
      rw [hi, View.read_apply, View.read_apply, Finset.piecewise_eq_of_notMem]
      refine Finset.disjoint_left.mp hdis ?_
      show m.view.emb (rA.emb i) ∈ (m.view.slice rA).set
      rw [View.set_slice]
      exact Finset.mem_map_of_mem _ (rA.map_emb_univ ▸ Finset.mem_map_of_mem _ (Finset.mem_univ i))
    · obtain ⟨i, hi⟩ := rB.exists_idx_of_mem h
      replace hi : rC.emb j = rB.emb i := hi.symm
      rw [hCB j i hi]
      show m.view.read (Elt F) _ (rC.emb j) = m.view.read (Elt F) g (rB.emb i)
      rw [hi, View.read_apply, View.read_apply, Finset.piecewise_eq_of_mem]
      show m.view.emb (rB.emb i) ∈ (m.view.slice rB).set
      rw [View.set_slice]
      exact Finset.mem_map_of_mem _ (rB.map_emb_univ ▸ Finset.mem_map_of_mem _ (Finset.mem_univ i))
  · rw [hset]
    iapply (pointsTo_join hdis)
    isplitl [H1]; · iexact H1
    iexact H2

/-- A rectangle that is two others, cut into them. -/
theorem owns_two_split {rA rB rC : Rect s} {hA : ∀ a, rA.stride a = 1} {hB : ∀ a, rB.stride a = 1}
    {hC : ∀ a, rC.stride a = 1} (hu : rC.set = rA.set ∪ rB.set) (hd : Disjoint rA.set rB.set)
    (q : PosShare TreeShare) :
    iprop(∃ C, owns (c : Thread nD τ) (m.slice rC hC) q C)
      ⊢ (iprop((∃ A, owns (c : Thread nD τ) (m.slice rA hA) q A) ∗ ∃ B, owns (c : Thread nD τ) (m.slice rB hB) q B) : sProp 𝕄) := by
  have hset : (m.slice rC hC).view.set = (m.slice rA hA).view.set ∪ (m.slice rB hB).view.set := by
    show (m.view.slice rC).set = (m.view.slice rA).set ∪ (m.view.slice rB).set
    rw [View.set_slice, View.set_slice, View.set_slice, hu, Finset.map_union]
  have hdis : Disjoint (m.slice rA hA).view.set (m.slice rB hB).view.set := by
    show Disjoint (m.view.slice rA).set (m.view.slice rB).set
    rw [View.set_slice, View.set_slice]; exact (Finset.disjoint_map _).mpr hd
  unfold owns
  iintro ⟨%C, ⟨%f, -, H⟩⟩
  rw [hset]
  ihave H := (pointsTo_union hdis).1 $$ H
  icases H with ⟨H1, H2⟩
  isplitl [H1]
  · iexists _; iexists f; isplitr
    · ipureintro; rfl
    · iexact H1
  · iexists _; iexists f; isplitr
    · ipureintro; rfl
    · iexact H2

/-- A slice shared in two. -/
theorem owns_halve (Y : s.Idx → Elt F .bf16) :
    (owns (c : Thread nD τ) m fullShare Y : sProp 𝕄)
      ⊢ iprop(owns (c : Thread nD τ) m fullShare.left Y ∗ owns (c : Thread nD τ) m fullShare.right Y) := by
  unfold owns
  iintro ⟨%f, %hf, H⟩
  ihave H := (pointsTo_share (PosShare.mem_left_op_right fullShare)).1 $$ H
  icases H with ⟨H1, H2⟩
  isplitl [H1]
  · iexists f; isplitr
    · ipureintro; exact hf
    · iexact H1
  · iexists f; isplitr
    · ipureintro; exact hf
    · iexact H2

/-- The two shares, put together. -/
theorem owns_unhalve :
    iprop((∃ Y, owns (c : Thread nD τ) m fullShare.left Y) ∗ ∃ Y, owns (c : Thread nD τ) m fullShare.right Y)
      ⊢ (iprop(∃ Y, owns (c : Thread nD τ) m fullShare Y) : sProp 𝕄) := by
  unfold owns
  iintro ⟨⟨%Y, ⟨%f, -, H1⟩⟩, ⟨%Y', ⟨%g, -, H2⟩⟩⟩
  ihave %ha := pointsTo_agree $$ [H1 H2]
  · isplitl [H1]; · iexact H1
    iexact H2
  have e : (m.view.loc (c : Thread nD τ) ↦[m.view.set]{fullShare.right} g : sProp 𝕄) = m.view.loc (c : Thread nD τ) ↦[m.view.set]{fullShare.right} f :=
    pointsTo_congr fun i hi => ((ha i (Finset.mem_inter.mpr ⟨hi, hi⟩)).1).symm
  iexists _; iexists f; isplitr
  · ipureintro; rfl
  iapply (pointsTo_share (PosShare.mem_left_op_right fullShare)).2
  isplitl [H1]; · iexact H1
  rw [← e]; iexact H2

end General

/-! ## The receive slots that are forwarded -/

variable (X : Dev nD → Vec F S2048x512 .bf16) (c : Dev nD)

/-- Where a unit from the fourth on takes its words from. -/
theorem src_off (h : Fin 2) (k : Fin 19) (hk : 4 ≤ k.val) : uoff h (srcUnit k) c = uoff h k (partner h k c) := by
  unfold uoff; rw [srcUnit_row h k hk c]

/-- Units at equal corners place equal coordinates alike. -/
theorem u_same {h : Fin 2} {k k' : Fin 19} {c c' : Dev nD} (e : uoff h k c = uoff h k' c') (j : (US k).Idx) (j' : (US k').Idx)
    (hj : ∀ a, (j a).val = (j' a).val) : (urect h k c).emb j = (urect h k' c').emb j' := by
  funext a; apply Fin.ext
  show uoff h k c a + 1 * (j a).val = uoff h k' c' a + 1 * (j' a).val
  rw [e, hj a]

/-- What units 10, 11 and 12 bring is what units 16, 17 and 18 take on. -/
theorem fwd_10 (h : Fin 2) : got X c h 10 fullShare ⊢ iprop(rdy X c h 16 ∗ got X c h 10 (dsh 10)) := by
  have e : Wv X h 16 c = V X h 10 c := funext fun i => by
    show G X ((urect h 16 (partner h 16 c)).emb i) = G X ((urect h 10 c).emb i)
    exact congrArg (G X) (u_same (src_off c h 16 (by decide)).symm i i fun _ => rfl)
  unfold rdy; rw [e]
  exact owns_halve c (rbS h 10) (V X h 10 c)
theorem fwd_11 (h : Fin 2) : got X c h 11 fullShare ⊢ iprop(rdy X c h 17 ∗ got X c h 11 (dsh 11)) := by
  have e : Wv X h 17 c = V X h 11 c := funext fun i => by
    show G X ((urect h 17 (partner h 17 c)).emb i) = G X ((urect h 11 c).emb i)
    exact congrArg (G X) (u_same (src_off c h 17 (by decide)).symm i i fun _ => rfl)
  unfold rdy; rw [e]
  exact owns_halve c (rbS h 11) (V X h 11 c)
theorem fwd_12 (h : Fin 2) : got X c h 12 fullShare ⊢ iprop(rdy X c h 18 ∗ got X c h 12 (dsh 12)) := by
  have e : Wv X h 18 c = V X h 12 c := funext fun i => by
    show G X ((urect h 18 (partner h 18 c)).emb i) = G X ((urect h 12 c).emb i)
    exact congrArg (G X) (u_same (src_off c h 18 (by decide)).symm i i fun _ => rfl)
  unfold rdy; rw [e]
  exact owns_halve c (rbS h 12) (V X h 12 c)

/-! ## Send slot 9, written in two halves -/

theorem half9_inb (h : Fin 2) : ∀ a, (![half9 h c, 0] : Fin 2 → ℕ) a + (![128, 256] : Fin 2 → ℕ) a ≤ S3840x256.size a := by
  revert h c; decide +kernel
theorem half9'_inb (h : Fin 2) : ∀ a, (![half9' h c, 0] : Fin 2 → ℕ) a + (![128, 256] : Fin 2 → ℕ) a ≤ S3840x256.size a := by
  revert h c; decide +kernel

/-- The half of slot 9 for the device's own block, and the half for its neighbour's. -/
abbrev n9 (h : Fin 2) : Rect S3840x256 := Rect.unit (s := S3840x256) ![half9 h c, 0] ![128, 256] (half9_inb c h)
abbrev n9' (h : Fin 2) : Rect S3840x256 := Rect.unit (s := S3840x256) ![half9' h c, 0] ![128, 256] (half9'_inb c h)

theorem half9_rows (h : Fin 2) :
    (half9 h c = 2048 ∧ half9' h c = 2176 ∨ half9' h c = 2048 ∧ half9 h c = 2176)
    ∧ urow h 7 c + 2048 = urow h 9 (partner h 9 c) + half9 h c
    ∧ urow h 8 c + 2048 = urow h 9 (partner h 9 c) + half9' h c := by
  revert h c; decide +kernel

theorem n9_disj (h : Fin 2) : Disjoint (n9 c h).set (n9' c h).set :=
  Rect.unit_disjoint 0 (by
    show half9 h c + 128 ≤ half9' h c ∨ half9' h c + 128 ≤ half9 h c
    rcases (half9_rows c h).1 with h | h <;> omega)

theorem n9_union (h : Fin 2) : (srect 9).set = (n9 c h).set ∪ (n9' c h).set := by
  ext i
  rw [Finset.mem_union, Rect.mem_set_unit, Rect.mem_set_unit, Rect.mem_set_unit, Fin.forall_fin_two, Fin.forall_fin_two, Fin.forall_fin_two]
  show (2048 ≤ (i 0).val ∧ (i 0).val < 2048 + 256) ∧ _ ↔
    ((half9 h c ≤ (i 0).val ∧ (i 0).val < half9 h c + 128) ∧ _) ∨ ((half9' h c ≤ (i 0).val ∧ (i 0).val < half9' h c + 128) ∧ _)
  have h0 : (0 ≤ (i 1).val ∧ (i 1).val < 0 + 256) := ⟨Nat.zero_le _, by have := (i 1).isLt; simpa using this⟩
  rcases (half9_rows c h).1 with ⟨e, e'⟩ | ⟨e, e'⟩ <;> rw [e, e'] <;> constructor <;> intro H
  · rcases lt_or_ge (i 0).val 2176 with hl | hl
    · exact Or.inl ⟨⟨H.1.1, by omega⟩, h0⟩
    · exact Or.inr ⟨⟨hl, by omega⟩, h0⟩
  · rcases H with H | H <;> exact ⟨⟨by omega, by omega⟩, h0⟩
  · rcases lt_or_ge (i 0).val 2176 with hl | hl
    · exact Or.inr ⟨⟨H.1.1, by omega⟩, h0⟩
    · exact Or.inl ⟨⟨hl, by omega⟩, h0⟩
  · rcases H with H | H <;> exact ⟨⟨by omega, by omega⟩, h0⟩

/-- A half of slot 9, at some contents; and the halves written with the reduced rows. -/
def nineAny (h : Fin 2) : sProp 𝕄 := iprop(∃ Y, owns (c : Thread nD τ) ((sbM h).slice (n9 c h) (fun _ => rfl)) fullShare Y)
def nineAny' (h : Fin 2) : sProp 𝕄 := iprop(∃ Y, owns (c : Thread nD τ) ((sbM h).slice (n9' c h) (fun _ => rfl)) fullShare Y)
def nine (h : Fin 2) : sProp 𝕄 := owns (c : Thread nD τ) ((sbM h).slice (n9 c h) (fun _ => rfl)) fullShare (fun i => G X ((urect h 7 c).emb i))
def nine' (h : Fin 2) : sProp 𝕄 := owns (c : Thread nD τ) ((sbM h).slice (n9' c h) (fun _ => rfl)) fullShare (fun i => G X ((urect h 8 c).emb i))

theorem nine_split (h : Fin 2) : sbAny (F := F) c (h, 9) ⊢ iprop(nineAny c h ∗ nineAny' c h) :=
  owns_two_split c (sbM h) (n9_union c h) (n9_disj c h) fullShare

theorem nine_join (h : Fin 2) : iprop(nine X c h ∗ nine' X c h) ⊢ rdy X c h 9 := by
  unfold rdy
  rw [src_own c h 9 (by decide)]
  refine owns_two_join c (sbM h) (n9_union c h) (n9_disj c h) (fun j i e => ?_) (fun j i e => ?_) fullShare
  all_goals
    have e0 := congrArg (fun x : S3840x256.Idx => (x 0).val) e
    have e1 := congrArg (fun x : S3840x256.Idx => (x 1).val) e
    refine congrArg (G X) (funext fun a => Fin.ext ?_)
  · have e0 : 2048 + 1 * (j 0).val = half9 h c + 1 * (i 0).val := e0
    have e1 : 0 + 1 * (j 1).val = 0 + 1 * (i 1).val := e1
    have := (half9_rows c h).2.1
    match a with
    | 0 => show urow h 9 (partner h 9 c) + 1 * (j 0).val = urow h 7 c + 1 * (i 0).val; omega
    | 1 => show 256 * h.val + 1 * (j 1).val = 256 * h.val + 1 * (i 1).val; omega
  · have e0 : 2048 + 1 * (j 0).val = half9' h c + 1 * (i 0).val := e0
    have e1 : 0 + 1 * (j 1).val = 0 + 1 * (i 1).val := e1
    have := (half9_rows c h).2.2
    match a with
    | 0 => show urow h 9 (partner h 9 c) + 1 * (j 0).val = urow h 8 c + 1 * (i 0).val; omega
    | 1 => show 256 * h.val + 1 * (j 1).val = 256 * h.val + 1 * (i 1).val; omega

/-- A load of no consequence, and a store, at a half of slot 9. -/
theorem nine_st (h : Fin 2) {o : Fin 2 → ℕ} (ho : o = ![half9 h c, 0]) {w : S128x256.Idx → Elt F .bf16}
    (hw : ∀ i, w i = G X ((urect h 7 c).emb i))
    {hb : ∀ a, o a + (![128, 256] : Fin 2 → ℕ) a ≤ S3840x256.size a}
    {hx : ((sbM h).access (Rect.unit (s := S3840x256) o ![128, 256] hb)).Stores Finset.univ}
    {hm : (Finset.univ : Finset S128x256.Idx) = Finset.univ ∨ ∀ a, (Rect.unit (s := S3840x256) o ![128, 256] hb).stride a = 1}
    {hl : (sbM h).view.LoadsAt (Rect.unit (s := S3840x256) o ![128, 256] hb).toLoadRect}
    {α : Type} {Q : α → sProp 𝕄} {kk : PUnit → Prog (TpuEff nD τ sig (Elt F) Λ₀ .tc) α} :
    nineAny c h ⊢ iprop((nine X c h -∗ WP c (kk ⟨⟩) Q)
      -∗ WP c (.op (.load (sbM h) (Rect.unit (s := S3840x256) o ![128, 256] hb).toLoadRect hl)
        fun _ => .op (.store (sbM h) (Rect.unit (s := S3840x256) o ![128, 256] hb) w Finset.univ hx hm) kk) Q) := by
  subst ho
  unfold nineAny nine
  obtain rfl : w = fun i => G X ((urect h 7 c).emb i) := funext hw
  iintro ⟨%Y, H⟩
  iapply (put_slice c (sbM h) (n9 c h) (fun _ => rfl)) $$ H

theorem nine_ld' (h : Fin 2) {o : Fin 2 → ℕ} (ho : o = ![half9' h c, 0])
    {hb : ∀ a, o a + (![128, 256] : Fin 2 → ℕ) a ≤ S3840x256.size a}
    {hl : (sbM h).view.LoadsAt (Rect.unit (s := S3840x256) o ![128, 256] hb).toLoadRect}
    {α : Type} {Q : α → sProp 𝕄} {kk : (S128x256.Idx → Elt F .bf16) → Prog (TpuEff nD τ sig (Elt F) Λ₀ .tc) α} :
    nineAny' c h ⊢ iprop((∀ y, nineAny' c h -∗ WP c (kk y) Q)
      -∗ WP c (.op (.load (sbM h) (Rect.unit (s := S3840x256) o ![128, 256] hb).toLoadRect hl) kk) Q) := by
  subst ho
  unfold nineAny'
  iintro ⟨%Y, H⟩ Hk
  iapply (ld_slice c (sbM h) (n9' c h) (fun _ => rfl)) $$ H
  iintro H
  iapply Hk; iexists Y; iexact H

theorem nine_st' (h : Fin 2) {o : Fin 2 → ℕ} (ho : o = ![half9' h c, 0]) {w : S128x256.Idx → Elt F .bf16}
    (hw : ∀ i, w i = G X ((urect h 8 c).emb i))
    {hb : ∀ a, o a + (![128, 256] : Fin 2 → ℕ) a ≤ S3840x256.size a}
    {hx : ((sbM h).access (Rect.unit (s := S3840x256) o ![128, 256] hb)).Stores Finset.univ}
    {hm : (Finset.univ : Finset S128x256.Idx) = Finset.univ ∨ ∀ a, (Rect.unit (s := S3840x256) o ![128, 256] hb).stride a = 1}
    {α : Type} {Q : α → sProp 𝕄} {kk : PUnit → Prog (TpuEff nD τ sig (Elt F) Λ₀ .tc) α} :
    nineAny' c h ⊢ iprop((nine' X c h -∗ WP c (kk ⟨⟩) Q)
      -∗ WP c (.op (.store (sbM h) (Rect.unit (s := S3840x256) o ![128, 256] hb) w Finset.univ hx hm) kk) Q) := by
  subst ho
  unfold nineAny' nine'
  obtain rfl : w = fun i => G X ((urect h 8 c).emb i) := funext hw
  iintro ⟨%Y, H⟩
  iapply (st_slice c (sbM h) (n9' c h) (fun _ => rfl)) $$ H

/-! ## The result's rows -/

theorem pair_rects (h : Fin 2) : (urect h 2 c).set = (urect h 7 c).set ∪ (urect h 8 c).set ∧
    Disjoint (urect h 7 c).set (urect h 8 c).set ∧
    (urect h 3 c).set = (urect h 10 c).set ∪ (urect h 11 c).set ∧
    Disjoint (urect h 10 c).set (urect h 11 c).set := by
  have key : ∀ a b k : Fin 19, ROWS a = 128 → ROWS b = 128 → ROWS k = 256 →
      ((urow h a c = urow h k c ∧ urow h b c = urow h k c + 128) ∨ (urow h b c = urow h k c ∧ urow h a c = urow h k c + 128)) →
      (urect h k c).set = (urect h a c).set ∪ (urect h b c).set ∧ Disjoint (urect h a c).set (urect h b c).set := by
    intro a b k ha hb hk hr
    constructor
    · ext i
      rw [Finset.mem_union, Rect.mem_set_unit, Rect.mem_set_unit, Rect.mem_set_unit, Fin.forall_fin_two, Fin.forall_fin_two, Fin.forall_fin_two]
      show (urow h k c ≤ (i 0).val ∧ (i 0).val < urow h k c + ROWS k) ∧ _ ↔
        ((urow h a c ≤ (i 0).val ∧ (i 0).val < urow h a c + ROWS a) ∧ _) ∨ ((urow h b c ≤ (i 0).val ∧ (i 0).val < urow h b c + ROWS b) ∧ _)
      rw [ha, hb, hk]
      constructor
      · intro H
        rcases lt_or_ge (i 0).val (urow h k c + 128) with hl | hl <;> rcases hr with hr | hr
        · exact Or.inl ⟨by omega, H.2⟩
        · exact Or.inr ⟨by omega, H.2⟩
        · exact Or.inr ⟨by omega, H.2⟩
        · exact Or.inl ⟨by omega, H.2⟩
      · rintro (H | H) <;> exact ⟨by rcases hr with hr | hr <;> omega, H.2⟩
    · exact Rect.unit_disjoint 0 (by
        show urow h a c + ROWS a ≤ urow h b c ∨ urow h b c + ROWS b ≤ urow h a c
        rw [ha, hb]; rcases hr with hr | hr <;> omega)
  have h1 := key 7 8 2 rfl rfl rfl (pair_rows h c).1
  have h2 := key 10 11 3 rfl rfl rfl (pair_rows h c).2
  exact ⟨h1.1, h1.2, h2.1, h2.2⟩

/-- Owning rows of the result at the values of a function is its points-to there. -/
theorem O_eq (h : Fin 2) (k : Fin 19) (f : Vec F S2048x512 .bf16) :
    (O h k c f : sProp 𝕄) = oM.view.loc (c : Thread nD τ) ↦[(urect h k c).set]{fullShare} f := by
  unfold O
  refine (owns_slice_read (c : Thread nD τ) oM fullShare (urect h k c) (fun _ => rfl) f).trans ?_
  rw [show (oM.view.slice (urect h k c)).set = (urect h k c).set from View.set_slice_whole _ _]

theorem O_two (h : Fin 2) (f : Vec F S2048x512 .bf16) : (O h 2 c f : sProp 𝕄) = iprop(O h 7 c f ∗ O h 8 c f) := by
  rw [O_eq, O_eq, O_eq, (pair_rects c h).1]
  exact BI.equiv_iff.mp ⟨(pointsTo_union (pair_rects c h).2.1).1, (pointsTo_union (pair_rects c h).2.1).2⟩

theorem O_three (h : Fin 2) (f : Vec F S2048x512 .bf16) : (O h 3 c f : sProp 𝕄) = iprop(O h 10 c f ∗ O h 11 c f) := by
  rw [O_eq, O_eq, O_eq, (pair_rects c h).2.2.1]
  exact BI.equiv_iff.mp ⟨(pointsTo_union (pair_rects c h).2.2.2).1, (pointsTo_union (pair_rects c h).2.2.2).2⟩

/-- The result, whole, is the rows of the units that cover it. -/
theorem O_all (f : Vec F S2048x512 .bf16) :
    (owns (c : Thread nD τ) oM fullShare f : sProp 𝕄)
      = bigSep Finset.univ fun h : Fin 2 => bigSepL cover fun k => O h k c f := by
  have hd : ∀ t ∈ (Finset.univ : Finset (Fin 2 × Fin 19)).filter (fun t => t.2 ∈ cover),
      ∀ t' ∈ (Finset.univ : Finset (Fin 2 × Fin 19)).filter (fun t => t.2 ∈ cover), t ≠ t' →
      Disjoint (urect t.1 t.2 c).set (urect t'.1 t'.2 c).set := by
    rintro ⟨h, k⟩ hk ⟨h', k'⟩ hk' hne
    by_cases e : h = h'
    · subst e
      exact Rect.unit_disjoint 0 (cover_disj h k k' (Finset.mem_filter.mp hk).2 (Finset.mem_filter.mp hk').2 (fun e => hne (by rw [e])) c)
    · refine Rect.unit_disjoint 1 ?_
      show 256 * h.val + 256 ≤ 256 * h'.val ∨ 256 * h'.val + 256 ≤ 256 * h.val
      have : h.val ≠ h'.val := fun e' => e (Fin.ext e')
      omega
  have hcov : ((Finset.univ : Finset (Fin 2 × Fin 19)).filter (fun t => t.2 ∈ cover)).biUnion
      (fun t => (urect t.1 t.2 c).set) = Finset.univ := by
    refine Finset.eq_univ_iff_forall.mpr fun i => ?_
    have h0 : (i 0).val < 2048 := (i 0).isLt
    have h1 : (i 1).val < 512 := (i 1).isLt
    obtain ⟨k, hk, hlo, hhi⟩ := cover_all ⟨(i 1).val / 256, by omega⟩ c ⟨(i 0).val / 128, by omega⟩
    refine Finset.mem_biUnion.mpr ⟨(⟨(i 1).val / 256, by omega⟩, k), Finset.mem_filter.mpr ⟨Finset.mem_univ _, hk⟩, ?_⟩
    rw [Rect.mem_set_unit, Fin.forall_fin_two]
    refine ⟨?_, ?_⟩
    · show urow ⟨(i 1).val / 256, _⟩ k c ≤ (i 0).val ∧ (i 0).val < urow ⟨(i 1).val / 256, _⟩ k c + ROWS k
      dsimp only at hlo hhi
      omega
    · show 256 * ((i 1).val / 256) ≤ (i 1).val ∧ (i 1).val < 256 * ((i 1).val / 256) + 256
      omega
  rw [show (owns (c : Thread nD τ) oM fullShare f : sProp 𝕄) = oM.view.loc (c : Thread nD τ) ↦[Finset.univ]{fullShare} f from
    owns_whole (c : Thread nD τ) cc0_stg1_0 fullShare f, ← hcov, pointsTo_biUnion _ _ hd,
    bigSep_congr (fun t _ => (O_eq c t.1 t.2 f).symm)]
  rw [show (Finset.univ : Finset (Fin 2 × Fin 19)).filter (fun t => t.2 ∈ cover)
    = ([0, 1] ×ˢ cover : List (Fin 2 × Fin 19)).toFinset from by decide]
  rw [bigSep_eq_bigSepL_of_eq ([0, 1] ×ˢ cover : List (Fin 2 × Fin 19)) rfl (by decide),
    bigSep_univ_eq_bigSepL ([0, 1] : List (Fin 2)) (by decide) (by decide)]
  show bigSepL (cover.map (Prod.mk 0) ++ (cover.map (Prod.mk 1) ++ [])) (fun t : Fin 2 × Fin 19 => (O t.1 t.2 c f : sProp 𝕄)) = _
  rw [bigSepL_append, bigSepL_append, bigSepL_map, bigSepL_map, bigSepL_cons', bigSepL_cons', bigSepL_nil, bigSepL_nil]

/-! ## The scratch buffers -/

theorem slots_disj (k k' : Fin 19) (hne : k ≠ k') : Disjoint (srect k).set (srect k').set :=
  Rect.unit_disjoint 0 (by
    show OFFS k + ROWS k ≤ OFFS k' ∨ OFFS k' + ROWS k' ≤ OFFS k
    revert k k'; decide)

theorem slots_cover : (Finset.univ : Finset (Fin 19)).biUnion (fun k => (srect k).set) = Finset.univ := by
  refine Finset.eq_univ_iff_forall.mpr fun i => ?_
  have h0 : (i 0).val < 3840 := (i 0).isLt
  have h1 : (i 1).val < 256 := (i 1).isLt
  have key : ∀ n : Fin 30, ∃ k : Fin 19, OFFS k ≤ 128 * n.val ∧ 128 * n.val + 128 ≤ OFFS k + ROWS k := by decide
  obtain ⟨k, hlo, hhi⟩ := key ⟨(i 0).val / 128, by omega⟩
  refine Finset.mem_biUnion.mpr ⟨k, Finset.mem_univ _, ?_⟩
  rw [Rect.mem_set_unit, Fin.forall_fin_two]
  refine ⟨?_, ?_⟩
  · show OFFS k ≤ (i 0).val ∧ (i 0).val < OFFS k + ROWS k
    dsimp only at hlo hhi
    omega
  · show 0 ≤ (i 1).val ∧ (i 1).val < 0 + 256
    omega

theorem any {s : Shape} (m : Memref sig .tc .vmem s .bf16) (Y : s.Idx → Elt F .bf16) :
    (owns (c : Thread nD τ) m fullShare Y : sProp 𝕄) ⊢ iprop(∃ Y, owns (c : Thread nD τ) m fullShare Y) := by
  iintro H; iexists _; iexact H

/-- A scratch buffer is its slots. -/
theorem slots_of (m : Memref sig .tc .vmem S3840x256 .bf16) :
    iprop(∃ Y, owns (c : Thread nD τ) m fullShare Y)
      ⊢ (bigSep Finset.univ fun k : Fin 19 => iprop(∃ Y, owns (c : Thread nD τ) (m.slice (srect k) (fun _ => rfl)) fullShare Y) : sProp 𝕄) := by
  have step : ∀ Y, owns (c : Thread nD τ) m fullShare Y
      ⊢ (bigSep Finset.univ fun k : Fin 19 => iprop(∃ Y, owns (c : Thread nD τ) (m.slice (srect k) (fun _ => rfl)) fullShare Y) : sProp 𝕄) := fun Y =>
    (owns_rects (c : Thread nD τ) m fullShare srect (fun _ _ => rfl) slots_disj slots_cover Y).trans
      (bigSep_mono fun k _ => any c (m.slice (srect k) (fun _ => rfl)) _)
  iintro ⟨%Y, H⟩
  iapply (step Y) $$ H

theorem slots_join (m : Memref sig .tc .vmem S3840x256 .bf16) :
    (bigSep Finset.univ fun k : Fin 19 => iprop(∃ Y, owns (c : Thread nD τ) (m.slice (srect k) (fun _ => rfl)) fullShare Y) : sProp 𝕄)
      ⊢ iprop(∃ Y, owns (c : Thread nD τ) m fullShare Y) := by
  have hset : m.view.set = (Finset.univ : Finset (Fin 19)).biUnion fun k => (m.view.slice (srect k)).set := by
    ext i; constructor
    · intro hi
      rw [View.set, Finset.mem_map] at hi
      obtain ⟨x, -, rfl⟩ := hi
      obtain ⟨t, -, hx⟩ := Finset.mem_biUnion.mp (slots_cover.symm ▸ Finset.mem_univ x)
      exact Finset.mem_biUnion.mpr ⟨t, Finset.mem_univ _, by rw [View.set_slice]; exact Finset.mem_map_of_mem _ hx⟩
    · intro hi
      obtain ⟨t, -, hi⟩ := Finset.mem_biUnion.mp hi
      exact View.set_slice_subset _ _ hi
  have step : ∀ k : Fin 19, iprop(∃ Y, owns (c : Thread nD τ) (m.slice (srect k) (fun _ => rfl)) fullShare Y)
      ⊢ (iprop(∃ f, m.view.loc (c : Thread nD τ) ↦[(m.view.slice (srect k)).set]{fullShare} f) : sProp 𝕄) := by
    intro k; unfold owns
    iintro ⟨%Y, ⟨%f, -, H⟩⟩; iexists f; iexact H
  refine (bigSep_mono fun k _ => step k).trans ?_
  show (bigSep Finset.univ fun k : Fin 19 => iprop(∃ f, m.view.loc (c : Thread nD τ) ↦[(m.view.slice (srect k)).set]{fullShare} f) : sProp 𝕄)
      ⊢ iprop(∃ Y, owns (c : Thread nD τ) m fullShare Y)
  iintro H
  ihave H := (bigSep_exists_pi _ _) $$ H
  icases H with ⟨%fs, H⟩
  ihave H := (pointsTo_biUnion_join Finset.univ (fun k : Fin 19 => (m.view.slice (srect k)).set) fs (fs 0)
    (fun k _ k' _ hne => by
      rw [View.set_slice, View.set_slice]; exact (Finset.disjoint_map _).mpr (slots_disj k k' hne))) $$ H
  icases H with ⟨%g, -, H⟩
  iexists _
  iapply (owns_intro (c : Thread nD τ) m fullShare g)
  rw [hset]; iexact H

/-! ## Values -/

/-- The rows and columns a unit concerns, of an array of the result's shape. -/
def cut (f : Vec F S2048x512 .bf16) (h : Fin 2) (k : Fin 19) (d : Dev nD) : Vec F (US k) .bf16 :=
  fun i => f ((urect h k d).emb i)

/-- A load from the result of the rows a unit concerns. -/
theorem o_ldc (h : Fin 2) (k : Fin 19) {f : Vec F S2048x512 .bf16} {o : Fin 2 → ℕ} (ho : o = uoff h k c)
    {hb : ∀ a, o a + (![ROWS k, 256] : Fin 2 → ℕ) a ≤ S2048x512.size a}
    {hl : oM.view.LoadsAt (Rect.unit (s := S2048x512) o ![ROWS k, 256] hb).toLoadRect}
    {α : Type} {Q : α → sProp 𝕄} {kk : Vec F (US k) .bf16 → Prog (TpuEff nD τ sig (Elt F) Λ₀ .tc) α} :
    O h k c f ⊢ iprop((O h k c f -∗ WP c (kk (cut f h k c)) Q)
      -∗ WP c (.op (.load oM (Rect.unit (s := S2048x512) o ![ROWS k, 256] hb).toLoadRect hl) kk) Q) :=
  o_ld c h k ho

/-- A load from the operand of the rows a unit concerns. -/
theorem s_ldxu {n r q j : ℕ} (h : Fin 2) (k : Fin 19) (d : Dev nD) {o : Fin 2 → ℕ} (ho : o = uoff h k d)
    {hb : ∀ a, o a + (![ROWS k, 256] : Fin 2 → ℕ) a ≤ S2048x512.size a}
    {hl : xM.view.LoadsAt (Rect.unit (s := S2048x512) o ![ROWS k, 256] hb).toLoadRect}
    {α : Type} {Q : α → sProp 𝕄} {kk : Vec F (US k) .bf16 → Prog (TpuEff nD τ sig (Elt F) Λ₀ .tc) α} :
    S X c n r q j ⊢ iprop((S X c n r q j -∗ WP c (kk (cut (X c) h k d)) Q)
      -∗ WP c (.op (.load xM (Rect.unit (s := S2048x512) o ![ROWS k, 256] hb).toLoadRect hl) kk) Q) := by
  subst ho
  exact s_ldx X c (R := urect h k d) (fun _ => rfl)

/-- A device's own block, summed with its last neighbour's, is the result there. -/
theorem G_seven (h : Fin 2) (i : (US 7).Idx) :
    FloatOps.addf (T3 X h c ((urect h 7 c).emb i)) (V X h 7 c i) = G X ((urect h 7 c).emb i) := by
  have h0 : (i 0).val < 128 := (i 0).isLt
  have h1 : (i 1).val < 256 := (i 1).isLt
  have hx : idx h c < 16 := by revert h c; decide +kernel
  have e0 : (((urect h 7 c).emb i) 0).val = 128 * idx h c + 1 * (i 0).val := rfl
  have e1 : (((urect h 7 c).emb i) 1).val = 256 * h.val + 1 * (i 1).val := rfl
  have hh : hcol ((urect h 7 c).emb i) = h := Fin.ext (by
    show (((urect h 7 c).emb i) 1).val / 256 % 2 = h.val
    rw [e1]; have := h.isLt; omega)
  have hr : own h (rblk ((urect h 7 c).emb i)) = c := own_idx h c _ (by
    show (((urect h 7 c).emb i) 0).val / 128 % 16 = idx h c
    rw [e0]; omega)
  unfold G
  rw [hh, hr]
  rfl

/-- A load of a slot that was received in full and is kept in full. -/
theorem s_ldrbF {n r q j : ℕ} (h : Fin 2) (k : Fin 19) (hu : rsched[q]? = some (h, k)) (hq : dsh k = fullShare)
    {hl : (rbM h).view.LoadsAt (srect k).toLoadRect}
    {α : Type} {Q : α → sProp 𝕄} {kk : Vec F (US k) .bf16 → Prog (TpuEff nD τ sig (Elt F) Λ₀ .tc) α} :
    S X c n r q j ⊢ iprop(got X c h k fullShare -∗ (S X c n r (q + 1) j -∗ WP c (kk (V X h k c)) Q)
      -∗ WP c (.op (.load (rbM h) (srect k).toLoadRect hl) kk) Q) := by
  rw [← hq]
  exact s_ldrb X c h k hu

/-- A finished program. -/
theorem w_ret {α : Type} {Q : α → sProp 𝕄} {a : α} : Q a ⊢ WP c (.ret a) Q := by
  unfold WP
  rw [wp_ret]
  iintro H
  imodintro
  iexact H

end Cert.KernelIdeal.Cube
-- ==== Proof.PartsA.lean ====
/-
The program from its first load to its fourth block summed twice.
-/
module

public import proofs.«01_k».proof.Proof.Splits

@[expose] public section

noncomputable section

namespace Cert.KernelIdeal.Cube

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : Dev nD → Vec F S2048x512 .bf16) (c : Dev nD)

/-- The first operand block, into its send slot. -/
theorem p4 {v17 v21 v22 v52 v78 v84 : BitVec 32} {Q : (Σ' (v97 : BitVec 32) (v100 : BitVec 32) (v102 : BitVec 32) (v105 : BitVec 32) (v108 : BitVec 32) (v112 : BitVec 32) (v114 : BitVec 32) (v116 : BitVec 32), BitVec 32) → sProp 𝕄} :
    S X c 0 0 0 0 ⊢ iprop((S X c 0 0 0 1 -∗ rdy X c 0 1 -∗ ∀ r, Q r)
      -∗ WP c (k0_part4 (Memref.whole cc0_stg0_0) (Memref.isWhole_whole _) (Memref.whole cc0_stg1_0) (Memref.isWhole_whole _) (Memref.whole cc0_scratch0) (Memref.isWhole_whole _)
      (Memref.whole cc0_scratch1) (Memref.isWhole_whole _) (Memref.whole cc0_scratch2) (Memref.isWhole_whole _) (Memref.whole cc0_scratch3) (Memref.isWhole_whole _) cc0_scratch4
      c v17 v21 v22 v52 v78 v84) Q) := by
  rw [k0_part4_eq_skeleton]; unfold k0_part4_skel
  simp only [Prog.lift, Prog.bind_op, Prog.bind_ret, Prog.pure_eq_ret]
  iintro HS Hk
  iapply (s_ldxu X c 0 1 (partner 0 1 c) ?_) $$ HS
  · exact xoffTab_eq c 0
  iintro HS
  iapply (s_putSB X c 0 1 rfl (by decide) ?_) $$ HS
  · intro i; unfold k0_pay1; erw [shapeCast_self]; erw [shapeCast_self]; rfl
  iintro HS R01
  iapply w_ret
  iapply Hk $$ HS R01

/-- The next two operand blocks sent, a third written. -/
theorem p5 {v17 v20 v52 v79 v90 v116 : BitVec 32} {Q : (PUnit) → sProp 𝕄} :
    S X c 0 0 0 1 ⊢ iprop(rdy X c 0 1 -∗ (S X c 2 0 0 3 -∗ rdy X c 0 3 -∗ Q ⟨⟩)
      -∗ WP c (k0_part5 (Memref.whole cc0_stg0_0) (Memref.isWhole_whole _) (Memref.whole cc0_stg1_0) (Memref.isWhole_whole _) (Memref.whole cc0_scratch0) (Memref.isWhole_whole _)
      (Memref.whole cc0_scratch1) (Memref.isWhole_whole _) (Memref.whole cc0_scratch2) (Memref.isWhole_whole _) (Memref.whole cc0_scratch3) (Memref.isWhole_whole _) cc0_scratch4
      c v17 v20 v52 v79 v90 v116) Q) := by
  rw [k0_part5_eq_skeleton]; unfold k0_part5_skel
  simp only [Prog.lift, Prog.bind_op, Prog.bind_ret, Prog.pure_eq_ret]
  iintro HS R01 Hk
  iapply (s_send X c 0 1 rfl ?_) $$ HS R01
  · exact devTab_eq c 0
  iintro HS
  iapply (s_ldxu X c 1 1 (partner 1 1 c) ?_) $$ HS
  · exact xoffTab_eq c 1
  iintro HS
  iapply (s_putSB X c 1 1 rfl (by decide) ?_) $$ HS
  · intro i; unfold k0_pay2; erw [shapeCast_self]; erw [shapeCast_self]; rfl
  iintro HS R11
  iapply (s_send X c 1 1 rfl ?_) $$ HS R11
  · exact devTab_eq c 1
  iintro HS
  iapply (s_ldxu X c 0 3 (partner 0 3 c) ?_) $$ HS
  · exact xoffTab_eq c 2
  iintro HS
  iapply (s_putSB X c 0 3 rfl (by decide) ?_) $$ HS
  · intro i; unfold k0_pay3; erw [shapeCast_self]; erw [shapeCast_self]; rfl
  iintro HS R03
  iapply w_ret
  iapply Hk $$ HS R03

/-- The next two operand blocks sent, a third written. -/
theorem p6 {v17 v20 v54 v78 v90 v117 : BitVec 32} {Q : (PUnit) → sProp 𝕄} :
    S X c 2 0 0 3 ⊢ iprop(rdy X c 0 3 -∗ (S X c 4 0 0 5 -∗ rdy X c 0 0 -∗ Q ⟨⟩)
      -∗ WP c (k0_part6 (Memref.whole cc0_stg0_0) (Memref.isWhole_whole _) (Memref.whole cc0_stg1_0) (Memref.isWhole_whole _) (Memref.whole cc0_scratch0) (Memref.isWhole_whole _)
      (Memref.whole cc0_scratch1) (Memref.isWhole_whole _) (Memref.whole cc0_scratch2) (Memref.isWhole_whole _) (Memref.whole cc0_scratch3) (Memref.isWhole_whole _) cc0_scratch4
      c v17 v20 v54 v78 v90 v117) Q) := by
  rw [k0_part6_eq_skeleton]; unfold k0_part6_skel
  simp only [Prog.lift, Prog.bind_op, Prog.bind_ret, Prog.pure_eq_ret]
  iintro HS R03 Hk
  iapply (s_send X c 0 3 rfl ?_) $$ HS R03
  · exact devTab_eq c 2
  iintro HS
  iapply (s_ldxu X c 1 3 (partner 1 3 c) ?_) $$ HS
  · exact xoffTab_eq c 3
  iintro HS
  iapply (s_putSB X c 1 3 rfl (by decide) ?_) $$ HS
  · intro i; unfold k0_pay4; erw [shapeCast_self]; erw [shapeCast_self]; rfl
  iintro HS R13
  iapply (s_send X c 1 3 rfl ?_) $$ HS R13
  · exact devTab_eq c 3
  iintro HS
  iapply (s_ldxu X c 0 0 (partner 0 0 c) ?_) $$ HS
  · exact xoffTab_eq c 4
  iintro HS
  iapply (s_putSB X c 0 0 rfl (by decide) ?_) $$ HS
  · intro i; unfold k0_pay5; erw [shapeCast_self]; erw [shapeCast_self]; rfl
  iintro HS R00
  iapply w_ret
  iapply Hk $$ HS R00

/-- The next two operand blocks sent, a third written. -/
theorem p7 {v17 v20 v54 v79 v92 v116 : BitVec 32} {Q : (PUnit) → sProp 𝕄} :
    S X c 4 0 0 5 ⊢ iprop(rdy X c 0 0 -∗ (S X c 6 0 0 7 -∗ rdy X c 0 2 -∗ Q ⟨⟩)
      -∗ WP c (k0_part7 (Memref.whole cc0_stg0_0) (Memref.isWhole_whole _) (Memref.whole cc0_stg1_0) (Memref.isWhole_whole _) (Memref.whole cc0_scratch0) (Memref.isWhole_whole _)
      (Memref.whole cc0_scratch1) (Memref.isWhole_whole _) (Memref.whole cc0_scratch2) (Memref.isWhole_whole _) (Memref.whole cc0_scratch3) (Memref.isWhole_whole _) cc0_scratch4
      c v17 v20 v54 v79 v92 v116) Q) := by
  rw [k0_part7_eq_skeleton]; unfold k0_part7_skel
  simp only [Prog.lift, Prog.bind_op, Prog.bind_ret, Prog.pure_eq_ret]
  iintro HS R00 Hk
  iapply (s_send X c 0 0 rfl ?_) $$ HS R00
  · exact devTab_eq c 4
  iintro HS
  iapply (s_ldxu X c 1 0 (partner 1 0 c) ?_) $$ HS
  · exact xoffTab_eq c 5
  iintro HS
  iapply (s_putSB X c 1 0 rfl (by decide) ?_) $$ HS
  · intro i; unfold k0_pay6; erw [shapeCast_self]; erw [shapeCast_self]; rfl
  iintro HS R10
  iapply (s_send X c 1 0 rfl ?_) $$ HS R10
  · exact devTab_eq c 5
  iintro HS
  iapply (s_ldxu X c 0 2 (partner 0 2 c) ?_) $$ HS
  · exact xoffTab_eq c 6
  iintro HS
  iapply (s_putSB X c 0 2 rfl (by decide) ?_) $$ HS
  · intro i; unfold k0_pay7; erw [shapeCast_self]; erw [shapeCast_self]; rfl
  iintro HS R02
  iapply w_ret
  iapply Hk $$ HS R02

/-- The last operand blocks sent, the first received. -/
theorem p8 {v17 v20 v49 v78 v92 v117 : BitVec 32} {Q : (Σ' (v244 : BitVec 32), Vec F S256x256 .bf16) → sProp 𝕄} :
    S X c 6 0 0 7 ⊢ iprop(rdy X c 0 2 -∗ (S X c 8 1 0 8 -∗ got X c 0 1 fullShare -∗ ∀ b, Q ⟨b, cut (X c) 0 1 c⟩)
      -∗ WP c (k0_part8 (Memref.whole cc0_stg0_0) (Memref.isWhole_whole _) (Memref.whole cc0_stg1_0) (Memref.isWhole_whole _) (Memref.whole cc0_scratch0) (Memref.isWhole_whole _)
      (Memref.whole cc0_scratch1) (Memref.isWhole_whole _) (Memref.whole cc0_scratch2) (Memref.isWhole_whole _) (Memref.whole cc0_scratch3) (Memref.isWhole_whole _) cc0_scratch4
      c v17 v20 v49 v78 v92 v117) Q) := by
  rw [k0_part8_eq_skeleton]; unfold k0_part8_skel
  simp only [Prog.lift, Prog.bind_op, Prog.bind_ret, Prog.pure_eq_ret]
  iintro HS R02 Hk
  iapply (s_send X c 0 2 rfl ?_) $$ HS R02
  · exact devTab_eq c 6
  iintro HS
  iapply (s_ldxu X c 1 2 (partner 1 2 c) ?_) $$ HS
  · exact xoffTab_eq c 7
  iintro HS
  iapply (s_putSB X c 1 2 rfl (by decide) ?_) $$ HS
  · intro i; unfold k0_pay8; erw [shapeCast_self]; erw [shapeCast_self]; rfl
  iintro HS R12
  iapply (s_send X c 1 2 rfl ?_) $$ HS R12
  · exact devTab_eq c 7
  iintro HS
  iapply (s_recv X c 0 1 rfl (by decide) ?_) $$ HS
  · exact NC_eq 0 1
  iintro HS V01
  iapply (s_ldxu X c 0 1 c ?_) $$ HS
  · exact offTab_eq c 0
  iintro HS
  iapply w_ret
  iapply Hk $$ HS V01

/-- The first sum, and its transfer. -/
theorem p9 {v20 v49 v78 v87 v116 v244 : BitVec 32} {f0 : Vec F S2048x512 .bf16} {Q : (BitVec 32) → sProp 𝕄} :
    S X c 8 1 0 8 ⊢ iprop(got X c 0 1 fullShare -∗ O 0 1 c f0 -∗ (S X c 9 2 1 9 -∗ got X c 1 1 fullShare -∗ O 0 1 c (T1 X 0 c) -∗ ∀ r, Q r)
      -∗ WP c (k0_part9 (Memref.whole cc0_stg0_0) (Memref.isWhole_whole _) (Memref.whole cc0_stg1_0) (Memref.isWhole_whole _) (Memref.whole cc0_scratch0) (Memref.isWhole_whole _)
      (Memref.whole cc0_scratch1) (Memref.isWhole_whole _) (Memref.whole cc0_scratch2) (Memref.isWhole_whole _) (Memref.whole cc0_scratch3) (Memref.isWhole_whole _) cc0_scratch4
      c v20 v49 v78 v87 v116 v244 (cut (X c) 0 1 c)) Q) := by
  rw [k0_part9_eq_skeleton]; unfold k0_part9_skel
  simp only [Prog.lift, Prog.bind_op, Prog.bind_ret, Prog.pure_eq_ret]
  iintro HS V01 O01 Hk
  iapply (s_ldrbF X c 0 1 rfl rfl) $$ HS V01
  iintro HS
  iapply (o_put c 0 1 (T1 X 0 c) ?_ ?_) $$ O01
  · exact offTab_eq c 0
  · intro i; unfold k0_pay9; erw [shapeCast_self]; rfl
  iintro O01
  iapply (o_ldc c 0 1 ?_) $$ O01
  · exact offTab_eq c 0
  iintro O01
  iapply (s_putSB X c 0 4 rfl (by decide) ?_) $$ HS
  · intro i; unfold k0_pay10; erw [shapeCast_self]; erw [shapeCast_self]; exact congrArg (T1 X 0 c) (u_same (src_off c 0 4 (by decide)) i i fun _ => rfl)
  iintro HS R04
  iapply (s_send X c 0 4 rfl ?_) $$ HS R04
  · exact devTab_eq c 8
  iintro HS
  iapply (s_recv X c 1 1 rfl (by decide) ?_) $$ HS
  · exact NC_eq 1 1
  iintro HS V11
  iapply w_ret
  iapply Hk $$ HS V11 O01

/-- The same in the other half. -/
theorem p10 {v17 v87 v116 v277 : BitVec 32} {f0 : Vec F S2048x512 .bf16} {Q : (PUnit) → sProp 𝕄} :
    S X c 9 2 1 9 ⊢ iprop(got X c 1 1 fullShare -∗ O 1 1 c f0 -∗ (S X c 10 2 2 10 -∗ O 1 1 c (T1 X 1 c) -∗ Q ⟨⟩)
      -∗ WP c (k0_part10 (Memref.whole cc0_stg0_0) (Memref.isWhole_whole _) (Memref.whole cc0_stg1_0) (Memref.isWhole_whole _) (Memref.whole cc0_scratch0) (Memref.isWhole_whole _)
      (Memref.whole cc0_scratch1) (Memref.isWhole_whole _) (Memref.whole cc0_scratch2) (Memref.isWhole_whole _) (Memref.whole cc0_scratch3) (Memref.isWhole_whole _) cc0_scratch4
      c v17 v87 v116 v277) Q) := by
  rw [k0_part10_eq_skeleton]; unfold k0_part10_skel
  simp only [Prog.lift, Prog.bind_op, Prog.bind_ret, Prog.pure_eq_ret]
  iintro HS V11 O11 Hk
  iapply (s_ldxu X c 1 1 c ?_) $$ HS
  · exact offTab_eq c 1
  iintro HS
  iapply (s_ldrbF X c 1 1 rfl rfl) $$ HS V11
  iintro HS
  iapply (o_put c 1 1 (T1 X 1 c) ?_ ?_) $$ O11
  · exact offTab_eq c 1
  · intro i; unfold k0_pay11; erw [shapeCast_self]; rfl
  iintro O11
  iapply (o_ldc c 1 1 ?_) $$ O11
  · exact offTab_eq c 1
  iintro O11
  iapply (s_putSB X c 1 4 rfl (by decide) ?_) $$ HS
  · intro i; unfold k0_pay12; erw [shapeCast_self]; erw [shapeCast_self]; exact congrArg (T1 X 1 c) (u_same (src_off c 1 4 (by decide)) i i fun _ => rfl)
  iintro HS R14
  iapply (s_send X c 1 4 rfl ?_) $$ HS R14
  · exact devTab_eq c 9
  iintro HS
  iapply w_ret
  iapply Hk $$ HS O11

/-- The second sum, and its transfer. -/
theorem p11 {v20 v49 v79 : BitVec 32} {f0 : Vec F S2048x512 .bf16} {Q : (PUnit) → sProp 𝕄} :
    S X c 10 2 2 10 ⊢ iprop(O 0 3 c f0 -∗ (S X c 11 3 3 11 -∗ O 0 3 c (T1 X 0 c) -∗ Q ⟨⟩)
      -∗ WP c (k0_part11 (Memref.whole cc0_stg0_0) (Memref.isWhole_whole _) (Memref.whole cc0_stg1_0) (Memref.isWhole_whole _) (Memref.whole cc0_scratch0) (Memref.isWhole_whole _)
      (Memref.whole cc0_scratch1) (Memref.isWhole_whole _) (Memref.whole cc0_scratch2) (Memref.isWhole_whole _) (Memref.whole cc0_scratch3) (Memref.isWhole_whole _) cc0_scratch4
      c v20 v49 v79) Q) := by
  rw [k0_part11_eq_skeleton]; unfold k0_part11_skel
  simp only [Prog.lift, Prog.bind_op, Prog.bind_ret, Prog.pure_eq_ret]
  iintro HS O03 Hk
  iapply (s_recv X c 0 3 rfl (by decide) ?_) $$ HS
  · exact NC_eq 0 3
  iintro HS V03
  iapply (s_ldxu X c 0 3 c ?_) $$ HS
  · exact offTab_eq c 2
  iintro HS
  iapply (s_ldrbF X c 0 3 rfl rfl) $$ HS V03
  iintro HS
  iapply (o_put c 0 3 (T1 X 0 c) ?_ ?_) $$ O03
  · exact offTab_eq c 2
  · intro i; unfold k0_pay13; erw [shapeCast_self]; rfl
  iintro O03
  iapply (o_ldc c 0 3 ?_) $$ O03
  · exact offTab_eq c 2
  iintro O03
  iapply (s_putSB X c 0 5 rfl (by decide) ?_) $$ HS
  · intro i; unfold k0_pay14; erw [shapeCast_self]; erw [shapeCast_self]; exact congrArg (T1 X 0 c) (u_same (src_off c 0 5 (by decide)) i i fun _ => rfl)
  iintro HS R05
  iapply (s_send X c 0 5 rfl ?_) $$ HS R05
  · exact devTab_eq c 10
  iintro HS
  iapply w_ret
  iapply Hk $$ HS O03

/-- The same in the other half. -/
theorem p12 {v17 v87 v117 : BitVec 32} {f0 : Vec F S2048x512 .bf16} {Q : (BitVec 32) → sProp 𝕄} :
    S X c 11 3 3 11 ⊢ iprop(O 1 3 c f0 -∗ (S X c 12 4 4 12 -∗ O 1 3 c (T1 X 1 c) -∗ ∀ r, Q r)
      -∗ WP c (k0_part12 (Memref.whole cc0_stg0_0) (Memref.isWhole_whole _) (Memref.whole cc0_stg1_0) (Memref.isWhole_whole _) (Memref.whole cc0_scratch0) (Memref.isWhole_whole _)
      (Memref.whole cc0_scratch1) (Memref.isWhole_whole _) (Memref.whole cc0_scratch2) (Memref.isWhole_whole _) (Memref.whole cc0_scratch3) (Memref.isWhole_whole _) cc0_scratch4
      c v17 v87 v117) Q) := by
  rw [k0_part12_eq_skeleton]; unfold k0_part12_skel
  simp only [Prog.lift, Prog.bind_op, Prog.bind_ret, Prog.pure_eq_ret]
  iintro HS O13 Hk
  iapply (s_recv X c 1 3 rfl (by decide) ?_) $$ HS
  · exact NC_eq 1 3
  iintro HS V13
  iapply (s_ldxu X c 1 3 c ?_) $$ HS
  · exact offTab_eq c 3
  iintro HS
  iapply (s_ldrbF X c 1 3 rfl rfl) $$ HS V13
  iintro HS
  iapply (o_put c 1 3 (T1 X 1 c) ?_ ?_) $$ O13
  · exact offTab_eq c 3
  · intro i; unfold k0_pay15; erw [shapeCast_self]; rfl
  iintro O13
  iapply (o_ldc c 1 3 ?_) $$ O13
  · exact offTab_eq c 3
  iintro O13
  iapply (s_putSB X c 1 5 rfl (by decide) ?_) $$ HS
  · intro i; unfold k0_pay16; erw [shapeCast_self]; erw [shapeCast_self]; exact congrArg (T1 X 1 c) (u_same (src_off c 1 5 (by decide)) i i fun _ => rfl)
  iintro HS R15
  iapply (s_send X c 1 5 rfl ?_) $$ HS R15
  · exact devTab_eq c 11
  iintro HS
  iapply w_ret
  iapply Hk $$ HS O13

/-- The third block summed once and again. -/
theorem p13 {v20 v62 v370 : BitVec 32} {f0 : Vec F S2048x512 .bf16} {Q : (FVec F S256x256 .bf16) → sProp 𝕄} :
    S X c 12 4 4 12 ⊢ iprop(O 0 0 c f0 -∗ (S X c 12 6 6 12 -∗ O 0 0 c (T2 X 0 c) -∗ Q (k0_pay19 (cut (T2 X 0 c) 0 0 c)))
      -∗ WP c (k0_part13 (Memref.whole cc0_stg0_0) (Memref.isWhole_whole _) (Memref.whole cc0_stg1_0) (Memref.isWhole_whole _) (Memref.whole cc0_scratch0) (Memref.isWhole_whole _)
      (Memref.whole cc0_scratch1) (Memref.isWhole_whole _) (Memref.whole cc0_scratch2) (Memref.isWhole_whole _) (Memref.whole cc0_scratch3) (Memref.isWhole_whole _) cc0_scratch4
      c v20 v62 v370) Q) := by
  rw [k0_part13_eq_skeleton]; unfold k0_part13_skel
  simp only [Prog.lift, Prog.bind_op, Prog.bind_ret, Prog.pure_eq_ret]
  iintro HS O00 Hk
  iapply (s_recv X c 0 0 rfl (by decide) ?_) $$ HS
  · exact NC_eq 0 0
  iintro HS V00
  iapply (s_ldxu X c 0 0 c ?_) $$ HS
  · exact offTab_eq c 4
  iintro HS
  iapply (s_ldrbF X c 0 0 rfl rfl) $$ HS V00
  iintro HS
  iapply (o_put c 0 0 (T1 X 0 c) ?_ ?_) $$ O00
  · exact offTab_eq c 4
  · intro i; unfold k0_pay17; erw [shapeCast_self]; rfl
  iintro O00
  iapply (s_recv X c 0 4 rfl (by decide) ?_) $$ HS
  · exact NC_eq 0 4
  iintro HS V04
  iapply (o_ldc c 0 0 ?_) $$ O00
  · exact offTab_eq c 4
  iintro O00
  iapply (s_ldrbF X c 0 4 rfl rfl) $$ HS V04
  iintro HS
  iapply (o_put c 0 0 (T2 X 0 c) ?_ ?_) $$ O00
  · exact offTab_eq c 4
  · intro i; unfold k0_pay18; erw [shapeCast_self]; rfl
  iintro O00
  iapply (o_ldc c 0 0 ?_) $$ O00
  · exact offTab_eq c 4
  iintro O00
  iapply w_ret
  iapply Hk $$ HS O00

/-- Its transfer; the other half's block summed once. -/
theorem p14 {v20 v27 v100 : BitVec 32} {f0 : Vec F S2048x512 .bf16} {Q : (PUnit) → sProp 𝕄} :
    S X c 12 6 6 12 ⊢ iprop(O 1 0 c f0 -∗ (S X c 13 7 7 13 -∗ O 1 0 c (T1 X 1 c) -∗ Q ⟨⟩)
      -∗ WP c (k0_part14 (Memref.whole cc0_stg0_0) (Memref.isWhole_whole _) (Memref.whole cc0_stg1_0) (Memref.isWhole_whole _) (Memref.whole cc0_scratch0) (Memref.isWhole_whole _)
      (Memref.whole cc0_scratch1) (Memref.isWhole_whole _) (Memref.whole cc0_scratch2) (Memref.isWhole_whole _) (Memref.whole cc0_scratch3) (Memref.isWhole_whole _) cc0_scratch4
      c v20 v27 v100 (k0_pay19 (cut (T2 X 0 c) 0 0 c))) Q) := by
  rw [k0_part14_eq_skeleton]; unfold k0_part14_skel
  simp only [Prog.lift, Prog.bind_op, Prog.bind_ret, Prog.pure_eq_ret]
  iintro HS O10 Hk
  iapply (s_putSB X c 0 6 rfl (by decide) ?_) $$ HS
  · intro i; unfold k0_pay20 k0_pay19; erw [shapeCast_self]; erw [shapeCast_self]; exact congrArg (T2 X 0 c) (u_same (src_off c 0 6 (by decide)) i i fun _ => rfl)
  iintro HS R06
  iapply (s_send X c 0 6 rfl ?_) $$ HS R06
  · exact devTab_eq c 12
  iintro HS
  iapply (s_recv X c 1 0 rfl (by decide) ?_) $$ HS
  · exact NC_eq 1 0
  iintro HS V10
  iapply (s_ldxu X c 1 0 c ?_) $$ HS
  · exact offTab_eq c 5
  iintro HS
  iapply (s_ldrbF X c 1 0 rfl rfl) $$ HS V10
  iintro HS
  iapply (o_put c 1 0 (T1 X 1 c) ?_ ?_) $$ O10
  · exact offTab_eq c 5
  · intro i; unfold k0_pay21; erw [shapeCast_self]; rfl
  iintro O10
  iapply w_ret
  iapply Hk $$ HS O10

/-- The other half's block summed again, and its transfer. -/
theorem p15 {v17 v32 v100 : BitVec 32} {Q : (BitVec 32) → sProp 𝕄} :
    S X c 13 7 7 13 ⊢ iprop(O 1 0 c (T1 X 1 c) -∗ (S X c 14 8 8 14 -∗ O 1 0 c (T2 X 1 c) -∗ ∀ r, Q r)
      -∗ WP c (k0_part15 (Memref.whole cc0_stg0_0) (Memref.isWhole_whole _) (Memref.whole cc0_stg1_0) (Memref.isWhole_whole _) (Memref.whole cc0_scratch0) (Memref.isWhole_whole _)
      (Memref.whole cc0_scratch1) (Memref.isWhole_whole _) (Memref.whole cc0_scratch2) (Memref.isWhole_whole _) (Memref.whole cc0_scratch3) (Memref.isWhole_whole _) cc0_scratch4
      c v17 v32 v100) Q) := by
  rw [k0_part15_eq_skeleton]; unfold k0_part15_skel
  simp only [Prog.lift, Prog.bind_op, Prog.bind_ret, Prog.pure_eq_ret]
  iintro HS O10 Hk
  iapply (s_recv X c 1 4 rfl (by decide) ?_) $$ HS
  · exact NC_eq 1 4
  iintro HS V14
  iapply (o_ldc c 1 0 ?_) $$ O10
  · exact offTab_eq c 5
  iintro O10
  iapply (s_ldrbF X c 1 4 rfl rfl) $$ HS V14
  iintro HS
  iapply (o_put c 1 0 (T2 X 1 c) ?_ ?_) $$ O10
  · exact offTab_eq c 5
  · intro i; unfold k0_pay22; erw [shapeCast_self]; rfl
  iintro O10
  iapply (o_ldc c 1 0 ?_) $$ O10
  · exact offTab_eq c 5
  iintro O10
  iapply (s_putSB X c 1 6 rfl (by decide) ?_) $$ HS
  · intro i; unfold k0_pay23; erw [shapeCast_self]; erw [shapeCast_self]; exact congrArg (T2 X 1 c) (u_same (src_off c 1 6 (by decide)) i i fun _ => rfl)
  iintro HS R16
  iapply (s_send X c 1 6 rfl ?_) $$ HS R16
  · exact devTab_eq c 13
  iintro HS
  iapply w_ret
  iapply Hk $$ HS O10

/-- The fourth block summed twice. -/
theorem p16 {v20 v59 v456 : BitVec 32} {f0 : Vec F S2048x512 .bf16} {Q : (BitVec 32) → sProp 𝕄} :
    S X c 14 8 8 14 ⊢ iprop(O 0 2 c f0 -∗ (S X c 14 10 10 14 -∗ O 0 2 c (T2 X 0 c) -∗ ∀ r, Q r)
      -∗ WP c (k0_part16 (Memref.whole cc0_stg0_0) (Memref.isWhole_whole _) (Memref.whole cc0_stg1_0) (Memref.isWhole_whole _) (Memref.whole cc0_scratch0) (Memref.isWhole_whole _)
      (Memref.whole cc0_scratch1) (Memref.isWhole_whole _) (Memref.whole cc0_scratch2) (Memref.isWhole_whole _) (Memref.whole cc0_scratch3) (Memref.isWhole_whole _) cc0_scratch4
      c v20 v59 v456) Q) := by
  rw [k0_part16_eq_skeleton]; unfold k0_part16_skel
  simp only [Prog.lift, Prog.bind_op, Prog.bind_ret, Prog.pure_eq_ret]
  iintro HS O02 Hk
  iapply (s_recv X c 0 2 rfl (by decide) ?_) $$ HS
  · exact NC_eq 0 2
  iintro HS V02
  iapply (s_ldxu X c 0 2 c ?_) $$ HS
  · exact offTab_eq c 6
  iintro HS
  iapply (s_ldrbF X c 0 2 rfl rfl) $$ HS V02
  iintro HS
  iapply (o_put c 0 2 (T1 X 0 c) ?_ ?_) $$ O02
  · exact offTab_eq c 6
  · intro i; unfold k0_pay24; erw [shapeCast_self]; rfl
  iintro O02
  iapply (s_recv X c 0 5 rfl (by decide) ?_) $$ HS
  · exact NC_eq 0 5
  iintro HS V05
  iapply (o_ldc c 0 2 ?_) $$ O02
  · exact offTab_eq c 6
  iintro O02
  iapply (s_ldrbF X c 0 5 rfl rfl) $$ HS V05
  iintro HS
  iapply (o_put c 0 2 (T2 X 0 c) ?_ ?_) $$ O02
  · exact offTab_eq c 6
  · intro i; unfold k0_pay25; erw [shapeCast_self]; rfl
  iintro O02
  iapply w_ret
  iapply Hk $$ HS O02

/-- The same in the other half. -/
theorem p17 {v17 v20 v97 c1_i32_397 : BitVec 32} {f0 : Vec F S2048x512 .bf16} {Q : (PUnit) → sProp 𝕄} :
    S X c 14 10 10 14 ⊢ iprop(O 1 2 c f0 -∗ (S X c 14 12 12 14 -∗ O 1 2 c (T2 X 1 c) -∗ Q ⟨⟩)
      -∗ WP c (k0_part17 (Memref.whole cc0_stg0_0) (Memref.isWhole_whole _) (Memref.whole cc0_stg1_0) (Memref.isWhole_whole _) (Memref.whole cc0_scratch0) (Memref.isWhole_whole _)
      (Memref.whole cc0_scratch1) (Memref.isWhole_whole _) (Memref.whole cc0_scratch2) (Memref.isWhole_whole _) (Memref.whole cc0_scratch3) (Memref.isWhole_whole _) cc0_scratch4
      c v17 v20 v97 c1_i32_397) Q) := by
  rw [k0_part17_eq_skeleton]; unfold k0_part17_skel
  simp only [Prog.lift, Prog.bind_op, Prog.bind_ret, Prog.pure_eq_ret]
  iintro HS O12 Hk
  iapply (s_recv X c 1 2 rfl (by decide) ?_) $$ HS
  · exact NC_eq 1 2
  iintro HS V12
  iapply (s_ldxu X c 1 2 c ?_) $$ HS
  · exact offTab_eq c 7
  iintro HS
  iapply (s_ldrbF X c 1 2 rfl rfl) $$ HS V12
  iintro HS
  iapply (o_put c 1 2 (T1 X 1 c) ?_ ?_) $$ O12
  · exact offTab_eq c 7
  · intro i; unfold k0_pay26; erw [shapeCast_self]; rfl
  iintro O12
  iapply (s_recv X c 1 5 rfl (by decide) ?_) $$ HS
  · exact NC_eq 1 5
  iintro HS V15
  iapply (o_ldc c 1 2 ?_) $$ O12
  · exact offTab_eq c 7
  iintro O12
  iapply (s_ldrbF X c 1 5 rfl rfl) $$ HS V15
  iintro HS
  iapply (o_put c 1 2 (T2 X 1 c) ?_ ?_) $$ O12
  · exact offTab_eq c 7
  · intro i; unfold k0_pay27; erw [shapeCast_self]; rfl
  iintro O12
  iapply w_ret
  iapply Hk $$ HS O12

end Cert.KernelIdeal.Cube
-- ==== Proof.PartsB.lean ====
/-
The program from its own blocks complete to the last transfers.
-/
module

public import proofs.«01_k».proof.Proof.Splits

@[expose] public section

noncomputable section

namespace Cert.KernelIdeal.Cube

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : Dev nD → Vec F S2048x512 .bf16) (c : Dev nD)

/-- The fourth block summed a third time; the neighbour's part of it sent. -/
theorem p18 {v27 v32 v59 v67 : BitVec 32} {Q : (BitVec 32) → sProp 𝕄} :
    S X c 14 12 12 14 ⊢ iprop(O 0 2 c (T2 X 0 c) -∗ (S X c 15 13 13 15 -∗ O 0 7 c (T3 X 0 c) -∗ O 0 8 c (T3 X 0 c) -∗ ∀ r, Q r)
      -∗ WP c (k0_part18 (Memref.whole cc0_stg0_0) (Memref.isWhole_whole _) (Memref.whole cc0_stg1_0) (Memref.isWhole_whole _) (Memref.whole cc0_scratch0) (Memref.isWhole_whole _)
      (Memref.whole cc0_scratch1) (Memref.isWhole_whole _) (Memref.whole cc0_scratch2) (Memref.isWhole_whole _) (Memref.whole cc0_scratch3) (Memref.isWhole_whole _) cc0_scratch4
      c v27 v32 v59 v67) Q) := by
  rw [k0_part18_eq_skeleton]; unfold k0_part18_skel
  simp only [Prog.lift, Prog.bind_op, Prog.bind_ret, Prog.pure_eq_ret]
  iintro HS O02 Hk
  iapply (s_recv X c 0 6 rfl (by decide) ?_) $$ HS
  · exact NC_eq 0 6
  iintro HS V06
  iapply (o_ldc c 0 2 ?_) $$ O02
  · exact offTab_eq c 6
  iintro O02
  iapply (s_ldrbF X c 0 6 rfl rfl) $$ HS V06
  iintro HS
  iapply (o_put c 0 2 (T3 X 0 c) ?_ ?_) $$ O02
  · exact offTab_eq c 6
  · intro i; unfold k0_pay28; erw [shapeCast_self]; rfl
  iintro O02
  ihave O02 := (Entails.of_eq (O_two c 0 (T3 X 0 c))) $$ O02
  icases O02 with ⟨O07, O08⟩
  iapply (o_ldc c 0 8 ?_) $$ O08
  · exact offTab_eq c 8
  iintro O08
  iapply (s_putSB X c 0 7 rfl (by decide) ?_) $$ HS
  · intro i; unfold k0_pay29; erw [shapeCast_self]; erw [shapeCast_self]; exact congrArg (T3 X 0 c) (u_same (src_off c 0 7 (by decide)) i i fun _ => rfl)
  iintro HS R07
  iapply (s_send X c 0 7 rfl ?_) $$ HS R07
  · exact devTab_eq c 14
  iintro HS
  iapply w_ret
  iapply Hk $$ HS O07 O08

/-- The same in the other half. -/
theorem p19 {v27 v32 v97 v105 v541 : BitVec 32} {Q : (PUnit) → sProp 𝕄} :
    S X c 15 13 13 15 ⊢ iprop(O 1 2 c (T2 X 1 c) -∗ (S X c 16 14 14 16 -∗ O 1 7 c (T3 X 1 c) -∗ O 1 8 c (T3 X 1 c) -∗ Q ⟨⟩)
      -∗ WP c (k0_part19 (Memref.whole cc0_stg0_0) (Memref.isWhole_whole _) (Memref.whole cc0_stg1_0) (Memref.isWhole_whole _) (Memref.whole cc0_scratch0) (Memref.isWhole_whole _)
      (Memref.whole cc0_scratch1) (Memref.isWhole_whole _) (Memref.whole cc0_scratch2) (Memref.isWhole_whole _) (Memref.whole cc0_scratch3) (Memref.isWhole_whole _) cc0_scratch4
      c v27 v32 v97 v105 v541) Q) := by
  rw [k0_part19_eq_skeleton]; unfold k0_part19_skel
  simp only [Prog.lift, Prog.bind_op, Prog.bind_ret, Prog.pure_eq_ret]
  iintro HS O12 Hk
  iapply (s_recv X c 1 6 rfl (by decide) ?_) $$ HS
  · exact NC_eq 1 6
  iintro HS V16
  iapply (o_ldc c 1 2 ?_) $$ O12
  · exact offTab_eq c 7
  iintro O12
  iapply (s_ldrbF X c 1 6 rfl rfl) $$ HS V16
  iintro HS
  iapply (o_put c 1 2 (T3 X 1 c) ?_ ?_) $$ O12
  · exact offTab_eq c 7
  · intro i; unfold k0_pay30; erw [shapeCast_self]; rfl
  iintro O12
  ihave O12 := (Entails.of_eq (O_two c 1 (T3 X 1 c))) $$ O12
  icases O12 with ⟨O17, O18⟩
  iapply (o_ldc c 1 8 ?_) $$ O18
  · exact offTab_eq c 9
  iintro O18
  iapply (s_putSB X c 1 7 rfl (by decide) ?_) $$ HS
  · intro i; unfold k0_pay31; erw [shapeCast_self]; erw [shapeCast_self]; exact congrArg (T3 X 1 c) (u_same (src_off c 1 7 (by decide)) i i fun _ => rfl)
  iintro HS R17
  iapply (s_send X c 1 7 rfl ?_) $$ HS R17
  · exact devTab_eq c 15
  iintro HS
  iapply w_ret
  iapply Hk $$ HS O17 O18

/-- A device's own block complete, and where it is sent from. -/
theorem p20 {v22 v32 v64 : BitVec 32} {Q : (PUnit) → sProp 𝕄} :
    S X c 16 14 14 16 ⊢ iprop(O 0 7 c (T3 X 0 c) -∗ (S X c 16 15 15 20 -∗ O 0 7 c (G X) -∗ nine X c 0 -∗ nineAny' c 0 -∗ rdy X c 0 8 -∗ rdy X c 0 10 -∗ rdy X c 0 13 -∗ Q ⟨⟩)
      -∗ WP c (k0_part20 (Memref.whole cc0_stg0_0) (Memref.isWhole_whole _) (Memref.whole cc0_stg1_0) (Memref.isWhole_whole _) (Memref.whole cc0_scratch0) (Memref.isWhole_whole _)
      (Memref.whole cc0_scratch1) (Memref.isWhole_whole _) (Memref.whole cc0_scratch2) (Memref.isWhole_whole _) (Memref.whole cc0_scratch3) (Memref.isWhole_whole _) cc0_scratch4
      c v22 v32 v64) Q) := by
  rw [k0_part20_eq_skeleton]; unfold k0_part20_skel
  simp only [Prog.lift, Prog.bind_op, Prog.bind_ret, Prog.pure_eq_ret]
  iintro HS O07 Hk
  iapply (s_recv X c 0 7 rfl (by decide) ?_) $$ HS
  · exact NC_eq 0 7
  iintro HS V07
  iapply (o_ldc c 0 7 ?_) $$ O07
  · exact offTab_eq c 10
  iintro O07
  iapply (s_ldrbF X c 0 7 rfl rfl) $$ HS V07
  iintro HS
  iapply (o_put c 0 7 (G X) ?_ ?_) $$ O07
  · exact offTab_eq c 10
  · intro i; unfold k0_pay32; erw [shapeCast_self]; exact G_seven X c 0 i
  iintro O07
  iapply (s_putSB X c 0 8 rfl (by decide) ?_) $$ HS
  · intro i; unfold k0_pay33 k0_pay32; erw [shapeCast_self]; erw [shapeCast_self]; exact (G_seven X c 0 i).trans (congrArg (G X) (u_same (src_off c 0 8 (by decide)) i i fun _ => rfl))
  iintro HS R08
  ihave HS := (s_take X c (0, 9) rfl) $$ HS
  icases HS with ⟨HS, H9⟩
  ihave H9 := (nine_split c 0) $$ H9
  icases H9 with ⟨N0, M0⟩
  iapply (nine_st X c 0 ?_ ?_) $$ N0
  · exact (off_half9 c).1
  · intro i; unfold k0_pay34 k0_pay32; erw [shapeCast_self]; erw [shapeCast_self]; exact G_seven X c 0 i
  iintro N0
  iapply (s_putSB X c 0 10 rfl (by decide) ?_) $$ HS
  · intro i; unfold k0_pay35 k0_pay32; erw [shapeCast_self]; erw [shapeCast_self]; exact (G_seven X c 0 i).trans (congrArg (G X) (u_same (src_off c 0 10 (by decide)) i i fun _ => rfl))
  iintro HS R010
  iapply (s_putSB X c 0 13 rfl (by decide) ?_) $$ HS
  · intro i; unfold k0_pay36 k0_pay32; erw [shapeCast_self]; erw [shapeCast_self]; exact (G_seven X c 0 i).trans (congrArg (G X) (u_same (src_off c 0 13 (by decide)) i i fun _ => rfl))
  iintro HS R013
  iapply w_ret
  iapply Hk $$ HS O07 N0 M0 R08 R010 R013

/-- Its three transfers. -/
theorem p21 {v17 v20 v27 : BitVec 32} {Q : (PUnit) → sProp 𝕄} :
    S X c 16 15 15 20 ⊢ iprop(rdy X c 0 8 -∗ rdy X c 0 10 -∗ rdy X c 0 13 -∗ (S X c 19 15 15 20 -∗ Q ⟨⟩)
      -∗ WP c (k0_part21 (Memref.whole cc0_stg0_0) (Memref.isWhole_whole _) (Memref.whole cc0_stg1_0) (Memref.isWhole_whole _) (Memref.whole cc0_scratch0) (Memref.isWhole_whole _)
      (Memref.whole cc0_scratch1) (Memref.isWhole_whole _) (Memref.whole cc0_scratch2) (Memref.isWhole_whole _) (Memref.whole cc0_scratch3) (Memref.isWhole_whole _) cc0_scratch4
      c v17 v20 v27) Q) := by
  rw [k0_part21_eq_skeleton]; unfold k0_part21_skel
  simp only [Prog.lift, Prog.bind_op, Prog.bind_ret, Prog.pure_eq_ret]
  iintro HS R08 R010 R013 Hk
  iapply (s_send X c 0 8 rfl ?_) $$ HS R08
  · exact devTab_eq c 16
  iintro HS
  iapply (s_send X c 0 10 rfl ?_) $$ HS R010
  · exact devTab_eq c 17
  iintro HS
  iapply (s_send X c 0 13 rfl ?_) $$ HS R013
  · exact devTab_eq c 18
  iintro HS
  iapply w_ret
  iapply Hk $$ HS

/-- The other half's own block. -/
theorem p22 {v21 v27 v102 : BitVec 32} {Q : (PUnit) → sProp 𝕄} :
    S X c 19 15 15 20 ⊢ iprop(O 1 7 c (T3 X 1 c) -∗ (S X c 19 16 16 24 -∗ O 1 7 c (G X) -∗ nine X c 1 -∗ nineAny' c 1 -∗ rdy X c 1 8 -∗ rdy X c 1 10 -∗ rdy X c 1 13 -∗ Q ⟨⟩)
      -∗ WP c (k0_part22 (Memref.whole cc0_stg0_0) (Memref.isWhole_whole _) (Memref.whole cc0_stg1_0) (Memref.isWhole_whole _) (Memref.whole cc0_scratch0) (Memref.isWhole_whole _)
      (Memref.whole cc0_scratch1) (Memref.isWhole_whole _) (Memref.whole cc0_scratch2) (Memref.isWhole_whole _) (Memref.whole cc0_scratch3) (Memref.isWhole_whole _) cc0_scratch4
      c v21 v27 v102) Q) := by
  rw [k0_part22_eq_skeleton]; unfold k0_part22_skel
  simp only [Prog.lift, Prog.bind_op, Prog.bind_ret, Prog.pure_eq_ret]
  iintro HS O17 Hk
  iapply (s_recv X c 1 7 rfl (by decide) ?_) $$ HS
  · exact NC_eq 1 7
  iintro HS V17
  iapply (o_ldc c 1 7 ?_) $$ O17
  · exact offTab_eq c 11
  iintro O17
  iapply (s_ldrbF X c 1 7 rfl rfl) $$ HS V17
  iintro HS
  iapply (o_put c 1 7 (G X) ?_ ?_) $$ O17
  · exact offTab_eq c 11
  · intro i; unfold k0_pay37; erw [shapeCast_self]; exact G_seven X c 1 i
  iintro O17
  iapply (s_putSB X c 1 8 rfl (by decide) ?_) $$ HS
  · intro i; unfold k0_pay38 k0_pay37; erw [shapeCast_self]; erw [shapeCast_self]; exact (G_seven X c 1 i).trans (congrArg (G X) (u_same (src_off c 1 8 (by decide)) i i fun _ => rfl))
  iintro HS R18
  ihave HS := (s_take X c (1, 9) rfl) $$ HS
  icases HS with ⟨HS, H9⟩
  ihave H9 := (nine_split c 1) $$ H9
  icases H9 with ⟨N1, M1⟩
  iapply (nine_st X c 1 ?_ ?_) $$ N1
  · exact (off_half9 c).2.1
  · intro i; unfold k0_pay39 k0_pay37; erw [shapeCast_self]; erw [shapeCast_self]; exact G_seven X c 1 i
  iintro N1
  iapply (s_putSB X c 1 10 rfl (by decide) ?_) $$ HS
  · intro i; unfold k0_pay40 k0_pay37; erw [shapeCast_self]; erw [shapeCast_self]; exact (G_seven X c 1 i).trans (congrArg (G X) (u_same (src_off c 1 10 (by decide)) i i fun _ => rfl))
  iintro HS R110
  iapply (s_putSB X c 1 13 rfl (by decide) ?_) $$ HS
  · intro i; unfold k0_pay41 k0_pay37; erw [shapeCast_self]; erw [shapeCast_self]; exact (G_seven X c 1 i).trans (congrArg (G X) (u_same (src_off c 1 13 (by decide)) i i fun _ => rfl))
  iintro HS R113
  iapply w_ret
  iapply Hk $$ HS O17 N1 M1 R18 R110 R113

/-- Its three transfers; the neighbour's block received. -/
theorem p23 {v17 v20 v32 : BitVec 32} {Q : (Vec F S128x256 .bf16) → sProp 𝕄} :
    S X c 19 16 16 24 ⊢ iprop(rdy X c 1 8 -∗ rdy X c 1 10 -∗ rdy X c 1 13 -∗ (S X c 22 17 17 24 -∗ Q (V X 0 8 c))
      -∗ WP c (k0_part23 (Memref.whole cc0_stg0_0) (Memref.isWhole_whole _) (Memref.whole cc0_stg1_0) (Memref.isWhole_whole _) (Memref.whole cc0_scratch0) (Memref.isWhole_whole _)
      (Memref.whole cc0_scratch1) (Memref.isWhole_whole _) (Memref.whole cc0_scratch2) (Memref.isWhole_whole _) (Memref.whole cc0_scratch3) (Memref.isWhole_whole _) cc0_scratch4
      c v17 v20 v32) Q) := by
  rw [k0_part23_eq_skeleton]; unfold k0_part23_skel
  simp only [Prog.lift, Prog.bind_op, Prog.bind_ret, Prog.pure_eq_ret]
  iintro HS R18 R110 R113 Hk
  iapply (s_send X c 1 8 rfl ?_) $$ HS R18
  · exact devTab_eq c 19
  iintro HS
  iapply (s_send X c 1 10 rfl ?_) $$ HS R110
  · exact devTab_eq c 20
  iintro HS
  iapply (s_send X c 1 13 rfl ?_) $$ HS R113
  · exact devTab_eq c 21
  iintro HS
  iapply (s_recv X c 0 8 rfl (by decide) ?_) $$ HS
  · exact NC_eq 0 8
  iintro HS V08
  iapply (s_ldrbF X c 0 8 rfl rfl) $$ HS V08
  iintro HS
  iapply w_ret
  iapply Hk $$ HS

/-- The neighbour's block, and where it is sent from. -/
theorem p24 {v20 v22 v27 v67 : BitVec 32} {Q : (PUnit) → sProp 𝕄} :
    S X c 22 17 17 24 ⊢ iprop(nine X c 0 -∗ nineAny' c 0 -∗ O 0 8 c (T3 X 0 c) -∗ (S X c 23 17 17 26 -∗ O 0 8 c (G X) -∗ rdy X c 0 11 -∗ rdy X c 0 14 -∗ Q ⟨⟩)
      -∗ WP c (k0_part24 (Memref.whole cc0_stg0_0) (Memref.isWhole_whole _) (Memref.whole cc0_stg1_0) (Memref.isWhole_whole _) (Memref.whole cc0_scratch0) (Memref.isWhole_whole _)
      (Memref.whole cc0_scratch1) (Memref.isWhole_whole _) (Memref.whole cc0_scratch2) (Memref.isWhole_whole _) (Memref.whole cc0_scratch3) (Memref.isWhole_whole _) cc0_scratch4
      c v20 v22 v27 v67 (V X 0 8 c)) Q) := by
  rw [k0_part24_eq_skeleton]; unfold k0_part24_skel
  simp only [Prog.lift, Prog.bind_op, Prog.bind_ret, Prog.pure_eq_ret]
  iintro HS N0 M0 O08 Hk
  iapply (o_put c 0 8 (G X) ?_ ?_) $$ O08
  · exact offTab_eq c 8
  · exact fun i => rfl
  iintro O08
  iapply (nine_ld' c 0 ?_) $$ M0
  · exact (off_half9 c).2.2.1
  iintro %y M0
  iapply (nine_st' X c 0 ?_ ?_) $$ M0
  · exact (off_half9 c).2.2.1
  · intro i; unfold k0_pay42; erw [shapeCast_self]; rfl
  iintro M0
  ihave R09 := (nine_join X c 0) $$ [N0 M0]
  · isplitl [N0]; · iexact N0
    iexact M0
  iapply (s_putSB X c 0 11 rfl (by decide) ?_) $$ HS
  · intro i; unfold k0_pay43; erw [shapeCast_self]; exact congrArg (G X) (u_same (src_off c 0 11 (by decide)) i i fun _ => rfl)
  iintro HS R011
  iapply (s_putSB X c 0 14 rfl (by decide) ?_) $$ HS
  · intro i; unfold k0_pay44; erw [shapeCast_self]; exact congrArg (G X) (u_same (src_off c 0 14 (by decide)) i i fun _ => rfl)
  iintro HS R014
  iapply (s_send X c 0 9 rfl ?_) $$ HS R09
  · exact devTab_eq c 22
  iintro HS
  iapply w_ret
  iapply Hk $$ HS O08 R011 R014

/-- Two transfers; the other half's neighbour's block. -/
theorem p25 {v17 v21 v27 v105 : BitVec 32} {Q : (Σ' (v724 : Vec F S128x256 .bf16), FVec F S128x256 .bf16) → sProp 𝕄} :
    S X c 23 17 17 26 ⊢ iprop(rdy X c 0 11 -∗ rdy X c 0 14 -∗ nineAny' c 1 -∗ O 1 8 c (T3 X 1 c) -∗ (S X c 25 18 18 26 -∗ O 1 8 c (G X) -∗ nineAny' c 1 -∗ Q ⟨V X 1 8 c, k0_pay45 (V X 1 8 c)⟩)
      -∗ WP c (k0_part25 (Memref.whole cc0_stg0_0) (Memref.isWhole_whole _) (Memref.whole cc0_stg1_0) (Memref.isWhole_whole _) (Memref.whole cc0_scratch0) (Memref.isWhole_whole _)
      (Memref.whole cc0_scratch1) (Memref.isWhole_whole _) (Memref.whole cc0_scratch2) (Memref.isWhole_whole _) (Memref.whole cc0_scratch3) (Memref.isWhole_whole _) cc0_scratch4
      c v17 v21 v27 v105) Q) := by
  rw [k0_part25_eq_skeleton]; unfold k0_part25_skel
  simp only [Prog.lift, Prog.bind_op, Prog.bind_ret, Prog.pure_eq_ret]
  iintro HS R011 R014 M1 O18 Hk
  iapply (s_send X c 0 11 rfl ?_) $$ HS R011
  · exact devTab_eq c 23
  iintro HS
  iapply (s_send X c 0 14 rfl ?_) $$ HS R014
  · exact devTab_eq c 24
  iintro HS
  iapply (s_recv X c 1 8 rfl (by decide) ?_) $$ HS
  · exact NC_eq 1 8
  iintro HS V18
  iapply (s_ldrbF X c 1 8 rfl rfl) $$ HS V18
  iintro HS
  iapply (o_put c 1 8 (G X) ?_ ?_) $$ O18
  · exact offTab_eq c 9
  · exact fun i => rfl
  iintro O18
  iapply (nine_ld' c 1 ?_) $$ M1
  · exact (off_half9 c).2.2.2
  iintro %y M1
  iapply w_ret
  iapply Hk $$ HS O18 M1

/-- Where it is sent from, and two transfers. -/
theorem p26 {v17 v20 v32 : BitVec 32} {Q : (PUnit) → sProp 𝕄} :
    S X c 25 18 18 26 ⊢ iprop(nine X c 1 -∗ nineAny' c 1 -∗ (S X c 27 18 18 28 -∗ rdy X c 1 14 -∗ Q ⟨⟩)
      -∗ WP c (k0_part26 (Memref.whole cc0_stg0_0) (Memref.isWhole_whole _) (Memref.whole cc0_stg1_0) (Memref.isWhole_whole _) (Memref.whole cc0_scratch0) (Memref.isWhole_whole _)
      (Memref.whole cc0_scratch1) (Memref.isWhole_whole _) (Memref.whole cc0_scratch2) (Memref.isWhole_whole _) (Memref.whole cc0_scratch3) (Memref.isWhole_whole _) cc0_scratch4
      c v17 v20 v32 (V X 1 8 c) (k0_pay45 (V X 1 8 c))) Q) := by
  rw [k0_part26_eq_skeleton]; unfold k0_part26_skel
  simp only [Prog.lift, Prog.bind_op, Prog.bind_ret, Prog.pure_eq_ret]
  iintro HS N1 M1 Hk
  iapply (nine_st' X c 1 ?_ ?_) $$ M1
  · exact (off_half9 c).2.2.2
  · intro i; unfold k0_pay45; erw [shapeCast_self]; rfl
  iintro M1
  ihave R19 := (nine_join X c 1) $$ [N1 M1]
  · isplitl [N1]; · iexact N1
    iexact M1
  iapply (s_putSB X c 1 11 rfl (by decide) ?_) $$ HS
  · intro i; unfold k0_pay46; erw [shapeCast_self]; exact congrArg (G X) (u_same (src_off c 1 11 (by decide)) i i fun _ => rfl)
  iintro HS R111
  iapply (s_putSB X c 1 14 rfl (by decide) ?_) $$ HS
  · intro i; unfold k0_pay47; erw [shapeCast_self]; exact congrArg (G X) (u_same (src_off c 1 14 (by decide)) i i fun _ => rfl)
  iintro HS R114
  iapply (s_send X c 1 9 rfl ?_) $$ HS R19
  · exact devTab_eq c 25
  iintro HS
  iapply (s_send X c 1 11 rfl ?_) $$ HS R111
  · exact devTab_eq c 26
  iintro HS
  iapply w_ret
  iapply Hk $$ HS R114

/-- The third block received, and where it is sent from. -/
theorem p27 {v20 v27 v62 : BitVec 32} {Q : (PUnit) → sProp 𝕄} :
    S X c 27 18 18 28 ⊢ iprop(rdy X c 1 14 -∗ O 0 0 c (T2 X 0 c) -∗ (S X c 28 19 19 30 -∗ O 0 0 c (G X) -∗ rdy X c 0 12 -∗ rdy X c 0 15 -∗ Q ⟨⟩)
      -∗ WP c (k0_part27 (Memref.whole cc0_stg0_0) (Memref.isWhole_whole _) (Memref.whole cc0_stg1_0) (Memref.isWhole_whole _) (Memref.whole cc0_scratch0) (Memref.isWhole_whole _)
      (Memref.whole cc0_scratch1) (Memref.isWhole_whole _) (Memref.whole cc0_scratch2) (Memref.isWhole_whole _) (Memref.whole cc0_scratch3) (Memref.isWhole_whole _) cc0_scratch4
      c v20 v27 v62) Q) := by
  rw [k0_part27_eq_skeleton]; unfold k0_part27_skel
  simp only [Prog.lift, Prog.bind_op, Prog.bind_ret, Prog.pure_eq_ret]
  iintro HS R114 O00 Hk
  iapply (s_send X c 1 14 rfl ?_) $$ HS R114
  · exact devTab_eq c 27
  iintro HS
  iapply (s_recv X c 0 9 rfl (by decide) ?_) $$ HS
  · exact NC_eq 0 9
  iintro HS V09
  iapply (s_ldrbF X c 0 9 rfl rfl) $$ HS V09
  iintro HS
  iapply (o_put c 0 0 (G X) ?_ ?_) $$ O00
  · exact offTab_eq c 4
  · exact fun i => rfl
  iintro O00
  iapply (s_putSB X c 0 12 rfl (by decide) ?_) $$ HS
  · intro i; unfold k0_pay48; erw [shapeCast_self]; exact congrArg (G X) (u_same (src_off c 0 12 (by decide)) i i fun _ => rfl)
  iintro HS R012
  iapply (s_putSB X c 0 15 rfl (by decide) ?_) $$ HS
  · intro i; unfold k0_pay49; erw [shapeCast_self]; exact congrArg (G X) (u_same (src_off c 0 15 (by decide)) i i fun _ => rfl)
  iintro HS R015
  iapply w_ret
  iapply Hk $$ HS O00 R012 R015

/-- The same in the other half. -/
theorem p28 {v17 v32 v100 : BitVec 32} {Q : (PUnit) → sProp 𝕄} :
    S X c 28 19 19 30 ⊢ iprop(rdy X c 0 12 -∗ rdy X c 0 15 -∗ O 1 0 c (T2 X 1 c) -∗ (S X c 30 20 20 32 -∗ O 1 0 c (G X) -∗ rdy X c 1 12 -∗ rdy X c 1 15 -∗ Q ⟨⟩)
      -∗ WP c (k0_part28 (Memref.whole cc0_stg0_0) (Memref.isWhole_whole _) (Memref.whole cc0_stg1_0) (Memref.isWhole_whole _) (Memref.whole cc0_scratch0) (Memref.isWhole_whole _)
      (Memref.whole cc0_scratch1) (Memref.isWhole_whole _) (Memref.whole cc0_scratch2) (Memref.isWhole_whole _) (Memref.whole cc0_scratch3) (Memref.isWhole_whole _) cc0_scratch4
      c v17 v32 v100) Q) := by
  rw [k0_part28_eq_skeleton]; unfold k0_part28_skel
  simp only [Prog.lift, Prog.bind_op, Prog.bind_ret, Prog.pure_eq_ret]
  iintro HS R012 R015 O10 Hk
  iapply (s_send X c 0 12 rfl ?_) $$ HS R012
  · exact devTab_eq c 28
  iintro HS
  iapply (s_send X c 0 15 rfl ?_) $$ HS R015
  · exact devTab_eq c 29
  iintro HS
  iapply (s_recv X c 1 9 rfl (by decide) ?_) $$ HS
  · exact NC_eq 1 9
  iintro HS V19
  iapply (s_ldrbF X c 1 9 rfl rfl) $$ HS V19
  iintro HS
  iapply (o_put c 1 0 (G X) ?_ ?_) $$ O10
  · exact offTab_eq c 5
  · exact fun i => rfl
  iintro O10
  iapply (s_putSB X c 1 12 rfl (by decide) ?_) $$ HS
  · intro i; unfold k0_pay50; erw [shapeCast_self]; exact congrArg (G X) (u_same (src_off c 1 12 (by decide)) i i fun _ => rfl)
  iintro HS R112
  iapply (s_putSB X c 1 15 rfl (by decide) ?_) $$ HS
  · intro i; unfold k0_pay51; erw [shapeCast_self]; exact congrArg (G X) (u_same (src_off c 1 15 (by decide)) i i fun _ => rfl)
  iintro HS R115
  iapply w_ret
  iapply Hk $$ HS O10 R112 R115

/-- Two transfers, and the first block of the last phase but one received. -/
theorem p29 {v17 v20 : BitVec 32} {Q : (BitVec 32) → sProp 𝕄} :
    S X c 30 20 20 32 ⊢ iprop(rdy X c 1 12 -∗ rdy X c 1 15 -∗ (S X c 32 21 20 32 -∗ got X c 0 10 fullShare -∗ ∀ r, Q r)
      -∗ WP c (k0_part29 (Memref.whole cc0_stg0_0) (Memref.isWhole_whole _) (Memref.whole cc0_stg1_0) (Memref.isWhole_whole _) (Memref.whole cc0_scratch0) (Memref.isWhole_whole _)
      (Memref.whole cc0_scratch1) (Memref.isWhole_whole _) (Memref.whole cc0_scratch2) (Memref.isWhole_whole _) (Memref.whole cc0_scratch3) (Memref.isWhole_whole _) cc0_scratch4
      c v17 v20) Q) := by
  rw [k0_part29_eq_skeleton]; unfold k0_part29_skel
  simp only [Prog.lift, Prog.bind_op, Prog.bind_ret, Prog.pure_eq_ret]
  iintro HS R112 R115 Hk
  iapply (s_send X c 1 12 rfl ?_) $$ HS R112
  · exact devTab_eq c 30
  iintro HS
  iapply (s_send X c 1 15 rfl ?_) $$ HS R115
  · exact devTab_eq c 31
  iintro HS
  iapply (s_recv X c 0 10 rfl (by decide) ?_) $$ HS
  · exact NC_eq 0 10
  iintro HS V010
  iapply w_ret
  iapply Hk $$ HS V010

end Cert.KernelIdeal.Cube
-- ==== Proof.PartsC.lean ====
/-
The program's last transfers and the blocks received last.
-/
module

public import proofs.«01_k».proof.Proof.Splits

@[expose] public section

noncomputable section

namespace Cert.KernelIdeal.Cube

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : Dev nD → Vec F S2048x512 .bf16) (c : Dev nD)

/-- A received block sent on as it is read. -/
theorem p30 {v17 v20 v49 v70 v87 v108 c1_i32_744 : BitVec 32} {f0 : Vec F S2048x512 .bf16} {Q : (BitVec 32) → sProp 𝕄} :
    S X c 32 21 20 32 ⊢ iprop(got X c 0 10 fullShare -∗ O 0 10 c f0 -∗ (S X c 34 22 21 32 -∗ O 0 10 c (G X) -∗ got X c 1 10 (dsh 10) -∗ ∀ r, Q r)
      -∗ WP c (k0_part30 (Memref.whole cc0_stg0_0) (Memref.isWhole_whole _) (Memref.whole cc0_stg1_0) (Memref.isWhole_whole _) (Memref.whole cc0_scratch0) (Memref.isWhole_whole _)
      (Memref.whole cc0_scratch1) (Memref.isWhole_whole _) (Memref.whole cc0_scratch2) (Memref.isWhole_whole _) (Memref.whole cc0_scratch3) (Memref.isWhole_whole _) cc0_scratch4
      c v17 v20 v49 v70 v87 v108 c1_i32_744) Q) := by
  rw [k0_part30_eq_skeleton]; unfold k0_part30_skel
  simp only [Prog.lift, Prog.bind_op, Prog.bind_ret, Prog.pure_eq_ret]
  iintro HS V010 O010 Hk
  ihave F := (fwd_10 X c 0) $$ V010
  icases F with ⟨R016, V010⟩
  iapply (s_send X c 0 16 rfl ?_) $$ HS R016
  · exact devTab_eq c 32
  iintro HS
  iapply (s_ldrb X c 0 10 rfl) $$ HS V010
  iintro HS
  iapply (o_put c 0 10 (G X) ?_ ?_) $$ O010
  · exact offTab_eq c 12
  · exact fun i => rfl
  iintro O010
  iapply (s_recv X c 1 10 rfl (by decide) ?_) $$ HS
  · exact NC_eq 1 10
  iintro HS V110
  ihave F := (fwd_10 X c 1) $$ V110
  icases F with ⟨R116, V110⟩
  iapply (s_send X c 1 16 rfl ?_) $$ HS R116
  · exact devTab_eq c 33
  iintro HS
  iapply w_ret
  iapply Hk $$ HS O010 V110

/-- The same of the next blocks. -/
theorem p31 {v17 v20 v49 v74 v858 : BitVec 32} {f0 f1 : Vec F S2048x512 .bf16} {Q : (PUnit) → sProp 𝕄} :
    S X c 34 22 21 32 ⊢ iprop(got X c 1 10 (dsh 10) -∗ O 1 10 c f0 -∗ O 0 11 c f1 -∗ (S X c 35 23 23 32 -∗ O 1 10 c (G X) -∗ O 0 11 c (G X) -∗ Q ⟨⟩)
      -∗ WP c (k0_part31 (Memref.whole cc0_stg0_0) (Memref.isWhole_whole _) (Memref.whole cc0_stg1_0) (Memref.isWhole_whole _) (Memref.whole cc0_scratch0) (Memref.isWhole_whole _)
      (Memref.whole cc0_scratch1) (Memref.isWhole_whole _) (Memref.whole cc0_scratch2) (Memref.isWhole_whole _) (Memref.whole cc0_scratch3) (Memref.isWhole_whole _) cc0_scratch4
      c v17 v20 v49 v74 v858) Q) := by
  rw [k0_part31_eq_skeleton]; unfold k0_part31_skel
  simp only [Prog.lift, Prog.bind_op, Prog.bind_ret, Prog.pure_eq_ret]
  iintro HS V110 O110 O011 Hk
  iapply (s_ldrb X c 1 10 rfl) $$ HS V110
  iintro HS
  iapply (o_put c 1 10 (G X) ?_ ?_) $$ O110
  · exact offTab_eq c 13
  · exact fun i => rfl
  iintro O110
  iapply (s_recv X c 0 11 rfl (by decide) ?_) $$ HS
  · exact NC_eq 0 11
  iintro HS V011
  ihave F := (fwd_11 X c 0) $$ V011
  icases F with ⟨R017, V011⟩
  iapply (s_send X c 0 17 rfl ?_) $$ HS R017
  · exact devTab_eq c 34
  iintro HS
  iapply (s_ldrb X c 0 11 rfl) $$ HS V011
  iintro HS
  iapply (o_put c 0 11 (G X) ?_ ?_) $$ O011
  · exact offTab_eq c 14
  · exact fun i => rfl
  iintro O011
  iapply w_ret
  iapply Hk $$ HS O110 O011

theorem p32 {v17 v20 v87 v112 : BitVec 32} {f0 : Vec F S2048x512 .bf16} {Q : (PUnit) → sProp 𝕄} :
    S X c 35 23 23 32 ⊢ iprop(O 1 11 c f0 -∗ (S X c 36 25 24 32 -∗ O 1 11 c (G X) -∗ got X c 0 12 fullShare -∗ Q ⟨⟩)
      -∗ WP c (k0_part32 (Memref.whole cc0_stg0_0) (Memref.isWhole_whole _) (Memref.whole cc0_stg1_0) (Memref.isWhole_whole _) (Memref.whole cc0_scratch0) (Memref.isWhole_whole _)
      (Memref.whole cc0_scratch1) (Memref.isWhole_whole _) (Memref.whole cc0_scratch2) (Memref.isWhole_whole _) (Memref.whole cc0_scratch3) (Memref.isWhole_whole _) cc0_scratch4
      c v17 v20 v87 v112) Q) := by
  rw [k0_part32_eq_skeleton]; unfold k0_part32_skel
  simp only [Prog.lift, Prog.bind_op, Prog.bind_ret, Prog.pure_eq_ret]
  iintro HS O111 Hk
  iapply (s_recv X c 1 11 rfl (by decide) ?_) $$ HS
  · exact NC_eq 1 11
  iintro HS V111
  ihave F := (fwd_11 X c 1) $$ V111
  icases F with ⟨R117, V111⟩
  iapply (s_send X c 1 17 rfl ?_) $$ HS R117
  · exact devTab_eq c 35
  iintro HS
  iapply (s_ldrb X c 1 11 rfl) $$ HS V111
  iintro HS
  iapply (o_put c 1 11 (G X) ?_ ?_) $$ O111
  · exact offTab_eq c 15
  · exact fun i => rfl
  iintro O111
  iapply (s_recv X c 0 12 rfl (by decide) ?_) $$ HS
  · exact NC_eq 0 12
  iintro HS V012
  iapply w_ret
  iapply Hk $$ HS O111 V012

theorem p33 {v17 v20 v49 v76 v87 v114 : BitVec 32} {f0 : Vec F S2048x512 .bf16} {Q : (Vec F S256x256 .bf16) → sProp 𝕄} :
    S X c 36 25 24 32 ⊢ iprop(got X c 0 12 fullShare -∗ O 0 1 c f0 -∗ (S X c 38 26 26 32 -∗ O 0 1 c (G X) -∗ Q (V X 1 12 c))
      -∗ WP c (k0_part33 (Memref.whole cc0_stg0_0) (Memref.isWhole_whole _) (Memref.whole cc0_stg1_0) (Memref.isWhole_whole _) (Memref.whole cc0_scratch0) (Memref.isWhole_whole _)
      (Memref.whole cc0_scratch1) (Memref.isWhole_whole _) (Memref.whole cc0_scratch2) (Memref.isWhole_whole _) (Memref.whole cc0_scratch3) (Memref.isWhole_whole _) cc0_scratch4
      c v17 v20 v49 v76 v87 v114) Q) := by
  rw [k0_part33_eq_skeleton]; unfold k0_part33_skel
  simp only [Prog.lift, Prog.bind_op, Prog.bind_ret, Prog.pure_eq_ret]
  iintro HS V012 O01 Hk
  ihave F := (fwd_12 X c 0) $$ V012
  icases F with ⟨R018, V012⟩
  iapply (s_send X c 0 18 rfl ?_) $$ HS R018
  · exact devTab_eq c 36
  iintro HS
  iapply (s_ldrb X c 0 12 rfl) $$ HS V012
  iintro HS
  iapply (o_put c 0 1 (G X) ?_ ?_) $$ O01
  · exact offTab_eq c 0
  · exact fun i => rfl
  iintro O01
  iapply (s_recv X c 1 12 rfl (by decide) ?_) $$ HS
  · exact NC_eq 1 12
  iintro HS V112
  ihave F := (fwd_12 X c 1) $$ V112
  icases F with ⟨R118, V112⟩
  iapply (s_send X c 1 18 rfl ?_) $$ HS R118
  · exact devTab_eq c 37
  iintro HS
  iapply (s_ldrb X c 1 12 rfl) $$ HS V112
  iintro HS
  iapply w_ret
  iapply Hk $$ HS O01

/-- Blocks of the last phase received. -/
theorem p34 {v17 v54 v70 v74 : BitVec 32} {f0 f1 f2 : Vec F S2048x512 .bf16} {Q : (PUnit) → sProp 𝕄} :
    S X c 38 26 26 32 ⊢ iprop(O 1 1 c f0 -∗ O 0 13 c f1 -∗ O 0 14 c f2 -∗ (S X c 38 28 28 32 -∗ O 1 1 c (G X) -∗ O 0 13 c (G X) -∗ O 0 14 c (G X) -∗ Q ⟨⟩)
      -∗ WP c (k0_part34 (Memref.whole cc0_stg0_0) (Memref.isWhole_whole _) (Memref.whole cc0_stg1_0) (Memref.isWhole_whole _) (Memref.whole cc0_scratch0) (Memref.isWhole_whole _)
      (Memref.whole cc0_scratch1) (Memref.isWhole_whole _) (Memref.whole cc0_scratch2) (Memref.isWhole_whole _) (Memref.whole cc0_scratch3) (Memref.isWhole_whole _) cc0_scratch4
      c v17 v54 v70 v74 (V X 1 12 c)) Q) := by
  rw [k0_part34_eq_skeleton]; unfold k0_part34_skel
  simp only [Prog.lift, Prog.bind_op, Prog.bind_ret, Prog.pure_eq_ret]
  iintro HS O11 O013 O014 Hk
  iapply (o_put c 1 1 (G X) ?_ ?_) $$ O11
  · exact offTab_eq c 1
  · exact fun i => rfl
  iintro O11
  iapply (s_recv X c 0 13 rfl (by decide) ?_) $$ HS
  · exact NC_eq 0 13
  iintro HS V013
  iapply (s_ldrbF X c 0 13 rfl rfl) $$ HS V013
  iintro HS
  iapply (o_put c 0 13 (G X) ?_ ?_) $$ O013
  · exact offTab_eq c 16
  · exact fun i => rfl
  iintro O013
  iapply (s_recv X c 0 14 rfl (by decide) ?_) $$ HS
  · exact NC_eq 0 14
  iintro HS V014
  iapply (s_ldrbF X c 0 14 rfl rfl) $$ HS V014
  iintro HS
  iapply (o_put c 0 14 (G X) ?_ ?_) $$ O014
  · exact offTab_eq c 18
  · exact fun i => rfl
  iintro O014
  iapply w_ret
  iapply Hk $$ HS O11 O013 O014

theorem p35 {v17 v54 v57 v70 v74 v76 : BitVec 32} {f0 f1 : Vec F S2048x512 .bf16} {Q : (BitVec 32) → sProp 𝕄} :
    S X c 38 28 28 32 ⊢ iprop(O 0 15 c f0 -∗ O 0 16 c f1 -∗ (S X c 38 31 30 32 -∗ O 0 15 c (G X) -∗ O 0 16 c (G X) -∗ got X c 0 17 fullShare -∗ ∀ r, Q r)
      -∗ WP c (k0_part35 (Memref.whole cc0_stg0_0) (Memref.isWhole_whole _) (Memref.whole cc0_stg1_0) (Memref.isWhole_whole _) (Memref.whole cc0_scratch0) (Memref.isWhole_whole _)
      (Memref.whole cc0_scratch1) (Memref.isWhole_whole _) (Memref.whole cc0_scratch2) (Memref.isWhole_whole _) (Memref.whole cc0_scratch3) (Memref.isWhole_whole _) cc0_scratch4
      c v17 v54 v57 v70 v74 v76) Q) := by
  rw [k0_part35_eq_skeleton]; unfold k0_part35_skel
  simp only [Prog.lift, Prog.bind_op, Prog.bind_ret, Prog.pure_eq_ret]
  iintro HS O015 O016 Hk
  iapply (s_recv X c 0 15 rfl (by decide) ?_) $$ HS
  · exact NC_eq 0 15
  iintro HS V015
  iapply (s_ldrbF X c 0 15 rfl rfl) $$ HS V015
  iintro HS
  iapply (o_put c 0 15 (G X) ?_ ?_) $$ O015
  · exact offTab_eq c 24
  · exact fun i => rfl
  iintro O015
  iapply (s_recv X c 0 16 rfl (by decide) ?_) $$ HS
  · exact NC_eq 0 16
  iintro HS V016
  iapply (s_ldrbF X c 0 16 rfl rfl) $$ HS V016
  iintro HS
  iapply (o_put c 0 16 (G X) ?_ ?_) $$ O016
  · exact offTab_eq c 20
  · exact fun i => rfl
  iintro O016
  iapply (s_recv X c 0 17 rfl (by decide) ?_) $$ HS
  · exact NC_eq 0 17
  iintro HS V017
  iapply w_ret
  iapply Hk $$ HS O015 O016 V017

theorem p36 {v17 v20 v57 v76 v92 v108 v980 : BitVec 32} {f0 f1 f2 : Vec F S2048x512 .bf16} {Q : (PUnit) → sProp 𝕄} :
    S X c 38 31 30 32 ⊢ iprop(got X c 0 17 fullShare -∗ O 0 17 c f0 -∗ O 0 18 c f1 -∗ O 1 13 c f2 -∗ (S X c 38 33 33 32 -∗ O 0 17 c (G X) -∗ O 0 18 c (G X) -∗ O 1 13 c (G X) -∗ Q ⟨⟩)
      -∗ WP c (k0_part36 (Memref.whole cc0_stg0_0) (Memref.isWhole_whole _) (Memref.whole cc0_stg1_0) (Memref.isWhole_whole _) (Memref.whole cc0_scratch0) (Memref.isWhole_whole _)
      (Memref.whole cc0_scratch1) (Memref.isWhole_whole _) (Memref.whole cc0_scratch2) (Memref.isWhole_whole _) (Memref.whole cc0_scratch3) (Memref.isWhole_whole _) cc0_scratch4
      c v17 v20 v57 v76 v92 v108 v980) Q) := by
  rw [k0_part36_eq_skeleton]; unfold k0_part36_skel
  simp only [Prog.lift, Prog.bind_op, Prog.bind_ret, Prog.pure_eq_ret]
  iintro HS V017 O017 O018 O113 Hk
  iapply (s_ldrbF X c 0 17 rfl rfl) $$ HS V017
  iintro HS
  iapply (o_put c 0 17 (G X) ?_ ?_) $$ O017
  · exact offTab_eq c 22
  · exact fun i => rfl
  iintro O017
  iapply (s_recv X c 0 18 rfl (by decide) ?_) $$ HS
  · exact NC_eq 0 18
  iintro HS V018
  iapply (s_ldrbF X c 0 18 rfl rfl) $$ HS V018
  iintro HS
  iapply (o_put c 0 18 (G X) ?_ ?_) $$ O018
  · exact offTab_eq c 26
  · exact fun i => rfl
  iintro O018
  iapply (s_recv X c 1 13 rfl (by decide) ?_) $$ HS
  · exact NC_eq 1 13
  iintro HS V113
  iapply (s_ldrbF X c 1 13 rfl rfl) $$ HS V113
  iintro HS
  iapply (o_put c 1 13 (G X) ?_ ?_) $$ O113
  · exact offTab_eq c 17
  · exact fun i => rfl
  iintro O113
  iapply w_ret
  iapply Hk $$ HS O017 O018 O113

theorem p37 {v20 v92 v112 v114 : BitVec 32} {f0 f1 : Vec F S2048x512 .bf16} {Q : (PUnit) → sProp 𝕄} :
    S X c 38 33 33 32 ⊢ iprop(O 1 14 c f0 -∗ O 1 15 c f1 -∗ (S X c 38 35 35 32 -∗ O 1 14 c (G X) -∗ O 1 15 c (G X) -∗ Q ⟨⟩)
      -∗ WP c (k0_part37 (Memref.whole cc0_stg0_0) (Memref.isWhole_whole _) (Memref.whole cc0_stg1_0) (Memref.isWhole_whole _) (Memref.whole cc0_scratch0) (Memref.isWhole_whole _)
      (Memref.whole cc0_scratch1) (Memref.isWhole_whole _) (Memref.whole cc0_scratch2) (Memref.isWhole_whole _) (Memref.whole cc0_scratch3) (Memref.isWhole_whole _) cc0_scratch4
      c v20 v92 v112 v114) Q) := by
  rw [k0_part37_eq_skeleton]; unfold k0_part37_skel
  simp only [Prog.lift, Prog.bind_op, Prog.bind_ret, Prog.pure_eq_ret]
  iintro HS O114 O115 Hk
  iapply (s_recv X c 1 14 rfl (by decide) ?_) $$ HS
  · exact NC_eq 1 14
  iintro HS V114
  iapply (s_ldrbF X c 1 14 rfl rfl) $$ HS V114
  iintro HS
  iapply (o_put c 1 14 (G X) ?_ ?_) $$ O114
  · exact offTab_eq c 19
  · exact fun i => rfl
  iintro O114
  iapply (s_recv X c 1 15 rfl (by decide) ?_) $$ HS
  · exact NC_eq 1 15
  iintro HS V115
  iapply (s_ldrbF X c 1 15 rfl rfl) $$ HS V115
  iintro HS
  iapply (o_put c 1 15 (G X) ?_ ?_) $$ O115
  · exact offTab_eq c 25
  · exact fun i => rfl
  iintro O115
  iapply w_ret
  iapply Hk $$ HS O114 O115

theorem p38 {v20 v95 v108 v112 v114 : BitVec 32} {f0 f1 : Vec F S2048x512 .bf16} {Q : (Vec F S256x256 .bf16) → sProp 𝕄} :
    S X c 38 35 35 32 ⊢ iprop(O 1 16 c f0 -∗ O 1 17 c f1 -∗ (S X c 38 38 38 32 -∗ O 1 16 c (G X) -∗ O 1 17 c (G X) -∗ Q (V X 1 18 c))
      -∗ WP c (k0_part38 (Memref.whole cc0_stg0_0) (Memref.isWhole_whole _) (Memref.whole cc0_stg1_0) (Memref.isWhole_whole _) (Memref.whole cc0_scratch0) (Memref.isWhole_whole _)
      (Memref.whole cc0_scratch1) (Memref.isWhole_whole _) (Memref.whole cc0_scratch2) (Memref.isWhole_whole _) (Memref.whole cc0_scratch3) (Memref.isWhole_whole _) cc0_scratch4
      c v20 v95 v108 v112 v114) Q) := by
  rw [k0_part38_eq_skeleton]; unfold k0_part38_skel
  simp only [Prog.lift, Prog.bind_op, Prog.bind_ret, Prog.pure_eq_ret]
  iintro HS O116 O117 Hk
  iapply (s_recv X c 1 16 rfl (by decide) ?_) $$ HS
  · exact NC_eq 1 16
  iintro HS V116
  iapply (s_ldrbF X c 1 16 rfl rfl) $$ HS V116
  iintro HS
  iapply (o_put c 1 16 (G X) ?_ ?_) $$ O116
  · exact offTab_eq c 21
  · exact fun i => rfl
  iintro O116
  iapply (s_recv X c 1 17 rfl (by decide) ?_) $$ HS
  · exact NC_eq 1 17
  iintro HS V117
  iapply (s_ldrbF X c 1 17 rfl rfl) $$ HS V117
  iintro HS
  iapply (o_put c 1 17 (G X) ?_ ?_) $$ O117
  · exact offTab_eq c 23
  · exact fun i => rfl
  iintro O117
  iapply (s_recv X c 1 18 rfl (by decide) ?_) $$ HS
  · exact NC_eq 1 18
  iintro HS V118
  iapply (s_ldrbF X c 1 18 rfl rfl) $$ HS V118
  iintro HS
  iapply w_ret
  iapply Hk $$ HS O116 O117

end Cert.KernelIdeal.Cube
-- ==== Proof.Ends.lean ====
/-
The handshake at the start of a device's program, and its last waits, for what it sent.
-/
module

public import proofs.«01_k».proof.Proof.Splits

@[expose] public section

noncomputable section

namespace Cert.KernelIdeal.Cube

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : Dev nD → Vec F S2048x512 .bf16) (c : Dev nD)

/-! ## The handshake -/

/-- What a device owes while it has still to signal the neighbours along the links of a list. -/
def Blist (c : Dev nD) : List (Fin 4) → CellTallies nD τ sig Unit
  | [] => Orem c 0
  | i :: l => Blist c l + tallyAt (barCell (nb i c)) () 1

/-- The state of a device that has still to signal along the links of a list. -/
def Bst (l : List (Fin 4)) : sProp 𝕄 :=
  iprop(∃ (K : Dev nD × CI → ℕ) (W : Waits sig Unit), records X K ∗ levAts L lv ∗ owes (c : Thread nD τ) (Blist c l) W
    ∗ bigSepL l fun i => iprop(dutyTok ER (barCell (nb i c)) 0 i ∗ barPay (nb i c) i))

/-- A signal to a neighbour. -/
theorem s_signal {l : List (Fin 4)} (i : Fin 4) {d : Dev nD} (hd : d.val = (nb i c).val)
    {α : Type} {Q : α → sProp 𝕄} {kk : PUnit → Prog (TpuEff nD τ sig (Elt F) Λ₀ .tc) α} :
    Bst X c (i :: l) ⊢ iprop((Bst X c l -∗ WP c (kk ⟨⟩) Q)
      -∗ WP c (.op (.semSignal (d, .tc) barS (1#32 : BitVec 32).toInt) kk) Q) := by
  obtain rfl : d = nb i c := Fin.ext hd
  unfold Bst
  rw [bigSepL_cons']
  iintro ⟨%K, %W, #HR, #Hl, HO, ⟨⟨Ht, Hp⟩, H⟩⟩ Hk
  ihave HA := (rec_at X K (nb i c) none) $$ HR
  icases HA with ⟨#HI, #Hr1⟩
  iapply (Rounds.wp_signal 𝒱₀ ER (cubeRd X) (c : Thread nD τ) none (dst := (nb i c : Thread nD τ)) (κ := K (nb i c, none))
      (d := i) (by rw [duties_bar]; exact Finset.mem_univ _) ((amount_bar X (nb i c) i).trans (by decide)) () (Blist c l) rfl)
    $$ [HO Ht Hp]
  · isplitr; · iexact HI
    isplitl [HO]; · iexact HO
    isplitl [Ht]; · iexact Ht
    isplitl [Hp]; · rw [payload_bar]; iexact Hp
    iexact Hr1
  iintro HO
  iapply Hk
  iexists K; iexists W
  isplitr; · iexact HR
  isplitr; · iexact Hl
  isplitl [HO]; · iexact HO
  iexact H

/-- The wait for the neighbours' signals: it brings the slots that the device sends to. -/
theorem s_handshake {α : Type} {Q : α → sProp 𝕄} {kk : PUnit → Prog (TpuEff nD τ sig (Elt F) Λ₀ .tc) α} :
    Bst X c [] ⊢ iprop(atPos ER (barCell c) 0 ∅ 0 -∗ cred (tallyAt (barCell c) () 4)
      -∗ ((∃ (K : Dev nD × CI → ℕ) (W : Waits sig Unit), records X K ∗ levAts L lv ∗ owes (c : Thread nD τ) (Orem c 0) W)
        -∗ semVal (barCell c) 0 -∗ (bigSep Finset.univ fun u : Fin 2 × Fin 19 => rbAny (F := F) (partner u.1 u.2 c) u) -∗ WP c (kk ⟨⟩) Q)
      -∗ WP c (.op (.semWait barS (4#32 : BitVec 32).toInt) kk) Q) := by
  unfold Bst
  iintro ⟨%K, %W, #HR, #Hl, HO, -⟩ Hat Hcr Hk
  ihave HA := (rec_at X K c none) $$ HR
  icases HA with ⟨#HI, #Hr1⟩
  iapply (Rounds.wp_wait_rest_token 𝒱₀ ER (cubeRd X) (c : Thread nD τ) none (κ := K (c, none))
      (wpE_semWait_eq 𝒱₀ (c : Thread nD τ) none Set.univ) (Set.mem_univ _) () (O := Orem c 0) (W := W) (R := 0) (m := 0) (T := ∅)
      (by rw [expect_bar]; decide)) $$ [Hcr HO Hat]
  · isplitr; · iexact HI
    isplitl [Hcr]; · iexact Hcr
    isplitl [HO]; · iexact HO
    isplitr
    · iapply (mayWait_of c (.reg barS) (sched.drop 0) 1 (Nat.le_of_eq (lv_bar c)) (fun u _ => by omega))
      iexact Hl
    iexact Hat
  iintro ⟨HO, Hat, -, Hpay⟩
  ihave Hp := (Entails.of_eq ((rest_bar X c).trans (deal_units fun i u => rbAny (F := F) (nb i c) u))) $$ Hpay
  imod (Rounds.cell_close ER (cubeRd X) (Set.mem_univ (K (c, none))) (fun h => h) (R := 0 + 1)
    (duties_later X (barCell c))) $$ [Hat] with Hz
  · isplitr; · iexact HI
    iexact Hat
  iapply Hk $$ [HO] Hz [Hp]
  · iexists K; iexists _
    isplitr; · iexact HR
    isplitr; · iexact Hl
    iexact HO
  · iexact Hp

/-- A device's receive slots, each for the neighbour that fills it. -/
theorem slots_deal : (bigSep Finset.univ fun u : Fin 2 × Fin 19 => rbAny (F := F) c u)
    = bigSep Finset.univ fun i : Fin 4 => barPay (F := F) (nb i c) i := by
  rw [← deal_units fun i u => rbAny (F := F) c u]
  refine bigSep_congr fun i _ => ?_
  unfold barPay
  rw [nb_nb]

/-- All of a list is used up. -/
theorem done_all {I : Type} (l : List I) (n : ℕ) (h : l.length ≤ n) (Φ : I → sProp 𝕄) : Done l n Φ = bigSepL l Φ := by
  unfold Done
  rw [List.take_of_length_le h]

/-! ## The whole of a family, in the order of the program -/

theorem all_sched (Φ : Fin 2 × Fin 19 → sProp 𝕄) : bigSep Finset.univ Φ = bigSepL sched Φ :=
  bigSep_univ_eq_bigSepL sched (by decide) (by decide) Φ
theorem all_rsched (Φ : Fin 2 × Fin 19 → sProp 𝕄) : bigSep Finset.univ Φ = bigSepL rsched Φ :=
  bigSep_univ_eq_bigSepL rsched (by decide) (by decide) Φ
theorem all_wsched (Φ : Fin 2 × Fin 19 → sProp 𝕄) : bigSep Finset.univ Φ = bigSepL wsched Φ :=
  bigSep_univ_eq_bigSepL wsched (by decide) (by decide) Φ

/-- The send slots that are not used. -/
def spare : List (Fin 2 × Fin 19) := [(0,16), (0,17), (0,18), (1,16), (1,17), (1,18)]
/-- The receive slots that are sent on. -/
def passed : List (Fin 2 × Fin 19) := [(0,10), (0,11), (0,12), (1,10), (1,11), (1,12)]

theorem all_sbsched (Φ : Fin 2 × Fin 19 → sProp 𝕄) :
    bigSep Finset.univ Φ = iprop(bigSepL sbsched Φ ∗ bigSepL spare Φ) := by
  rw [← bigSepL_append]
  exact bigSep_univ_eq_bigSepL (sbsched ++ spare) (by decide) (by decide) Φ

/-- The receive slots that are not sent on. -/
def stay : List (Fin 2 × Fin 19) := rsched.filter fun u => !passed.contains u
theorem all_stay (Φ : Fin 2 × Fin 19 → sProp 𝕄) :
    bigSep Finset.univ Φ = iprop(bigSepL stay Φ ∗ bigSepL passed Φ) := by
  rw [← bigSepL_append]
  exact bigSep_univ_eq_bigSepL (stay ++ passed) (by decide) (by decide) Φ

/-- The state before the first transfer. -/
theorem s_start :
    iprop((∃ (K : Dev nD × CI → ℕ) (W : Waits sig Unit), records X K ∗ levAts L lv ∗ owes (c : Thread nD τ) (Orem c 0) W)
      ∗ (bigSep Finset.univ fun u : Fin 2 × Fin 19 => iprop(dutyTok ER (sendCell c u.1 u.2) 0 0 ∗ dutyTok ER (dstCell c u) 0 0))
      ∗ (bigSep Finset.univ fun u : Fin 2 × Fin 19 => rbAny (F := F) (partner u.1 u.2 c) u)
      ∗ (bigSep Finset.univ fun u : Fin 2 × Fin 19 => RecvTok (F := F) c u)
      ∗ bigSepL sbsched (sbAny (F := F) c) ∗ owns (c : Thread nD τ) xM fullShare (X c))
    ⊢ S X c 0 0 0 0 := by
  unfold S
  iintro ⟨⟨%K, %W, HR, Hl, HO⟩, Ht, Hb, Hr, Hs, Hx⟩
  iexists K; iexists W
  isplitl [HR]; · iexact HR
  isplitl [Hl]; · iexact Hl
  isplitl [HO]; · iexact HO
  isplitl [Ht Hb]
  · unfold Bag SendTok
    rw [List.drop_zero, ← all_sched]
    ihave H := (Entails.of_eq (bigSep_sep' Finset.univ (fun u : Fin 2 × Fin 19 => iprop(dutyTok ER (sendCell c u.1 u.2) 0 0 ∗ dutyTok ER (dstCell c u) 0 0))
      (fun u => rbAny (F := F) (partner u.1 u.2 c) u)).symm) $$ [Ht Hb]
    · isplitl [Ht] <;> iassumption
    iapply (Entails.of_eq (bigSep_congr fun u _ => equiv_iff.mp ⟨sep_assoc, sep_assoc'⟩)) $$ H
  isplitr; · unfold Done; rw [List.take_zero, bigSepL_nil]; iempintro
  isplitl [Hr]; · unfold Bag; rw [List.drop_zero, ← all_rsched]; iexact Hr
  isplitr; · unfold Done; rw [List.take_zero, bigSepL_nil]; iempintro
  isplitr; · unfold Done; rw [List.take_zero, bigSepL_nil]; iempintro
  isplitl [Hs]; · unfold Bag; rw [List.drop_zero]; iexact Hs
  iexact Hx

/-! ## The waits for what was sent -/

/-- The state of a device that has waited for the first `j` of its transfers. -/
def Sw (j : ℕ) : sProp 𝕄 :=
  iprop(∃ (K : Dev nD × CI → ℕ) (W : Waits sig Unit), records X K ∗ owes (c : Thread nD τ) 0 W
    ∗ Bag wsched j (fun u => iprop(atPos ER (sendCell c u.1 u.2) 0 ∅ 0 ∗ SentCred (F := F) c u))
    ∗ Done wsched j (fun u => iprop(semVal (sendCell c u.1 u.2) 0 ∗ sendPay (F := F) c u)))

theorem s_sent {j : ℕ} (h : Fin 2) (k : Fin 19) (hu : wsched[j]? = some (h, k))
    {s s' : Shape} {e e' : EltTy} {sp sp' : Space} {src : Memref sig .tc sp s e} {dst : Memref sig .tc sp' s' e'}
    (hN : dst.view.dmaCredit = NC k) {h1 : src.view.WordExact} {h2 : dst.view.WordExact}
    {α : Type} {Q : α → sProp 𝕄} {kk : PUnit → Prog (TpuEff nD τ sig (Elt F) Λ₀ .tc) α} :
    Sw X c j ⊢ iprop((Sw X c (j + 1) -∗ WP c (kk ⟨⟩) Q)
      -∗ WP c (.op (.waitDma2 (xsem (srow h) k) src dst h1 h2) kk) Q) := by
  unfold Sw
  rw [bag_pop hu, done_push hu]
  iintro ⟨%K, %W, #HR, HO, ⟨⟨Hat, Hcr⟩, H1⟩, H2⟩ Hk
  unfold SentCred
  ihave HA := (rec_at X K c (some (srow h, k))) $$ HR
  icases HA with ⟨#HI, #Hr1⟩
  iapply (Rounds.wp_wait_rest_token 𝒱₀ ER (cubeRd X) (c : Thread nD τ) none (κ := K (c, some (srow h, k)))
      (wpE_waitDma2_eq 𝒱₀ (c : Thread nD τ) none Set.univ) (Set.mem_univ _) () (O := 0) (W := W) (R := 0) (m := 0) (T := ∅)
      (by rw [Nat.zero_add, expect_xfer, hN])) $$ [Hcr HO Hat]
  · isplitr; · iexact HI
    isplitl [Hcr]; · rw [hN]; iexact Hcr
    isplitl [HO]; · iexact HO
    isplitr; · rw [MayWait_zero]; iempintro
    iexact Hat
  iintro ⟨HO, Hat, -, Hpay⟩
  ihave Hp := (Entails.of_eq (rest_send X c h k)) $$ Hpay
  imod (Rounds.cell_close ER (cubeRd X) (Set.mem_univ (K (c, some (srow h, k)))) (fun h => h) (R := 0 + 1)
    (duties_later X (sendCell c h k))) $$ [Hat] with Hz
  · isplitr; · iexact HI
    iexact Hat
  iapply Hk
  iexists K; iexists _
  isplitr; · iexact HR
  isplitl [HO]; · iexact HO
  isplitl [H1]; · iexact H1
  isplitl [H2]; · iexact H2
  isplitl [Hz] <;> iassumption

/-- All received: what is left to wait for. -/
theorem s_last :
    S X c 38 38 38 32 ⊢ iprop((bigSep Finset.univ fun u : Fin 2 × Fin 19 => atPos ER (sendCell c u.1 u.2) 0 ∅ 0)
      -∗ (Sw X c 0 ∗ (bigSep Finset.univ fun u : Fin 2 × Fin 19 => semVal (recvCell c u.1 u.2) 0)
        ∗ (bigSep Finset.univ (Kept (F := F) c)) ∗ owns (c : Thread nD τ) xM fullShare (X c))) := by
  unfold S
  iintro ⟨%K, %W, HR, -, HO, -, Hc, -, Hz, Hq, -, Hx⟩ Ha
  isplitl [HR HO Hc Ha]
  · unfold Sw
    iexists K; iexists W
    isplitl [HR]; · iexact HR
    isplitl [HO]; · iexact HO
    isplitl
    · unfold Bag
      rw [List.drop_zero, ← all_wsched, bigSep_sep']
      isplitl [Ha]; · iexact Ha
      rw [all_sched, ← done_all sched 38 (by decide)]; iexact Hc
    · unfold Done; rw [List.take_zero, bigSepL_nil]; iempintro
  isplitl [Hz]; · rw [all_rsched, ← done_all rsched 38 (by decide)]; iexact Hz
  isplitl [Hq]; · rw [all_rsched, ← done_all rsched 38 (by decide)]; iexact Hq
  iexact Hx

/-- All waited for. -/
theorem sw_last :
    Sw X c 38 ⊢ iprop(∃ W : Waits sig Unit, owes (c : Thread nD τ) 0 W
      ∗ (bigSep Finset.univ fun u : Fin 2 × Fin 19 => semVal (sendCell c u.1 u.2) 0) ∗ bigSep Finset.univ (sendPay (F := F) c)) := by
  unfold Sw
  iintro ⟨%K, %W, -, HO, -, H⟩
  iexists W
  isplitl [HO]; · iexact HO
  ihave H2 := (Entails.of_eq (((done_all wsched 38 (by decide) _).trans (all_wsched fun u => iprop(semVal (sendCell c u.1 u.2) 0 ∗ sendPay (F := F) c u)).symm).trans (bigSep_sep' _ _ _))) $$ H
  iexact H2

/-! ## The buffers, back in one piece -/

theorem pay_sb (u : Fin 2 × Fin 19) (hu : u ∈ sbsched) : (sendPay c u : sProp 𝕄) ⊢ sbAny c u := by
  have : ∀ u ∈ sbsched, srcS u.1 u.2 = sbS u.1 u.2 ∧ qsh u.2 = fullShare := by
    intro u hu
    have : ∀ u ∈ sbsched, u.2 ≠ 16 ∧ u.2 ≠ 17 ∧ u.2 ≠ 18 := by decide
    obtain ⟨h16, h17, h18⟩ := this u hu
    obtain ⟨h, k⟩ := u
    fin_cases k <;> first | exact ⟨rfl, rfl⟩ | exact absurd rfl h16 | exact absurd rfl h17 | exact absurd rfl h18
  unfold sendPay sbAny
  rw [(this u hu).1, (this u hu).2]

theorem kept_rb (u : Fin 2 × Fin 19) (hu : u ∈ stay) : (Kept c u : sProp 𝕄) ⊢ rbAny c u := by
  have : dsh u.2 = fullShare := by
    have : ∀ u ∈ stay, u.2 ≠ 10 ∧ u.2 ≠ 11 ∧ u.2 ≠ 12 := by decide
    obtain ⟨h10, h11, h12⟩ := this u hu
    obtain ⟨h, k⟩ := u
    fin_cases k <;> first | rfl | exact absurd rfl h10 | exact absurd rfl h11 | exact absurd rfl h12
  unfold Kept rbAny
  rw [this]

theorem pass_10 (h : Fin 2) : iprop(sendPay (F := F) c (h, 16) ∗ Kept (F := F) c (h, 10)) ⊢ rbAny (F := F) c (h, 10) :=
  owns_unhalve c (rbS h 10)
theorem pass_11 (h : Fin 2) : iprop(sendPay (F := F) c (h, 17) ∗ Kept (F := F) c (h, 11)) ⊢ rbAny (F := F) c (h, 11) :=
  owns_unhalve c (rbS h 11)
theorem pass_12 (h : Fin 2) : iprop(sendPay (F := F) c (h, 18) ∗ Kept (F := F) c (h, 12)) ⊢ rbAny (F := F) c (h, 12) :=
  owns_unhalve c (rbS h 12)

theorem passed_rb : iprop(bigSepL spare (sendPay (F := F) c) ∗ bigSepL passed (Kept (F := F) c)) ⊢ bigSepL passed (rbAny (F := F) c) := by
  unfold spare passed
  simp only [bigSepL_cons']
  iintro ⟨⟨A1, A2, A3, A4, A5, A6, -⟩, B1, B2, B3, B4, B5, B6, -⟩
  isplitl [A1 B1]; · iapply (pass_10 c 0); isplitl [A1] <;> iassumption
  isplitl [A2 B2]; · iapply (pass_11 c 0); isplitl [A2] <;> iassumption
  isplitl [A3 B3]; · iapply (pass_12 c 0); isplitl [A3] <;> iassumption
  isplitl [A4 B4]; · iapply (pass_10 c 1); isplitl [A4] <;> iassumption
  isplitl [A5 B5]; · iapply (pass_11 c 1); isplitl [A5] <;> iassumption
  isplitl [A6 B6]; · iapply (pass_12 c 1); isplitl [A6] <;> iassumption
  iempintro

/-- What was sent, what was received, and what was never used, are all the slots. -/
theorem slots_back : iprop((bigSep Finset.univ (sendPay (F := F) c)) ∗ (bigSep Finset.univ (Kept (F := F) c)) ∗ bigSepL spare (sbAny (F := F) c))
    ⊢ iprop((bigSep Finset.univ (sbAny (F := F) c)) ∗ bigSep Finset.univ (rbAny (F := F) c)) := by
  rw [all_sbsched (sendPay (F := F) c), all_stay (Kept (F := F) c), all_sbsched (sbAny (F := F) c), all_stay (rbAny (F := F) c)]
  iintro ⟨⟨A, B⟩, ⟨C, D⟩, E⟩
  isplitl [A E]
  · isplitl [A]; · iapply (bigSepL_mono (pay_sb (F := F) c)) $$ A
    iexact E
  · isplitl [C]; · iapply (bigSepL_mono (kept_rb (F := F) c)) $$ C
    iapply (passed_rb (F := F) c)
    isplitl [B] <;> iassumption

/-- Both halves' slots of a buffer are the two buffers. -/
theorem bufs_of (m : Fin 2 → Memref sig .tc .vmem S3840x256 .bf16) :
    iprop((∃ Y, owns (c : Thread nD τ) (m 0) fullShare Y) ∗ (∃ Y, owns (c : Thread nD τ) (m 1) fullShare Y))
      ⊢ bigSep Finset.univ fun u : Fin 2 × Fin 19 =>
        (iprop(∃ Y, owns (c : Thread nD τ) ((m u.1).slice (srect u.2) (fun _ => rfl)) fullShare Y) : sProp 𝕄) := by
  rw [bigSep_univ_prod, bigSep_univ_eq_bigSepL [0, 1] (by decide) (by decide)]
  exact BI.sep_mono (slots_of c (m 0)) (slots_of c (m 1))
theorem bufs_join (m : Fin 2 → Memref sig .tc .vmem S3840x256 .bf16) :
    (bigSep Finset.univ fun u : Fin 2 × Fin 19 =>
        (iprop(∃ Y, owns (c : Thread nD τ) ((m u.1).slice (srect u.2) (fun _ => rfl)) fullShare Y) : sProp 𝕄))
      ⊢ iprop((∃ Y, owns (c : Thread nD τ) (m 0) fullShare Y) ∗ (∃ Y, owns (c : Thread nD τ) (m 1) fullShare Y)) := by
  rw [bigSep_univ_prod, bigSep_univ_eq_bigSepL [0, 1] (by decide) (by decide)]
  exact BI.sep_mono (slots_join c (m 0)) (slots_join c (m 1))

end Cert.KernelIdeal.Cube
-- ==== Proof.PartsD.lean ====
/-
The program's handshake, and its waits for the transfers it sent.
-/
module

public import proofs.«01_k».proof.Proof.Ends

@[expose] public section

noncomputable section

namespace Cert.KernelIdeal.Cube

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : Dev nD → Vec F S2048x512 .bf16) (c : Dev nD)

/-- A program that only computes. -/
theorem p1 {Q : (Σ' (d0 : Dev nD) (v8 : BitVec 32) (v10 : BitVec 32) (v17 : BitVec 32) (v20 : BitVec 32) (v21 : BitVec 32) (v22 : BitVec 32) (v27 : BitVec 32), BitVec 32) → sProp 𝕄} :
    (iprop(∀ b1 b2 b3 b4 b5 b6 b7 b8, Q ⟨c, b1, b2, b3, b4, b5, b6, b7, b8⟩) : sProp 𝕄)
      ⊢ WP c (k0_part1 (Memref.whole cc0_stg0_0) (Memref.isWhole_whole _) (Memref.whole cc0_stg1_0) (Memref.isWhole_whole _) (Memref.whole cc0_scratch0) (Memref.isWhole_whole _)
      (Memref.whole cc0_scratch1) (Memref.isWhole_whole _) (Memref.whole cc0_scratch2) (Memref.isWhole_whole _) (Memref.whole cc0_scratch3) (Memref.isWhole_whole _) cc0_scratch4) Q := by
  rw [k0_part1_eq_skeleton]; unfold k0_part1_skel
  simp only [Prog.lift, Prog.bind_op, Prog.bind_ret, Prog.pure_eq_ret]
  iintro H
  unfold WP
  rw [wp_deviceId]
  iapply (w_ret (F := F) c)
  iapply H

/-- The handshake with the four neighbours. -/
theorem p2 {v8 v10 v17 v20 v21 v27 v32 : BitVec 32}
    {Q : (Σ' (v46 : BitVec 32) (v49 : BitVec 32) (v52 : BitVec 32) (v54 : BitVec 32) (v57 : BitVec 32) (v59 : BitVec 32), BitVec 32) → sProp 𝕄} :
    Bst X c [0, 1, 2, 3] ⊢ iprop(atPos ER (barCell c) 0 ∅ 0 -∗ cred (tallyAt (barCell c) () 4)
      -∗ ((∃ (K : Dev nD × CI → ℕ) (W : Waits sig Unit), records X K ∗ levAts L lv ∗ owes (c : Thread nD τ) (Orem c 0) W)
        -∗ semVal (barCell c) 0 -∗ (bigSep Finset.univ fun u : Fin 2 × Fin 19 => rbAny (F := F) (partner u.1 u.2 c) u)
        -∗ ∀ b1 b2 b3 b4 b5 b6 b7, Q ⟨b1, b2, b3, b4, b5, b6, b7⟩)
      -∗ WP c (k0_part2 (Memref.whole cc0_stg0_0) (Memref.isWhole_whole _) (Memref.whole cc0_stg1_0) (Memref.isWhole_whole _) (Memref.whole cc0_scratch0) (Memref.isWhole_whole _)
      (Memref.whole cc0_scratch1) (Memref.isWhole_whole _) (Memref.whole cc0_scratch2) (Memref.isWhole_whole _) (Memref.whole cc0_scratch3) (Memref.isWhole_whole _) cc0_scratch4
      c v8 v10 v17 v20 v21 v27 v32) Q) := by
  rw [k0_part2_eq_skeleton]; unfold k0_part2_skel
  simp only [semSignalWord, semWaitWord, Prog.lift, Prog.bind_op, Prog.bind_ret, Prog.pure_eq_ret]
  iintro HB Hat Hcr Hk
  iapply (s_signal X c 0 ?_) $$ HB
  · exact (dev_bar c).1
  iintro HB
  iapply (s_signal X c 1 ?_) $$ HB
  · exact (dev_bar c).2.1
  iintro HB
  iapply (s_signal X c 2 ?_) $$ HB
  · exact (dev_bar c).2.2.1
  iintro HB
  iapply (s_signal X c 3 ?_) $$ HB
  · exact (dev_bar c).2.2.2
  iintro HB
  iapply (s_handshake X c) $$ HB Hat Hcr
  iintro H Hz Hr
  iapply w_ret
  iapply Hk $$ H Hz Hr

/-- Another that only computes. -/
theorem p3 {v8 v10 v21 v22 v46 v59 v60 : BitVec 32}
    {Q : (Σ' (v62 : BitVec 32) (v64 : BitVec 32) (v67 : BitVec 32) (v70 : BitVec 32) (v74 : BitVec 32) (v76 : BitVec 32) (v78 : BitVec 32) (v79 : BitVec 32) (v84 : BitVec 32) (v87 : BitVec 32) (v90 : BitVec 32) (v92 : BitVec 32), BitVec 32) → sProp 𝕄} :
    (iprop(∀ r, Q r) : sProp 𝕄)
      ⊢ WP c (k0_part3 (Memref.whole cc0_stg0_0) (Memref.isWhole_whole _) (Memref.whole cc0_stg1_0) (Memref.isWhole_whole _) (Memref.whole cc0_scratch0) (Memref.isWhole_whole _)
      (Memref.whole cc0_scratch1) (Memref.isWhole_whole _) (Memref.whole cc0_scratch2) (Memref.isWhole_whole _) (Memref.whole cc0_scratch3) (Memref.isWhole_whole _) cc0_scratch4
      v8 v10 v21 v22 v46 v59 v60) Q := by
  rw [k0_part3_eq_skeleton]; unfold k0_part3_skel
  simp only [Prog.lift, Prog.bind_op, Prog.bind_ret, Prog.pure_eq_ret]
  iintro H
  iapply (w_ret (F := F) c)
  iapply H

/-- The last block written, and the waits for the transfers sent. -/
theorem p39 {f0 : Vec F S2048x512 .bf16} {Q : PUnit → sProp 𝕄} :
    Sw X c 0 ⊢ iprop(O 1 18 c f0 -∗ (Sw X c 4 -∗ O 1 18 c (G X) -∗ Q ⟨⟩)
      -∗ WP c (k0_part39 (Memref.whole cc0_stg0_0) (Memref.isWhole_whole _) (Memref.whole cc0_stg1_0) (Memref.isWhole_whole _) (Memref.whole cc0_scratch0) (Memref.isWhole_whole _)
      (Memref.whole cc0_scratch1) (Memref.isWhole_whole _) (Memref.whole cc0_scratch2) (Memref.isWhole_whole _) (Memref.whole cc0_scratch3) (Memref.isWhole_whole _) cc0_scratch4 c (V X 1 18 c)) Q) := by
  rw [k0_part39_eq_skeleton]; unfold k0_part39_skel
  simp only [Prog.lift, Prog.bind_op, Prog.bind_ret, Prog.pure_eq_ret]
  iintro HW O118 Hk
  iapply (o_put c 1 18 (G X) ?_ ?_) $$ O118
  · exact offTab_eq c 27
  · exact fun i => rfl
  iintro O118
  iapply (s_sent X c 0 0 rfl ?_) $$ HW
  · exact NC_src 0 0
  iintro HW
  iapply (s_sent X c 0 1 rfl ?_) $$ HW
  · exact NC_src 0 1
  iintro HW
  iapply (s_sent X c 0 2 rfl ?_) $$ HW
  · exact NC_src 0 2
  iintro HW
  iapply (s_sent X c 0 3 rfl ?_) $$ HW
  · exact NC_src 0 3
  iintro HW
  iapply w_ret
  iapply Hk $$ HW O118

theorem p40 {Q : PUnit → sProp 𝕄} :
    Sw X c 4 ⊢ iprop((Sw X c 8 -∗ Q ⟨⟩)
      -∗ WP c (k0_part40 (Memref.whole cc0_stg0_0) (Memref.isWhole_whole _) (Memref.whole cc0_stg1_0) (Memref.isWhole_whole _) (Memref.whole cc0_scratch0) (Memref.isWhole_whole _)
      (Memref.whole cc0_scratch1) (Memref.isWhole_whole _) (Memref.whole cc0_scratch2) (Memref.isWhole_whole _) (Memref.whole cc0_scratch3) (Memref.isWhole_whole _) cc0_scratch4) Q) := by
  rw [k0_part40_eq_skeleton]; unfold k0_part40_skel
  simp only [Prog.lift, Prog.bind_op, Prog.bind_ret, Prog.pure_eq_ret]
  iintro HW Hk
  iapply (s_sent X c 0 4 rfl ?_) $$ HW
  · exact NC_src 0 4
  iintro HW
  iapply (s_sent X c 0 5 rfl ?_) $$ HW
  · exact NC_src 0 5
  iintro HW
  iapply (s_sent X c 0 6 rfl ?_) $$ HW
  · exact NC_src 0 6
  iintro HW
  iapply (s_sent X c 0 7 rfl ?_) $$ HW
  · exact NC_src 0 7
  iintro HW
  iapply w_ret
  iapply Hk $$ HW

theorem p41 {Q : PUnit → sProp 𝕄} :
    Sw X c 8 ⊢ iprop((Sw X c 12 -∗ Q ⟨⟩)
      -∗ WP c (k0_part41 (Memref.whole cc0_stg0_0) (Memref.isWhole_whole _) (Memref.whole cc0_stg1_0) (Memref.isWhole_whole _) (Memref.whole cc0_scratch0) (Memref.isWhole_whole _)
      (Memref.whole cc0_scratch1) (Memref.isWhole_whole _) (Memref.whole cc0_scratch2) (Memref.isWhole_whole _) (Memref.whole cc0_scratch3) (Memref.isWhole_whole _) cc0_scratch4) Q) := by
  rw [k0_part41_eq_skeleton]; unfold k0_part41_skel
  simp only [Prog.lift, Prog.bind_op, Prog.bind_ret, Prog.pure_eq_ret]
  iintro HW Hk
  iapply (s_sent X c 0 8 rfl ?_) $$ HW
  · exact NC_src 0 8
  iintro HW
  iapply (s_sent X c 0 9 rfl ?_) $$ HW
  · exact NC_src 0 9
  iintro HW
  iapply (s_sent X c 0 10 rfl ?_) $$ HW
  · exact NC_src 0 10
  iintro HW
  iapply (s_sent X c 0 11 rfl ?_) $$ HW
  · exact NC_src 0 11
  iintro HW
  iapply w_ret
  iapply Hk $$ HW

theorem p42 {Q : PUnit → sProp 𝕄} :
    Sw X c 12 ⊢ iprop((Sw X c 17 -∗ Q ⟨⟩)
      -∗ WP c (k0_part42 (Memref.whole cc0_stg0_0) (Memref.isWhole_whole _) (Memref.whole cc0_stg1_0) (Memref.isWhole_whole _) (Memref.whole cc0_scratch0) (Memref.isWhole_whole _)
      (Memref.whole cc0_scratch1) (Memref.isWhole_whole _) (Memref.whole cc0_scratch2) (Memref.isWhole_whole _) (Memref.whole cc0_scratch3) (Memref.isWhole_whole _) cc0_scratch4) Q) := by
  rw [k0_part42_eq_skeleton]; unfold k0_part42_skel
  simp only [Prog.lift, Prog.bind_op, Prog.bind_ret, Prog.pure_eq_ret]
  iintro HW Hk
  iapply (s_sent X c 0 12 rfl ?_) $$ HW
  · exact NC_src 0 12
  iintro HW
  iapply (s_sent X c 0 13 rfl ?_) $$ HW
  · exact NC_src 0 13
  iintro HW
  iapply (s_sent X c 0 14 rfl ?_) $$ HW
  · exact NC_src 0 14
  iintro HW
  iapply (s_sent X c 0 15 rfl ?_) $$ HW
  · exact NC_src 0 15
  iintro HW
  iapply (s_sent X c 0 16 rfl ?_) $$ HW
  · exact NC_src 0 16
  iintro HW
  iapply w_ret
  iapply Hk $$ HW

theorem p43 {Q : PUnit → sProp 𝕄} :
    Sw X c 17 ⊢ iprop((Sw X c 21 -∗ Q ⟨⟩)
      -∗ WP c (k0_part43 (Memref.whole cc0_stg0_0) (Memref.isWhole_whole _) (Memref.whole cc0_stg1_0) (Memref.isWhole_whole _) (Memref.whole cc0_scratch0) (Memref.isWhole_whole _)
      (Memref.whole cc0_scratch1) (Memref.isWhole_whole _) (Memref.whole cc0_scratch2) (Memref.isWhole_whole _) (Memref.whole cc0_scratch3) (Memref.isWhole_whole _) cc0_scratch4) Q) := by
  rw [k0_part43_eq_skeleton]; unfold k0_part43_skel
  simp only [Prog.lift, Prog.bind_op, Prog.bind_ret, Prog.pure_eq_ret]
  iintro HW Hk
  iapply (s_sent X c 0 17 rfl ?_) $$ HW
  · exact NC_src 0 17
  iintro HW
  iapply (s_sent X c 0 18 rfl ?_) $$ HW
  · exact NC_src 0 18
  iintro HW
  iapply (s_sent X c 1 0 rfl ?_) $$ HW
  · exact NC_src 1 0
  iintro HW
  iapply (s_sent X c 1 1 rfl ?_) $$ HW
  · exact NC_src 1 1
  iintro HW
  iapply w_ret
  iapply Hk $$ HW

theorem p44 {Q : PUnit → sProp 𝕄} :
    Sw X c 21 ⊢ iprop((Sw X c 25 -∗ Q ⟨⟩)
      -∗ WP c (k0_part44 (Memref.whole cc0_stg0_0) (Memref.isWhole_whole _) (Memref.whole cc0_stg1_0) (Memref.isWhole_whole _) (Memref.whole cc0_scratch0) (Memref.isWhole_whole _)
      (Memref.whole cc0_scratch1) (Memref.isWhole_whole _) (Memref.whole cc0_scratch2) (Memref.isWhole_whole _) (Memref.whole cc0_scratch3) (Memref.isWhole_whole _) cc0_scratch4) Q) := by
  rw [k0_part44_eq_skeleton]; unfold k0_part44_skel
  simp only [Prog.lift, Prog.bind_op, Prog.bind_ret, Prog.pure_eq_ret]
  iintro HW Hk
  iapply (s_sent X c 1 2 rfl ?_) $$ HW
  · exact NC_src 1 2
  iintro HW
  iapply (s_sent X c 1 3 rfl ?_) $$ HW
  · exact NC_src 1 3
  iintro HW
  iapply (s_sent X c 1 4 rfl ?_) $$ HW
  · exact NC_src 1 4
  iintro HW
  iapply (s_sent X c 1 5 rfl ?_) $$ HW
  · exact NC_src 1 5
  iintro HW
  iapply w_ret
  iapply Hk $$ HW

theorem p45 {Q : PUnit → sProp 𝕄} :
    Sw X c 25 ⊢ iprop((Sw X c 29 -∗ Q ⟨⟩)
      -∗ WP c (k0_part45 (Memref.whole cc0_stg0_0) (Memref.isWhole_whole _) (Memref.whole cc0_stg1_0) (Memref.isWhole_whole _) (Memref.whole cc0_scratch0) (Memref.isWhole_whole _)
      (Memref.whole cc0_scratch1) (Memref.isWhole_whole _) (Memref.whole cc0_scratch2) (Memref.isWhole_whole _) (Memref.whole cc0_scratch3) (Memref.isWhole_whole _) cc0_scratch4) Q) := by
  rw [k0_part45_eq_skeleton]; unfold k0_part45_skel
  simp only [Prog.lift, Prog.bind_op, Prog.bind_ret, Prog.pure_eq_ret]
  iintro HW Hk
  iapply (s_sent X c 1 6 rfl ?_) $$ HW
  · exact NC_src 1 6
  iintro HW
  iapply (s_sent X c 1 7 rfl ?_) $$ HW
  · exact NC_src 1 7
  iintro HW
  iapply (s_sent X c 1 8 rfl ?_) $$ HW
  · exact NC_src 1 8
  iintro HW
  iapply (s_sent X c 1 9 rfl ?_) $$ HW
  · exact NC_src 1 9
  iintro HW
  iapply w_ret
  iapply Hk $$ HW

theorem p46 {Q : PUnit → sProp 𝕄} :
    Sw X c 29 ⊢ iprop((Sw X c 34 -∗ Q ⟨⟩)
      -∗ WP c (k0_part46 (Memref.whole cc0_stg0_0) (Memref.isWhole_whole _) (Memref.whole cc0_stg1_0) (Memref.isWhole_whole _) (Memref.whole cc0_scratch0) (Memref.isWhole_whole _)
      (Memref.whole cc0_scratch1) (Memref.isWhole_whole _) (Memref.whole cc0_scratch2) (Memref.isWhole_whole _) (Memref.whole cc0_scratch3) (Memref.isWhole_whole _) cc0_scratch4) Q) := by
  rw [k0_part46_eq_skeleton]; unfold k0_part46_skel
  simp only [Prog.lift, Prog.bind_op, Prog.bind_ret, Prog.pure_eq_ret]
  iintro HW Hk
  iapply (s_sent X c 1 10 rfl ?_) $$ HW
  · exact NC_src 1 10
  iintro HW
  iapply (s_sent X c 1 11 rfl ?_) $$ HW
  · exact NC_src 1 11
  iintro HW
  iapply (s_sent X c 1 12 rfl ?_) $$ HW
  · exact NC_src 1 12
  iintro HW
  iapply (s_sent X c 1 13 rfl ?_) $$ HW
  · exact NC_src 1 13
  iintro HW
  iapply (s_sent X c 1 14 rfl ?_) $$ HW
  · exact NC_src 1 14
  iintro HW
  iapply w_ret
  iapply Hk $$ HW

end Cert.KernelIdeal.Cube
-- ==== Proof.Body.lean ====
/-
A device's program, from its parts.
-/
module

public import proofs.«01_k».proof.Proof.PartsA
public import proofs.«01_k».proof.Proof.PartsB
public import proofs.«01_k».proof.Proof.PartsC
public import proofs.«01_k».proof.Proof.PartsD

@[expose] public section

noncomputable section

namespace Cert.KernelIdeal.Cube

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : Dev nD → Vec F S2048x512 .bf16) (c : Dev nD)

/-- A program and what follows it. -/
theorem w_bind {α β : Type} {e : Prog (TpuEff nD τ sig (Elt F) Λ₀ .tc) β} {kk : β → Prog (TpuEff nD τ sig (Elt F) Λ₀ .tc) α} {Q : α → sProp 𝕄} :
    WP c e (fun x => WP c (kk x) Q) ⊢ WP c (e >>= kk) Q := by
  unfold WP
  rw [wp_bind]

/-- The result's buffer, by the rows that a device writes at a time. -/
theorem O_parts (f : Vec F S2048x512 .bf16) : owns (c : Thread nD τ) oM fullShare f
    = iprop((O 0 0 c f ∗ O 0 1 c f ∗ O 0 2 c f ∗ O 0 3 c f ∗ O 0 13 c f ∗ O 0 14 c f ∗ O 0 15 c f ∗ O 0 16 c f ∗ O 0 17 c f ∗ O 0 18 c f)
      ∗ (O 1 0 c f ∗ O 1 1 c f ∗ O 1 2 c f ∗ O 1 3 c f ∗ O 1 13 c f ∗ O 1 14 c f ∗ O 1 15 c f ∗ O 1 16 c f ∗ O 1 17 c f ∗ O 1 18 c f)) := by
  rw [O_all, bigSep_univ_eq_bigSepL [0, 1] (by decide) (by decide)]
  rfl

/-- What a device's program starts from. -/
def Pre (f : Vec F S2048x512 .bf16) : sProp 𝕄 :=
  iprop(Bst X c [0, 1, 2, 3] ∗ atPos ER (barCell c) 0 ∅ 0 ∗ cred (tallyAt (barCell c) () 4)
    ∗ (bigSep Finset.univ fun u : Fin 2 × Fin 19 => iprop(dutyTok ER (sendCell c u.1 u.2) 0 0 ∗ dutyTok ER (dstCell c u) 0 0))
    ∗ (bigSep Finset.univ fun u : Fin 2 × Fin 19 => RecvTok (F := F) c u)
    ∗ (bigSep Finset.univ fun u : Fin 2 × Fin 19 => atPos ER (sendCell c u.1 u.2) 0 ∅ 0)
    ∗ (bigSep Finset.univ (sbAny (F := F) c))
    ∗ owns (c : Thread nD τ) xM fullShare (X c) ∗ owns (c : Thread nD τ) oM fullShare f)

/-- What it ends with: the result complete, and every semaphore at zero. -/
def Post : sProp 𝕄 :=
  iprop((∃ W : Waits sig Unit, owes (c : Thread nD τ) 0 W) ∗ semVal (barCell c) 0
    ∗ (bigSep Finset.univ fun u : Fin 2 × Fin 19 => semVal (sendCell c u.1 u.2) 0)
    ∗ (bigSep Finset.univ fun u : Fin 2 × Fin 19 => semVal (recvCell c u.1 u.2) 0)
    ∗ (bigSep Finset.univ (sbAny (F := F) c)) ∗ (bigSep Finset.univ (rbAny (F := F) c))
    ∗ owns (c : Thread nD τ) xM fullShare (X c) ∗ owns (c : Thread nD τ) oM fullShare (G X))

/-- The program of a device up to its last three waits. -/
theorem p47 {f : Vec F S2048x512 .bf16} {Q : PUnit → sProp 𝕄} :
    Pre X c f ⊢ iprop((Sw X c 35 -∗ semVal (barCell c) 0 -∗ (bigSep Finset.univ fun u : Fin 2 × Fin 19 => semVal (recvCell c u.1 u.2) 0)
      -∗ (bigSep Finset.univ (Kept (F := F) c)) -∗ bigSepL spare (sbAny (F := F) c)
      -∗ owns (c : Thread nD τ) xM fullShare (X c) -∗ owns (c : Thread nD τ) oM fullShare (G X) -∗ Q ⟨⟩)
      -∗ WP c (k0_part47 (Memref.whole cc0_stg0_0) (Memref.isWhole_whole _) (Memref.whole cc0_stg1_0) (Memref.isWhole_whole _) (Memref.whole cc0_scratch0) (Memref.isWhole_whole _)
      (Memref.whole cc0_scratch1) (Memref.isWhole_whole _) (Memref.whole cc0_scratch2) (Memref.isWhole_whole _) (Memref.whole cc0_scratch3) (Memref.isWhole_whole _) cc0_scratch4) Q) := by
  rw [k0_part47_eq_skeleton]; unfold k0_part47_skel Pre
  rw [O_parts, all_sbsched (sbAny (F := F) c)]
  iintro ⟨HB, Hat, Hcr, Ht, Hr, Hsa, ⟨Hsb, Hsp⟩, Hx, ⟨⟨O00, O01, O02, O03, O013, O014, O015, O016, O017, O018⟩, O10, O11, O12, O13, O113, O114, O115, O116, O117, O118⟩⟩ Hk
  iapply w_bind; iapply (p1 c)
  iintro %v8 %v10 %v17 %v20 %v21 %v22 %v27 %v32
  dsimp only
  iapply w_bind; iapply (p2 X c) $$ HB Hat Hcr
  iintro HK HzB Hrb %v46 %v49 %v52 %v54 %v57 %v59 %v60
  dsimp only
  ihave HS := (s_start X c) $$ [HK Ht Hrb Hr Hsb Hx]
  · isplitl [HK]; · iexact HK
    isplitl [Ht]; · iexact Ht
    isplitl [Hrb]; · iexact Hrb
    isplitl [Hr]; · iexact Hr
    isplitl [Hsb] <;> iassumption
  iapply w_bind; iapply (p3 c)
  iintro %r
  rcases r with ⟨v62, v64, v67, v70, v74, v76, v78, v79, v84, v87, v90, v92, v95⟩
  dsimp only
  iapply w_bind; iapply (p4 X c) $$ HS
  iintro HS R01 %r
  rcases r with ⟨v97, v100, v102, v105, v108, v112, v114, v116, v117⟩
  dsimp only
  iapply w_bind; iapply (p5 X c) $$ HS R01
  iintro HS R03
  iapply w_bind; iapply (p6 X c) $$ HS R03
  iintro HS R00
  iapply w_bind; iapply (p7 X c) $$ HS R00
  iintro HS R02
  iapply w_bind; iapply (p8 X c) $$ HS R02
  iintro HS V01 %b8
  dsimp only
  iapply w_bind; iapply (p9 X c) $$ HS V01 O01
  iintro HS V11 O01 %b9
  iapply w_bind; iapply (p10 X c) $$ HS V11 O11
  iintro HS O11
  iapply w_bind; iapply (p11 X c) $$ HS O03
  iintro HS O03
  iapply w_bind; iapply (p12 X c) $$ HS O13
  iintro HS O13 %b12
  iapply w_bind; iapply (p13 X c) $$ HS O00
  iintro HS O00
  iapply w_bind; iapply (p14 X c) $$ HS O10
  iintro HS O10
  iapply w_bind; iapply (p15 X c) $$ HS O10
  iintro HS O10 %b15
  iapply w_bind; iapply (p16 X c) $$ HS O02
  iintro HS O02 %b16
  iapply w_bind; iapply (p17 X c) $$ HS O12
  iintro HS O12
  iapply w_bind; iapply (p18 X c) $$ HS O02
  iintro HS O07 O08 %b18
  iapply w_bind; iapply (p19 X c) $$ HS O12
  iintro HS O17 O18
  iapply w_bind; iapply (p20 X c) $$ HS O07
  iintro HS O07 N0 M0 R08 R010 R013
  iapply w_bind; iapply (p21 X c) $$ HS R08 R010 R013
  iintro HS
  iapply w_bind; iapply (p22 X c) $$ HS O17
  iintro HS O17 N1 M1 R18 R110 R113
  iapply w_bind; iapply (p23 X c) $$ HS R18 R110 R113
  iintro HS
  iapply w_bind; iapply (p24 X c) $$ HS N0 M0 O08
  iintro HS O08 R011 R014
  iapply w_bind; iapply (p25 X c) $$ HS R011 R014 M1 O18
  iintro HS O18 M1
  dsimp only
  iapply w_bind; iapply (p26 X c) $$ HS N1 M1
  iintro HS R114
  iapply w_bind; iapply (p27 X c) $$ HS R114 O00
  iintro HS O00 R012 R015
  iapply w_bind; iapply (p28 X c) $$ HS R012 R015 O10
  iintro HS O10 R112 R115
  iapply w_bind; iapply (p29 X c) $$ HS R112 R115
  iintro HS V010 %b29
  ihave O03 := (Entails.of_eq (O_three c 0 (T1 X 0 c))) $$ O03
  icases O03 with ⟨O010, O011⟩
  ihave O13 := (Entails.of_eq (O_three c 1 (T1 X 1 c))) $$ O13
  icases O13 with ⟨O110, O111⟩
  iapply w_bind; iapply (p30 X c) $$ HS V010 O010
  iintro HS O010 V110 %b30
  iapply w_bind; iapply (p31 X c) $$ HS V110 O110 O011
  iintro HS O110 O011
  iapply w_bind; iapply (p32 X c) $$ HS O111
  iintro HS O111 V012
  iapply w_bind; iapply (p33 X c) $$ HS V012 O01
  iintro HS O01
  iapply w_bind; iapply (p34 X c) $$ HS O11 O013 O014
  iintro HS O11 O013 O014
  iapply w_bind; iapply (p35 X c) $$ HS O015 O016
  iintro HS O015 O016 V017 %b35
  iapply w_bind; iapply (p36 X c) $$ HS V017 O017 O018 O113
  iintro HS O017 O018 O113
  iapply w_bind; iapply (p37 X c) $$ HS O114 O115
  iintro HS O114 O115
  iapply w_bind; iapply (p38 X c) $$ HS O116 O117
  iintro HS O116 O117
  ihave HL := (s_last X c) $$ HS Hsa
  icases HL with ⟨HW, HzR, Hq, Hx⟩
  iapply w_bind; iapply (p39 X c) $$ HW O118
  iintro HW O118
  iapply w_bind; iapply (p40 X c) $$ HW
  iintro HW
  iapply w_bind; iapply (p41 X c) $$ HW
  iintro HW
  iapply w_bind; iapply (p42 X c) $$ HW
  iintro HW
  iapply w_bind; iapply (p43 X c) $$ HW
  iintro HW
  iapply w_bind; iapply (p44 X c) $$ HW
  iintro HW
  iapply w_bind; iapply (p45 X c) $$ HW
  iintro HW
  iapply w_bind; iapply (p46 X c) $$ HW
  iintro HW
  simp only [Prog.lift, Prog.bind_op, Prog.bind_ret, Prog.pure_eq_ret]
  iapply (s_sent X c 1 15 rfl ?_) $$ HW
  · exact NC_src 1 15
  iintro HW
  ihave O02 := (Entails.of_eq (O_two c 0 (G X)).symm) $$ [O07 O08]
  · isplitl [O07] <;> iassumption
  ihave O12 := (Entails.of_eq (O_two c 1 (G X)).symm) $$ [O17 O18]
  · isplitl [O17] <;> iassumption
  ihave O03 := (Entails.of_eq (O_three c 0 (G X)).symm) $$ [O010 O011]
  · isplitl [O010] <;> iassumption
  ihave O13 := (Entails.of_eq (O_three c 1 (G X)).symm) $$ [O110 O111]
  · isplitl [O110] <;> iassumption
  ihave HO := (Entails.of_eq (O_parts c (G X)).symm) $$ [O00 O01 O02 O03 O013 O014 O015 O016 O017 O018 O10 O11 O12 O13 O113 O114 O115 O116 O117 O118]
  · isplitl [O00 O01 O02 O03 O013 O014 O015 O016 O017 O018]
    · isplitl [O00]; · iexact O00
      isplitl [O01]; · iexact O01
      isplitl [O02]; · iexact O02
      isplitl [O03]; · iexact O03
      isplitl [O013]; · iexact O013
      isplitl [O014]; · iexact O014
      isplitl [O015]; · iexact O015
      isplitl [O016]; · iexact O016
      isplitl [O017]; · iexact O017
      iexact O018
    isplitl [O10]; · iexact O10
    isplitl [O11]; · iexact O11
    isplitl [O12]; · iexact O12
    isplitl [O13]; · iexact O13
    isplitl [O113]; · iexact O113
    isplitl [O114]; · iexact O114
    isplitl [O115]; · iexact O115
    isplitl [O116]; · iexact O116
    isplitl [O117]; · iexact O117
    iexact O118
  iapply w_ret
  iapply Hk $$ HW HzB HzR Hq Hsp Hx HO

/-- The program of a device. -/
theorem body_run {f : Vec F S2048x512 .bf16} {Q : PUnit → sProp 𝕄} :
    Pre X c f ⊢ iprop((Post X c -∗ Q ⟨⟩)
      -∗ WP c (cc0_body (Memref.whole cc0_stg0_0) (Memref.isWhole_whole _) (Memref.whole cc0_stg1_0) (Memref.isWhole_whole _) (Memref.whole cc0_scratch0) (Memref.isWhole_whole _)
      (Memref.whole cc0_scratch1) (Memref.isWhole_whole _) (Memref.whole cc0_scratch2) (Memref.isWhole_whole _) (Memref.whole cc0_scratch3) (Memref.isWhole_whole _) cc0_scratch4) Q) := by
  rw [cc0_body_eq_skeleton]; unfold cc0_body_skel
  iintro H Hk
  iapply w_bind; iapply (p47 X c) $$ H
  iintro HW HzB HzR Hq Hsp Hx HO
  simp only [Prog.lift, Prog.bind_op, Prog.bind_ret, Prog.pure_eq_ret]
  iapply (s_sent X c 1 16 rfl ?_) $$ HW
  · exact NC_src 1 16
  iintro HW
  iapply (s_sent X c 1 17 rfl ?_) $$ HW
  · exact NC_src 1 17
  iintro HW
  iapply (s_sent X c 1 18 rfl ?_) $$ HW
  · exact NC_src 1 18
  iintro HW
  iapply w_ret
  ihave HL := (sw_last X c) $$ HW
  icases HL with ⟨%W, Hw, HzS, Hp⟩
  ihave HB := (slots_back (F := F) c) $$ [Hp Hq Hsp]
  · isplitl [Hp]; · iexact Hp
    isplitl [Hq] <;> iassumption
  icases HB with ⟨Hsb, Hrb⟩
  iapply Hk
  unfold Post
  isplitl [Hw]; · iexists W; iexact Hw
  isplitl [HzB]; · iexact HzB
  isplitl [HzS]; · iexact HzS
  isplitl [HzR]; · iexact HzR
  isplitl [Hsb]; · iexact Hsb
  isplitl [Hrb]; · iexact Hrb
  isplitl [Hx]; · iexact Hx
  iexact HO

end Cert.KernelIdeal.Cube
-- ==== Proof.Deal.lean ====
/-
The ghost state a launch deals: every cell's record, its place, and the duties that each device pays.
-/
module

public import proofs.«01_k».proof.Proof.Body
public import proofs.«01_k».proof.Proof.Gen.KernelIdeal.Launch
public import Idealize.ShloMosaic.Lib.Pipeline.Launch
public import Idealize.ShloMosaic.Lib.Pipeline.Kit

@[expose] public section

noncomputable section

namespace Cert.KernelIdeal.Cube

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## Families over a device's cells -/

/-- The transfers' semaphores of a device. -/
abbrev osem (v : Fin 4 × Fin 19) : SemLoc sig := .dma (xsem v.1 v.2)
/-- A transfer cell of a device. -/
abbrev xCell (c : Dev nD) (v : Fin 4 × Fin 19) : GSem nD τ sig := ((c : Thread nD τ), osem v)

/-- The transfers' cells are the send cells and the receive cells. -/
theorem rows_split (Φ : Fin 4 × Fin 19 → sProp 𝕄) : bigSep Finset.univ Φ
    = iprop((bigSep Finset.univ fun u : Fin 2 × Fin 19 => Φ (srow u.1, u.2))
      ∗ bigSep Finset.univ fun u : Fin 2 × Fin 19 => Φ (rrow u.1, u.2)) := by
  rw [bigSep_univ_prod, bigSep_univ_prod, bigSep_univ_prod,
    bigSep_univ_eq_bigSepL [0, 1, 2, 3] (by decide) (by decide), bigSep_univ_eq_bigSepL [0, 1] (by decide) (by decide),
    bigSep_univ_eq_bigSepL [0, 1] (by decide) (by decide)]
  refine BI.Entails.antisymm (show _ ⊢ (_ : sProp 𝕄) from ?_) (show _ ⊢ (_ : sProp 𝕄) from ?_)
  · show iprop((bigSep Finset.univ fun k => Φ (0, k)) ∗ (bigSep Finset.univ fun k => Φ (1, k)) ∗ (bigSep Finset.univ fun k => Φ (2, k)) ∗ bigSep Finset.univ fun k => Φ (3, k))
      ⊢ iprop(((bigSep Finset.univ fun k => Φ (0, k)) ∗ bigSep Finset.univ fun k => Φ (2, k)) ∗ (bigSep Finset.univ fun k => Φ (1, k)) ∗ bigSep Finset.univ fun k => Φ (3, k))
    iintro ⟨H0, H1, H2, H3⟩
    isplitl [H0 H2]
    · isplitl [H0] <;> iassumption
    isplitl [H1] <;> iassumption
  · show iprop(((bigSep Finset.univ fun k => Φ (0, k)) ∗ bigSep Finset.univ fun k => Φ (2, k)) ∗ (bigSep Finset.univ fun k => Φ (1, k)) ∗ bigSep Finset.univ fun k => Φ (3, k))
      ⊢ iprop((bigSep Finset.univ fun k => Φ (0, k)) ∗ (bigSep Finset.univ fun k => Φ (1, k)) ∗ (bigSep Finset.univ fun k => Φ (2, k)) ∗ bigSep Finset.univ fun k => Φ (3, k))
    iintro ⟨⟨H0, H2⟩, H1, H3⟩
    isplitl [H0]; · iexact H0
    isplitl [H1]; · iexact H1
    isplitl [H2] <;> iassumption

/-- A device's cells are its barrier cell and the transfers'. -/
theorem cells_split (Φ : CI → sProp 𝕄) : bigSep Finset.univ Φ
    = iprop(Φ none ∗ bigSep Finset.univ fun v : Fin 4 × Fin 19 => Φ (some v)) := by
  rw [bigSep_univ_at Φ none]
  have h : (Finset.univ : Finset CI).erase none = Finset.univ.map ⟨some, Option.some_injective _⟩ := by
    ext i; cases i <;> simp
  rw [h, BI.bigSep_map]; rfl

/-! ## The cells and their duties -/

theorem csem_injective : Function.Injective csem := by
  rintro (_ | ⟨r, k⟩) (_ | ⟨r', k'⟩) h
  · rfl
  · cases h
  · cases h
  · have h1 : (xsem r k).val = (xsem r' k').val := congrArg Fin.val (SemLoc.dma.inj h)
    rw [xsem_val, xsem_val] at h1
    have hk := k.isLt; have hk' := k'.isLt
    obtain rfl : r = r' := Fin.ext (by omega)
    obtain rfl : k = k' := Fin.ext (by omega)
    rfl

theorem kcell_injective : Function.Injective kcell := by
  rintro ⟨c, i⟩ ⟨c', i'⟩ h
  obtain rfl : c = c' := congrArg (fun g : GSem nD τ sig => g.1.1) h
  obtain rfl : i = i' := csem_injective (congrArg Prod.snd h)
  rfl

def cubeCells : Finset (GSem nD τ sig) := Finset.univ.map ⟨kcell, kcell_injective⟩

/-- A device's cells' duties: one for each link at its barrier cell, one at each transfer cell. -/
abbrev TI : Type := Fin 4 ⊕ (Fin 4 × Fin 19)
def tokOf (cj : Dev nD × TI) : GSem nD τ sig × ℕ × Fin 4 :=
  match cj.2 with
  | .inl i => (barCell cj.1, 0, i)
  | .inr v => (xCell cj.1 v, 0, 0)

theorem tokOf_injective : Function.Injective tokOf := by
  rintro ⟨c, j⟩ ⟨c', j'⟩ h
  have hk : ∀ v v' : Fin 4 × Fin 19, xCell c v = xCell c' v' → (c, (Sum.inr v : TI)) = (c', Sum.inr v') := fun v v' e => by
    have := kcell_injective (a₁ := (c, some v)) (a₂ := (c', some v')) e
    cases this; rfl
  rcases j with i | v <;> rcases j' with i' | v'
  · have h1 := congrArg Prod.fst h
    have h2 : i = i' := congrArg (fun x : GSem nD τ sig × ℕ × Fin 4 => x.2.2) h
    obtain rfl : c = c' := congrArg (fun g : GSem nD τ sig => g.1.1) h1
    rw [h2]
  · have h1 := congrArg (fun x : GSem nD τ sig × ℕ × Fin 4 => x.1.2) h
    cases h1
  · have h1 := congrArg (fun x : GSem nD τ sig × ℕ × Fin 4 => x.1.2) h
    cases h1
  · exact hk v v' (congrArg Prod.fst h)

def cubeToks : Finset (GSem nD τ sig × ℕ × Fin 4) := Finset.univ.map ⟨tokOf, tokOf_injective⟩

/-- The element the launch starts from. -/
def u₀ : UU :=
  (initOf (Pipeline.cells cfgs cellOf_inj) (Pipeline.launchToks cfgs cellOf_inj), initOf cubeCells cubeToks)

/-- The duties of device `c`'s own cells. -/
def toks (c : Dev nD) : sProp 𝕄 :=
  iprop((bigSep Finset.univ fun i : Fin 4 => dutyTok ER (barCell c) 0 i)
    ∗ bigSep Finset.univ fun v : Fin 4 × Fin 19 => dutyTok ER (xCell c v) 0 0)

section Deal

variable (X : Dev nD → Vec F S2048x512 .bf16)

/-- What the launch element holds for device `c`. -/
def Minted (c : Dev nD) : sProp 𝕄 :=
  iprop((bigSep Finset.univ fun i : CI => roundState ER (cubeRd X) (kcell (c, i)) 0)
    ∗ (bigSep Finset.univ fun i : CI => reached ER (kcell (c, i)) 0)
    ∗ (bigSep Finset.univ fun i : CI => atPos ER (kcell (c, i)) 0 ∅ 0) ∗ toks c)

theorem fund_cube : BI.own (ER (initOf cubeCells cubeToks)) ⊢ (|==> bigSep Finset.univ (Minted X) : sProp 𝕄) := by
  have hX (Φ : GSem nD τ sig → sProp 𝕄) :
      bigSep cubeCells Φ = bigSep Finset.univ fun c : Dev nD => bigSep Finset.univ fun i : CI => Φ (kcell (c, i)) := by
    unfold cubeCells; rw [BI.bigSep_map, bigSep_univ_prod]; rfl
  have hT : bigSep cubeToks (fun x => (dutyTok ER x.1 x.2.1 x.2.2 : sProp 𝕄)) = bigSep Finset.univ fun c : Dev nD => toks c := by
    unfold cubeToks; rw [BI.bigSep_map, bigSep_univ_prod]
    exact bigSep_congr fun c _ => by unfold toks; rw [BI.bigSep_univ_sum]; rfl
  iintro HX
  imod (Rounds.fund ER (cubeRd X) cubeCells cubeToks) $$ HX with ⟨Hst, Hr, Hat, Htok⟩
  imodintro
  ihave Hst' := (Entails.of_eq (hX fun g => roundState ER (cubeRd X) g 0)) $$ Hst
  ihave Hr' := (Entails.of_eq (hX fun g => reached ER g 0)) $$ Hr
  ihave Hat' := (Entails.of_eq (hX fun g => atPos ER g 0 ∅ 0)) $$ Hat
  ihave Htok' := (Entails.of_eq hT) $$ Htok
  unfold Minted; simp only [bigSep_sep']
  isplitl [Hst']; · iexact Hst'
  isplitl [Hr']; · iexact Hr'
  isplitl [Hat']; · iexact Hat'
  iexact Htok'

/-! ## Each device's semaphores, into its cells -/

theorem unscopedSems0_eq (c : Dev nD) : (unscopedSems0 c : sProp 𝕄) = semVal (barCell c) 0 := by
  unfold unscopedSems0; rw [bigSep_eq_bigSepL_of_eq [SemLoc.reg barS] (by decide) (by decide)]; rfl

theorem ownSems0_eq (c : Dev nD) :
    (Pipeline.ownSems0 (Ix := Unit) (Name := ℕ) (U := UU) (Lvl := ℕ) (Val := Elt F) (τ := τ) osem c : sProp 𝕄)
      = bigSep Finset.univ fun v : Fin 4 × Fin 19 => semVal (xCell c v) 0 := rfl

/-- One device's cells: their invariants allocated, the rest kept. -/
theorem core_alloc (c : Dev nD) :
    iprop(Pipeline.ownSems0 (Ix := Unit) (Name := ℕ) (U := UU) (Lvl := ℕ) (Val := Elt F) (τ := τ) osem c ∗ unscopedSems0 c ∗ Minted X c)
      ⊢ |={Set.univ}=> iprop((bigSep Finset.univ fun i : CI => iprop(∃ κ : ℕ, cellInv ER (cubeRd X) κ (kcell (c, i))))
          ∗ (bigSep Finset.univ fun i : CI => reached ER (kcell (c, i)) 0)
          ∗ (bigSep Finset.univ fun i : CI => atPos ER (kcell (c, i)) 0 ∅ 0) ∗ toks c) := by
  have hv : iprop(semVal (barCell c) 0 ∗ bigSep Finset.univ fun v : Fin 4 × Fin 19 => semVal (xCell c v) 0)
      ⊢ (bigSep Finset.univ fun i : CI => semVal (kcell (c, i)) 0 : sProp 𝕄) := by
    rw [cells_split]; exact Entails.of_eq rfl
  have ha : iprop((bigSep Finset.univ fun i : CI => semVal (kcell (c, i)) 0) ∗ bigSep Finset.univ fun i : CI => roundState ER (cubeRd X) (kcell (c, i)) 0)
      ⊢ (|={Set.univ}=> bigSep Finset.univ fun i : CI => iprop(∃ κ : ℕ, cellInv ER (cubeRd X) κ (kcell (c, i))) : sProp 𝕄) := by
    rw [← bigSep_sep']
    exact (bigSep_mono fun i _ => (Rounds.body_intro ER (cubeRd X) (kcell (c, i))).trans inv_alloc).trans (bigSep_fupd _ _)
  unfold Minted
  rw [ownSems0_eq, unscopedSems0_eq]
  iintro ⟨Hos, Hus, Hst, Hr, Hat, Htok⟩
  imod ha $$ [Hos Hus Hst] with Hinv
  · isplitl [Hos Hus]
    · iapply hv; isplitl [Hus] <;> iassumption
    iexact Hst
  imodintro
  isplitl [Hinv]; · iexact Hinv
  isplitl [Hr]; · iexact Hr
  isplitl [Hat] <;> iassumption

/-! ## The duties, to the devices that pay them -/

/-- The duties that device `c` pays. -/
def payToks (c : Dev nD) : sProp 𝕄 :=
  iprop((bigSep Finset.univ fun i : Fin 4 => dutyTok ER (barCell (nb i c)) 0 i)
    ∗ (bigSep Finset.univ fun u : Fin 2 × Fin 19 => dutyTok ER (sendCell c u.1 u.2) 0 0)
    ∗ bigSep Finset.univ fun u : Fin 2 × Fin 19 => dutyTok ER (dstCell c u) 0 0)

/-- A family over devices and an index, each index carrying its own involution of the devices, is
the same family with each device's part at its image. -/
theorem bigSep_swap {I : Type} [Fintype I] [DecidableEq I] (f : I → Dev nD → Dev nD) (hf : ∀ i c, f i (f i c) = c) (Φ : Dev nD → I → sProp 𝕄) :
    (bigSep Finset.univ fun c : Dev nD => bigSep Finset.univ fun i : I => Φ c i)
      = bigSep Finset.univ fun c : Dev nD => bigSep Finset.univ fun i : I => Φ (f i c) i := by
  let e : (Dev nD × I) ≃ (Dev nD × I) := ⟨fun p => (f p.2 p.1, p.2), fun p => (f p.2 p.1, p.2),
    fun p => by dsimp only; rw [hf], fun p => by dsimp only; rw [hf]⟩
  rw [← bigSep_univ_prod (fun p : Dev nD × I => Φ p.1 p.2), bigSep_univ_equiv e, bigSep_univ_prod]; rfl

theorem toks_dealt : (bigSep Finset.univ fun c : Dev nD => (toks c : sProp 𝕄)) ⊢ bigSep Finset.univ fun c : Dev nD => payToks c := by
  unfold toks payToks
  simp only [rows_split (fun v => (dutyTok ER (xCell _ v) 0 0 : sProp 𝕄))]
  simp only [bigSep_sep']
  rw [bigSep_swap (fun i => nb i) (fun i c => nb_nb i c) (fun c i => (dutyTok ER (barCell c) 0 i : sProp 𝕄)),
    bigSep_swap (fun u : Fin 2 × Fin 19 => partner u.1 u.2) (fun u c => partner_partner u.1 u.2 c)
      (fun c u => (dutyTok ER (recvCell c u.1 u.2) 0 0 : sProp 𝕄))]

/-- Where device `c` stands at its cells, and the duties it pays. -/
def Dealt (c : Dev nD) : sProp 𝕄 :=
  iprop(atPos ER (barCell c) 0 ∅ 0
    ∗ (bigSep Finset.univ fun u : Fin 2 × Fin 19 => atPos ER (sendCell c u.1 u.2) 0 ∅ 0)
    ∗ (bigSep Finset.univ fun u : Fin 2 × Fin 19 => atPos ER (recvCell c u.1 u.2) 0 ∅ 0) ∗ payToks c)

/-- What the global step makes for device `c`. -/
def Ghost (c : Dev nD) : sProp 𝕄 := iprop((∃ K : Dev nD × CI → ℕ, records X K) ∗ Dealt c)

theorem with_persistent {I : Type} [DecidableEq I] {S : Finset I} {R : sProp 𝕄} [BI.Persistent R] {Φ : I → sProp 𝕄} :
    iprop(R ∗ bigSep S Φ) ⊢ bigSep S fun i => iprop(R ∗ Φ i) :=
  (sep_mono_left (BI.bigSep_of_persistent S R)).trans (Entails.of_eq (bigSep_sep' _ _ _).symm)

theorem pos_split (c : Dev nD) : (bigSep Finset.univ fun i : CI => (atPos ER (kcell (c, i)) 0 ∅ 0 : sProp 𝕄))
    = iprop(atPos ER (barCell c) 0 ∅ 0
      ∗ (bigSep Finset.univ fun u : Fin 2 × Fin 19 => atPos ER (sendCell c u.1 u.2) 0 ∅ 0)
      ∗ bigSep Finset.univ fun u : Fin 2 × Fin 19 => atPos ER (recvCell c u.1 u.2) 0 ∅ 0) := by
  rw [cells_split, rows_split]; rfl

theorem regroup :
    (bigSep Finset.univ fun c : Dev nD => iprop((bigSep Finset.univ fun i : CI => iprop(∃ κ : ℕ, cellInv ER (cubeRd X) κ (kcell (c, i))))
          ∗ (bigSep Finset.univ fun i : CI => reached ER (kcell (c, i)) 0)
          ∗ (bigSep Finset.univ fun i : CI => atPos ER (kcell (c, i)) 0 ∅ 0) ∗ toks c) : sProp 𝕄)
      ⊢ bigSep Finset.univ (Ghost X) := by
  simp only [pos_split]
  rw [bigSep_sep', bigSep_sep', bigSep_sep', ← bigSep_univ_prod (fun ck : Dev nD × CI => iprop(∃ κ : ℕ, cellInv ER (cubeRd X) κ (kcell ck))),
    ← bigSep_univ_prod (fun ck : Dev nD × CI => (reached ER (kcell ck) 0 : sProp 𝕄))]
  iintro ⟨HI, #HR, Hat, Htok⟩
  ihave HK := (BI.bigSep_exists_pi Finset.univ (fun (ck : Dev nD × CI) (κ : ℕ) => (cellInv ER (cubeRd X) κ (kcell ck) : sProp 𝕄))) $$ HI
  icases HK with ⟨%K, #HI⟩
  ihave Htk := (toks_dealt (F := F)) $$ Htok
  unfold Ghost
  iapply (with_persistent (R := iprop(∃ K : Dev nD × CI → ℕ, records X K)))
  isplitr
  · iexists K; unfold records; isplitl; · iexact HI
    iexact HR
  unfold Dealt
  simp only [bigSep_sep']
  icases Hat with ⟨H1, H2, H3⟩
  isplitl [H1]; · iexact H1
  isplitl [H2]; · iexact H2
  isplitl [H3]; · iexact H3
  iexact Htk

/-- All the devices' semaphores at once. -/
theorem glob : (bigSep Finset.univ fun c => iprop(Pipeline.ownSems0 (Ix := Unit) (Name := ℕ) (U := UU) (Lvl := ℕ) (Val := Elt F) (τ := τ) osem c ∗ unscopedSems0 c ∗ Minted X c) : sProp 𝕄)
    ⊢ |={Set.univ}=> bigSep Finset.univ (Ghost X) :=
  ((bigSep_mono fun c _ => core_alloc X c).trans (bigSep_fupd _ _)).trans (BI.fupd_mono (regroup X))

end Deal

/-! ## The credits -/

theorem nb_tally (i : Fin 4) (c : Dev nD) :
    (Pipeline.launchCred (fun d => tallyAt (barCell (nb i d)) () 1) c : sProp 𝕄) ⊢ cred (tallyAt (barCell c) () 1) :=
  Pipeline.launchCred_tallyAt (.reg barS) (nb i) (nb i) (nb_nb i) (nb_nb i) () 1 c

theorem unit_tally (u : Fin 2 × Fin 19) (c : Dev nD) :
    (Pipeline.launchCred (fun d => oweU d u) c : sProp 𝕄) ⊢ cred (tallyAt (recvCell c u.1 u.2) () (NC u.2)) :=
  Pipeline.launchCred_tallyAt (.dma (xsem (rrow u.1) u.2)) (partner u.1 u.2) (partner u.1 u.2)
    (partner_partner u.1 u.2) (partner_partner u.1 u.2) () (NC u.2) c

theorem creds_list (c : Dev nD) (l : List (Fin 2 × Fin 19)) :
    (Pipeline.launchCred (fun d => Olist d l) c : sProp 𝕄)
      ⊢ bigSepL l fun u => cred (tallyAt (recvCell c u.1 u.2) () (NC u.2)) := by
  induction l with
  | nil => exact Entails.of_eq (Pipeline.launchCred_zero c)
  | cons u l ih =>
    rw [bigSepL_cons']
    refine (Entails.of_eq (Pipeline.launchCred_add (fun d => Olist d l) (fun d => oweU d u) c)).trans ?_
    iintro ⟨H1, H2⟩
    isplitl [H2]
    · iapply (unit_tally (F := F) u c); iexact H2
    iapply ih; iexact H1

theorem creds_bar (c : Dev nD) (l : List (Fin 4)) :
    (Pipeline.launchCred (fun d => Blist d l) c : sProp 𝕄)
      ⊢ iprop(cred (tallyAt (barCell c) () l.length) ∗ bigSep Finset.univ fun u : Fin 2 × Fin 19 => cred (tallyAt (recvCell c u.1 u.2) () (NC u.2))) := by
  induction l with
  | nil =>
    rw [all_sched]
    refine (creds_list c sched).trans ?_
    rw [List.length_nil, tallyAt_zero, cred_zero]
    iintro H; isplitr; · iempintro
    iexact H
  | cons i l ih =>
    refine (Entails.of_eq (Pipeline.launchCred_add (fun d => Blist d l) (fun d => tallyAt (barCell (nb i d)) () 1) c)).trans ?_
    rw [List.length_cons, ← tallyAt_add]
    iintro ⟨H1, H2⟩
    ihave H3 := ih $$ H1
    icases H3 with ⟨H3, H4⟩
    isplitr [H4]
    · iapply ((cred_add _ _).2)
      isplitl [H3]; · iexact H3
      iapply (nb_tally (F := F) i c); iexact H2
    iexact H4

end Cert.KernelIdeal.Cube
-- ==== Proof.Run.lean ====
/-
The launch: what the pipeline's proof data are, the body's obligation, and the run of @main.
-/
module

public import proofs.«01_k».proof.Proof.Deal
public import proofs.«01_k».proof.Proof.Gen.KernelIdeal.Points
public import Idealize.ShloMosaic.Lib.Tactic
public import Idealize.ShloMosaic.Lib.Quiescent
public import Idealize.ShloMosaic.Lib.Pipeline.CollectiveSegs

@[expose] public section

noncomputable section

namespace Cert.KernelIdeal.Cube

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The memory at launch: any contents, every counter zero, any generator registers. -/
def st₀ : MemSt nD τ sig (Elt F) := ⟨m, fun _ => 0, ρ⟩

/-- Device `c`'s operand. -/
def xin (c : Dev nD) : Vec F S2048x512 .bf16 :=
  (win0_0.blk (0 : Fin 1)).view.read (Elt F) ((st₀ m ρ).mem ((c : Thread nD τ).loc main_arg0))

/-- What a device owes at launch: a signal to each neighbour, and every transfer. -/
abbrev owe₀ (c : Dev nD) : CellTallies nD τ sig Unit := Blist c [0, 1, 2, 3]

/-- The tokens and credits a device starts with. -/
def start (c : Dev nD) : sProp 𝕄 :=
  iprop(Ghost (xin m ρ) c ∗ levAts L lv ∗ cred (tallyAt (barCell c) () 4)
    ∗ bigSep Finset.univ fun u : Fin 2 × Fin 19 => cred (tallyAt (recvCell c u.1 u.2) () (NC u.2)))

/-- The send slots and the receive slots of a device. -/
def slots (c : Dev nD) : sProp 𝕄 :=
  iprop((bigSep Finset.univ (sbAny (F := F) c)) ∗ bigSep Finset.univ (rbAny (F := F) c))

def Φ₀ (c : Dev nD) : sProp 𝕄 := iprop(start m ρ c ∗ slots (F := F) c)
def Φ₁ (c : Dev nD) : sProp 𝕄 :=
  iprop(semVal (barCell c) 0 ∗ (bigSep Finset.univ fun v : Fin 4 × Fin 19 => semVal (xCell c v) 0) ∗ slots (F := F) c)

/-- The proof data of the one pipeline. -/
def dats (_ : Fin 1) (c : Dev nD) : Dat τ (Elt F) Unit ℕ UU ℕ cfg0 c where
  A w := (st₀ m ρ).mem ((cfg0.win w).arr.view.loc (c : Thread nD τ))
  after w _ := match w with
    | ⟨0, _⟩ => xin m ρ c
    | ⟨1, _⟩ => G (xin m ρ)
  Φ t := match t with
    | ⟨0, _⟩ => Φ₀ m ρ c
    | ⟨_ + 1, _⟩ => Φ₁ (F := F) c
  q _ := fullShare
  owed t := match t with
    | ⟨0, _⟩ => owe₀ c
    | ⟨_ + 1, _⟩ => 0

theorem bigSep_W (Φ : Fin cfg0.W → sProp 𝕄) : bigSep Finset.univ Φ = iprop(Φ (0 : Fin 2) ∗ Φ (1 : Fin 2)) := bigSep_W0 Φ

/-! ## The body -/

set_option maxRecDepth 4000 in
def bodyPre (c : Dev nD) : sProp 𝕄 :=
  iprop(Φ₀ m ρ c ∗ (dats m ρ 0 c).owesAt () t0_0.castSucc
    ∗ (∃ d, owns (c : Thread nD τ) xM fullShare ((dats m ρ 0 c).before (0 : Fin 2) t0_0 d))
    ∗ (∃ d, owns (c : Thread nD τ) oM fullShare ((dats m ρ 0 c).before (1 : Fin 2) t0_0 d)))

set_option maxRecDepth 4000 in
def bodyPost (c : Dev nD) : sProp 𝕄 :=
  iprop(Φ₁ (F := F) c ∗ (dats m ρ 0 c).owesAt () t0_0.succ
    ∗ owns (c : Thread nD τ) xM fullShare (xin m ρ c) ∗ owns (c : Thread nD τ) oM fullShare (G (xin m ρ)))

theorem fetched (c : Dev nD) (d) : (dats m ρ 0 c).before (0 : Fin 2) t0_0 d = xin m ρ c := by
  unfold Dat.before; rw [if_pos (fetch0_0 t0_0)]; rfl

/-- From the start of the pipeline's point to the start of the program. -/
theorem pre_intro (c : Dev nD) (W : Waits sig Unit) (f : Vec F S2048x512 .bf16) :
    iprop(Φ₀ m ρ c ∗ owes (c : Thread nD τ) (owe₀ c) W ∗ owns (c : Thread nD τ) xM fullShare (xin m ρ c) ∗ owns (c : Thread nD τ) oM fullShare f)
      ⊢ Pre (xin m ρ) c f := by
  unfold Φ₀ start slots Ghost Dealt payToks Pre Bst RecvTok
  simp only [bigSep_sep']
  rw [show (bigSep Finset.univ (rbAny (F := F) c)) = bigSep Finset.univ fun i : Fin 4 => barPay (F := F) (nb i c) i from slots_deal c]
  rw [← bigSep_univ_eq_bigSepL [0, 1, 2, 3] (by decide) (by decide) (fun i : Fin 4 => iprop(dutyTok ER (barCell (nb i c)) 0 i ∗ barPay (F := F) (nb i c) i)), bigSep_sep']
  iintro ⟨⟨⟨⟨⟨%K, #HR⟩, HaB, HaS, HaV, HtB, HtS, HtV⟩, Hl, HcB, HcV⟩, Hsb, Hrb⟩, HO, Hx, Hf⟩
  isplitl [HO HtB Hrb Hl]
  · iexists K; iexists W
    isplitr; · iexact HR
    isplitl [Hl]; · iexact Hl
    isplitl [HO]; · iexact HO
    isplitl [HtB] <;> iassumption
  isplitl [HaB]; · iexact HaB
  isplitl [HcB]; · iexact HcB
  isplitl [HtS HtV]
  · isplitl [HtS] <;> iassumption
  isplitl [HaV HcV]
  · isplitl [HaV] <;> iassumption
  isplitl [HaS]; · iexact HaS
  isplitl [Hsb]; · iexact Hsb
  isplitl [Hx] <;> iassumption

/-- From the end of the program to the end of the point. -/
theorem post_elim (c : Dev nD) : Post (xin m ρ) c ⊢ bodyPost m ρ c := by
  unfold Post bodyPost Φ₁ slots Dat.owesAt Pipeline.owesWithin
  rw [show (dats m ρ 0 c).owed t0_0.succ = 0 from rfl, rows_split]
  iintro ⟨⟨%W, HO⟩, HzB, HzS, HzV, Hsb, Hrb, Hx, Hf⟩
  isplitl [HzB HzS HzV Hsb Hrb]
  · isplitl [HzB]; · iexact HzB
    isplitl [HzS HzV]
    · isplitl [HzS] <;> iassumption
    isplitl [Hsb] <;> iassumption
  isplitl [HO]
  · iexists W
    isplitr; · ipureintro; exact fun _ _ => Or.inl trivial
    iexact HO
  isplitl [Hx] <;> iassumption

abbrev body0 : Prog (TpuEff nD τ sig (Elt F) Λ₀ .tc) PUnit :=
  cc0_body (Memref.whole cc0_stg0_0) (Memref.isWhole_whole _) (Memref.whole cc0_stg1_0) (Memref.isWhole_whole _) (Memref.whole cc0_scratch0) (Memref.isWhole_whole _)
      (Memref.whole cc0_scratch1) (Memref.isWhole_whole _) (Memref.whole cc0_scratch2) (Memref.isWhole_whole _) (Memref.whole cc0_scratch3) (Memref.isWhole_whole _) cc0_scratch4

theorem body_wp (c : Dev nD) : bodyPre m ρ c ⊢ WP c (body0 (F := F)) (fun _ => bodyPost m ρ c) := by
  unfold bodyPre Dat.owesAt Pipeline.owesWithin
  rw [show (dats m ρ 0 c).owed t0_0.castSucc = owe₀ c from rfl]
  iintro ⟨HΦ, ⟨%W, %hW, HO⟩, ⟨%d0, Hx⟩, ⟨%d1, Hf⟩⟩
  ihave Hx' := (Entails.of_eq (congrArg (fun f => owns (c : Thread nD τ) xM fullShare f) (fetched m ρ c d0))) $$ Hx
  iapply (body_run (xin m ρ) c) $$ [HΦ HO Hx' Hf]
  · iapply (pre_intro m ρ c W ((dats m ρ 0 c).before (1 : Fin 2) t0_0 d1))
    isplitl [HΦ]; · iexact HΦ
    isplitl [HO]; · iexact HO
    isplitl [Hx'] <;> iassumption
  iintro H
  iapply (post_elim m ρ c); iexact H

set_option maxRecDepth 16000 in
/-- The pipeline's obligation for the body on device `c`. -/
theorem body_obligation (c : Dev nD) : BodyObligation (dats (F := F) m ρ 0 c) (defs₀ (F := F)) 𝒱₀ () Set.univ := fun t => by
  rw [show t = t0_0 from fin_N0 t, bigSep_W, bigSep_W]
  exact body_wp m ρ c

/-! ## The launch -/

theorem ownSemFacts : Pipeline.OwnSemFacts cfg0.spec osem := by decide +kernel

theorem share_eq (c : Dev nD) (w : Fin cfg0.W) : (dats m ρ 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred owe₀ c ∗ prngReg c (ρ c) ∗ Ghost (xin m ρ) c)
      ⊢ |={Set.univ}=> iprop(start m ρ c ∗ emp) := by
  iintro ⟨-, Hlev, Hcr, -, HG⟩
  ihave Hc := (creds_bar (F := F) c [0, 1, 2, 3]) $$ Hcr
  icases Hc with ⟨H1, HN⟩
  imodintro
  unfold start
  isplitl
  · isplitl [HG]; · iexact HG
    isplitl [Hlev]; · iexact Hlev
    isplitl [H1]; · iexact H1
    iexact HN
  · iempintro

/-- A whole buffer at some contents. -/
theorem any_whole (c : Dev nD) (b : Ref sig .tc) :
    (iprop(∃ f : Buf (Elt F) ((c : Thread nD τ).loc b), ((c : Thread nD τ).loc b) ↦{fullShare} f) : sProp 𝕄)
      = iprop(∃ Y, owns (c : Thread nD τ) (Memref.whole b) fullShare Y) := by
  simp only [owns_whole]

/-- The send buffers are the send slots, and the receive buffers the receive slots. -/
theorem send_bufs (c : Dev nD) : iprop((∃ Y, owns (c : Thread nD τ) (Memref.whole cc0_scratch0) fullShare Y) ∗ (∃ Y, owns (c : Thread nD τ) (Memref.whole cc0_scratch2) fullShare Y))
    ⊢ (bigSep Finset.univ (sbAny (F := F) c) : sProp 𝕄) := bufs_of (F := F) c sbM
theorem send_bufs_back (c : Dev nD) : (bigSep Finset.univ (sbAny (F := F) c) : sProp 𝕄)
    ⊢ iprop((∃ Y, owns (c : Thread nD τ) (Memref.whole cc0_scratch0) fullShare Y) ∗ (∃ Y, owns (c : Thread nD τ) (Memref.whole cc0_scratch2) fullShare Y)) :=
  bufs_join (F := F) c sbM
theorem recv_bufs (c : Dev nD) : iprop((∃ Y, owns (c : Thread nD τ) (Memref.whole cc0_scratch1) fullShare Y) ∗ (∃ Y, owns (c : Thread nD τ) (Memref.whole cc0_scratch3) fullShare Y))
    ⊢ (bigSep Finset.univ (rbAny (F := F) c) : sProp 𝕄) := bufs_of (F := F) c rbM
theorem recv_bufs_back (c : Dev nD) : (bigSep Finset.univ (rbAny (F := F) c) : sProp 𝕄)
    ⊢ iprop((∃ Y, owns (c : Thread nD τ) (Memref.whole cc0_scratch1) fullShare Y) ∗ (∃ Y, owns (c : Thread nD τ) (Memref.whole cc0_scratch3) fullShare Y)) :=
  bufs_join (F := F) c rbM

theorem slots_intro (c : Dev nD) : (Pipeline.scopedRest cfg0.spec c : sProp 𝕄) ⊢ slots (F := F) c := by
  rw [scopedRest0_eq, any_whole, any_whole, any_whole, any_whole]
  unfold slots
  iintro ⟨H0, H1, H2, H3⟩
  isplitl [H0 H2]
  · iapply (send_bufs (F := F) c)
    isplitl [H0] <;> iassumption
  iapply (recv_bufs (F := F) c)
  isplitl [H1] <;> iassumption

theorem slots_elim (c : Dev nD) : slots (F := F) c ⊢ (Pipeline.scopedRest cfg0.spec c : sProp 𝕄) := by
  rw [scopedRest0_eq, any_whole, any_whole, any_whole, any_whole]
  unfold slots
  iintro ⟨Hs, Hr⟩
  ihave Hs' := (send_bufs_back (F := F) c) $$ Hs
  ihave Hr' := (recv_bufs_back (F := F) c) $$ Hr
  icases Hs' with ⟨H0, H2⟩
  icases Hr' with ⟨H1, H3⟩
  isplitl [H0]; · iexact H0
  isplitl [H1]; · iexact H1
  isplitl [H2] <;> iassumption

theorem enter (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl]
  unfold Φ₀
  iintro ⟨Hs, -, Hr⟩
  isplitl [Hs]; · iexact Hs
  iapply (slots_intro (F := F) c); iexact Hr

theorem leave (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ (F := F) c from rfl, ownSems0_eq, unscopedSems0_eq]
  unfold Φ₁
  iintro ⟨HzB, Hz, Hs⟩
  isplitl [HzB]; · iexact HzB
  isplitl [Hz]; · iexact Hz
  iapply (slots_elim (F := F) c); iexact Hs

theorem Blist_pos {c : Dev nD} {l : List (Fin 4)} {g : GSem nD τ sig} {x : Unit} (h : 0 < Blist c l g x) :
    L g = {()} ∧ 0 < lv g x := by
  induction l with
  | nil =>
    obtain ⟨u, _, rfl⟩ := Olist_pos h
    exact ⟨L_tc _ _, by rw [lv_recv]; omega⟩
  | cons i l ih =>
    rw [Blist, Pi.add_apply, Finsupp.add_apply, tallyAt_apply] at h
    by_cases hg : g = barCell (nb i c) ∧ x = ()
    · rw [hg.1]; exact ⟨L_tc _ _, Nat.one_pos⟩
    · rw [if_neg hg, Nat.add_zero] at h
      exact ih h

/-- A device may wait for its staging copies whatever it owes. -/
theorem mayWait_stage (c : Dev nD) (q : DmaSem sig) (hq : srow' q % 2 = 0) (O : CellTallies nD τ sig Unit) (hO : O = owe₀ c ∨ O = 0) :
    (levAts L lv : sProp 𝕄) ⊢ MayWait (c : Thread nD τ) (.dma q) () O := by
  rcases hO with rfl | rfl
  · exact MayOwe.of_cut (L := L) (lev := lv) 0 (fun p hp => by rw [Finset.mem_singleton.mp hp, L_tc]; exact Finset.mem_singleton_self _)
      (fun g u hg => by rw [(Blist_pos hg).1]; exact Finset.mem_singleton_self _)
      (fun p hp => by
        rw [Finset.mem_singleton.mp hp]
        show (if srow' q % 2 = 0 then 0 else 2 + pos (shalf q, sunit q)) ≤ 0
        rw [if_pos hq])
      (fun g u hg => (Blist_pos hg).2)
  · rw [MayWait_zero]; iintro -; iempintro

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The run -/

/-- A window's array at the end. -/
def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 100000 in
/-- From any memory with zero counters every run of @main ends, with each window's array as the proof data say and every
counter at zero again. -/
theorem run_main : θ_run defs (onTc (τ := τ) (main (F := F))) (st₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := owe₀) (howed₀ := fun _ => rfl) (howedN := fun _ => rfl)
    (L := L) (lv := lv) (hL := L_of_ne) (hwaits := waits m ρ)
    (G := Minted (xin m ρ)) (G' := Ghost (xin m ρ)) (u₀ := u₀)
    (hu₀ := by
      unfold u₀
      iintro Hu
      ihave H := (ownU_pair _ _) $$ Hu
      icases H with ⟨HP, HX⟩
      imod (fund_cube (xin m ρ)) $$ HX with HG
      imodintro
      isplitl [HP] <;> iassumption)
    (hglob := glob (xin m ρ))
    (hA := fun _ _ => rfl) (hpf := fun _ k => k.elim0)
    (X := start m ρ) (Y := fun c => unscopedSems0 c) (Z := fun _ => iprop(emp))
    (hX := start_intro m ρ) (hin := enter m ρ) (hout := leave m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The operand's array ends as it began. -/
theorem finalA_x (c : Dev nD) : finalA m ρ c (0 : Fin 2) = (st₀ m ρ).mem (win0_0.arr.view.loc (c : Thread nD τ)) :=
  (dats (F := F) m ρ 0 c).arrAt_in (0 : Fin 2) rfl _

/-- The result's array, read back, is `G` of the operands. -/
theorem finalA_o (c : Dev nD) :
    (win0_1.blk (0 : Fin 1)).view.read (Elt F) (finalA m ρ c (1 : Fin 2)) = G (xin m ρ) := by
  unfold finalA
  rw [show cfg0.N = ((0 : Fin 1) : Fin cfg0.N).val + 1 from rfl, (dats m ρ 0 c).arrAt_succ (1 : Fin 2) (0 : Fin 1)]
  rw [show (cfg0.win (1 : Fin 2)).flush (0 : Fin 1) = true from by decide, if_pos rfl]
  exact View.read_write_univ _ _

end Cert.KernelIdeal.Cube
-- ==== Proof.Value.lean ====
/-
The value of the result at exact arithmetic: every device's result is the sum of all the devices'
operands, which is what the reference computes.
-/
module

public import proofs.«01_k».proof.Proof.Run
public import proofs.«01_k».proof.Proof.Gen.ReferenceIdeal.Run
public import Idealize.ShloMosaic.Lib.Pointwise.Reduce
public import Idealize.ShloMosaic.Lib.Pointwise.Tactic
public import Idealize.ShloMosaic.Lib.Layout

@[expose] public section

noncomputable section

namespace Cert.KernelIdeal.Cube

open Cert.KernelIdeal Cert.KernelIdeal.Gen
open Idealize.ShloMosaic
open Idealize.ShloMosaic.TcCoe

/-! ## The kernel's sums -/

/-- The device reached from `d` by the links a choice takes. -/
def reach (h : Fin 2) (d : Dev nD) (b : Fin 2 × Fin 2 × Fin 2 × Fin 2) : Dev nD :=
  let s (i : Fin 4) (x : Fin 2) (c : Dev nD) : Dev nD := if x = 0 then c else fl h i c
  s 0 b.2.2.2 (s 1 b.2.2.1 (s 2 b.2.1 (s 3 b.1 d)))

/-- The sixteen choices reach the sixteen devices. -/
theorem reach_bijective (h : Fin 2) (d : Dev nD) : Function.Bijective (reach h d) := by
  rw [Fintype.bijective_iff_injective_and_card]
  refine ⟨?_, rfl⟩
  intro a b
  revert a b
  revert h d
  decide +kernel

section Sums

variable (X : Dev nD → Vec Ideal S2048x512 .bf16)

theorem sum_choice (f : Dev nD → EReal) (h : Fin 2) (i : Fin 4) (c : Dev nD) :
    f c + f (fl h i c) = ∑ x : Fin 2, f (if x = 0 then c else fl h i c) := by
  rw [Fin.sum_univ_two]; rfl

/-- At exact arithmetic the four exchanges leave the sum over all the devices. -/
theorem T4_sum (h : Fin 2) (d : Dev nD) (i : S2048x512.Idx) :
    (T4 X h d i : EReal) = ∑ c : Dev nD, (X c i : EReal) := by
  have e1 (c : Dev nD) : (T1 X h c i : EReal) = ∑ x : Fin 2, (X (if x = 0 then c else fl h 0 c) i : EReal) :=
    sum_choice (fun c => X c i) h 0 c
  have e2 (c : Dev nD) : (T2 X h c i : EReal) = ∑ x : Fin 2, (T1 X h (if x = 0 then c else fl h 1 c) i : EReal) :=
    sum_choice (fun c => T1 X h c i) h 1 c
  have e3 (c : Dev nD) : (T3 X h c i : EReal) = ∑ x : Fin 2, (T2 X h (if x = 0 then c else fl h 2 c) i : EReal) :=
    sum_choice (fun c => T2 X h c i) h 2 c
  have e4 (c : Dev nD) : (T4 X h c i : EReal) = ∑ x : Fin 2, (T3 X h (if x = 0 then c else fl h 3 c) i : EReal) :=
    sum_choice (fun c => T3 X h c i) h 3 c
  rw [e4]
  simp only [e3, e2, e1]
  rw [← Function.Bijective.sum_comp (reach_bijective h d) (fun c => (X c i : EReal))]
  rw [Fintype.sum_prod_type]
  simp only [Fintype.sum_prod_type]
  rfl

theorem G_sum (i : S2048x512.Idx) : (G X i : EReal) = ∑ c : Dev nD, (X c i : EReal) := T4_sum X _ _ i

end Sums

/-! ## The reference's sum -/

/-- The reference's result on a whole operand. -/
def refOut (x : FVec Ideal Cert.ReferenceIdeal.S32768x512 .bf16) : FVec Ideal Cert.ReferenceIdeal.S2048x512 .bf16 :=
  truncf .bf16 (Host.reduceAdd (extf .f32 (shapeCast Cert.ReferenceIdeal.S16x2048x512 x Cert.ReferenceIdeal.Gen.facts.shapeCasts_S32768x512_S16x2048x512) Cert.ReferenceIdeal.Gen.facts.bitsLt_bf16_f32)
    (constant Cert.ReferenceIdeal.S_ .f32 0x00000000#32) Cert.ReferenceIdeal.Gen.facts.reducesTo_S16x2048x512_S2048x512_d0 Cert.ReferenceIdeal.Gen.facts.h_S_) Cert.ReferenceIdeal.Gen.facts.bitsLt_bf16_f32

/-- It is the sum of the operand's sixteen blocks of rows. -/
theorem refOut_sum (x : Cert.ReferenceIdeal.S32768x512.Idx → EReal) (i : S2048x512.Idx) :
    (refOut x i : EReal) = ∑ c : Fin 16, Layout.block ⟨2, ![2048, 512]⟩ ⟨2, ![32768, 512]⟩ 0 16 c x (by decide) i := by
  have h0 : (refOut x i : EReal) = Ideal.hostReduceAdd Cert.ReferenceIdeal.Gen.facts.reducesTo_S16x2048x512_S2048x512_d0
      (shapeCast Cert.ReferenceIdeal.S16x2048x512 x Cert.ReferenceIdeal.Gen.facts.shapeCasts_S32768x512_S16x2048x512) (Ideal.ofBits .f32 0x00000000#32) i := rfl
  rw [h0, Ideal.hostReduceAdd_r3_a0, Ideal.ofBits_zero_f32, zero_add]
  refine Finset.sum_congr rfl fun c _ => ?_
  rw [Layout.block_apply]
  refine shapeCast_apply _ _ _ _ ?_
  rw [Shape.rowMajor_val_two, Shape.rowMajor_val_three]
  rfl

/-! ## The two runs -/

variable (m : (ℓ : Loc nD τ sig) → Buf (Elt Ideal) ℓ) (ρ : Dev nD → PrngReg)

/-- The operand's window is the whole array. -/
theorem xin_eq (c : Dev nD) : xin m ρ c = m ((c : Thread nD τ).loc main_arg0) := by
  have hz : (fun a => (win0_0.index (0 : Fin 1)) a * main_arg0.ty.shape.size a) = fun _ => 0 :=
    funext fun a => by fin_cases a <;> decide
  exact Memref.read_access_unit_zero (Elt Ideal) main_arg0 hz (fun a => by fin_cases a <;> decide) _

/-- The result's window is the whole array, so the array ends at `G`. -/
theorem final_o (c : Dev nD) : finalA m ρ c (1 : Fin 2) = G (xin m ρ) := by
  have hz : (fun a => (win0_1.index (0 : Fin 1)) a * main_v1.ty.shape.size a) = fun _ => 0 :=
    funext fun a => by fin_cases a <;> decide
  exact (Memref.read_access_unit_zero (Elt Ideal) main_v1 hz (fun a => by fin_cases a <;> decide) _).symm.trans (finalA_o m ρ c)

/-- From a whole operand cut into the devices' blocks, every device's result is the reference's. -/
theorem result_eq (x : Cert.ReferenceIdeal.S32768x512.Idx → EReal)
    (hx : ∀ c : Dev nD, m ((c : Thread nD τ).loc main_arg0) = Layout.block ⟨2, ![2048, 512]⟩ ⟨2, ![32768, 512]⟩ 0 16 c x (by decide))
    (c : Dev nD) : finalA m ρ c (1 : Fin 2) = refOut x := by
  rw [final_o]
  funext i
  refine (G_sum (xin m ρ) i).trans (Eq.trans ?_ (refOut_sum x i).symm)
  refine Finset.sum_congr rfl fun d _ => ?_
  rw [xin_eq, hx d]

end Cert.KernelIdeal.Cube
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Value
public import Idealize.ShloMosaic.Adequacy
public import Idealize.ShloMosaic.Init

@[expose] public section

noncomputable section

namespace Cert.Proof

open Idealize.ShloMosaic Idealize.SL.Sem

/-- The idealized program runs, leaves its operands and ends with every counter at zero. -/
theorem frame_ideal : Cert.quiescent_KernelIdeal := fun m ρ _ =>
  (θ_run Cert.KernelIdeal.defs _ _).mono
    (fun _ h => ⟨fun c => (h.1 c (0 : Fin 2)).trans (Cert.KernelIdeal.Cube.finalA_x m ρ c), h.2⟩)
    (Cert.KernelIdeal.Cube.run_main (F := Ideal) m ρ)

/-- The two programs have the same text: at the bit-exact values their tables of kernel bodies agree. -/
theorem bodies_same : Cert.Kernel.defs₀ (F := Bits) = Cert.KernelIdeal.defs₀ (F := Bits) := by
  unfold Cert.Kernel.defs₀ Cert.KernelIdeal.defs₀
  refine congrArg (Defs.onTc (Val := Elt Bits)) ?_
  funext l
  fin_cases l
  rfl

/-- So do the tables that hold the pipeline's region as well. -/
theorem tables_same : Cert.Kernel.defs (F := Bits) = Cert.KernelIdeal.defs (F := Bits) :=
  congrArg (Pipeline.defs (Cert.Kernel.pcfgs (F := Bits))) bodies_same

/-- So does the program at the bit-exact values: its text is the same. -/
theorem frame_kernel : Cert.quiescent_Kernel := by
  intro m ρ _
  have h : θ_run (Cert.KernelIdeal.defs (F := Bits)) (onTc (τ := Cert.KernelIdeal.τ) (Cert.KernelIdeal.main (F := Bits)))
      ⟨m, fun _ => 0, ρ⟩ (fun r => (∀ c : Dev Cert.KernelIdeal.nD,
        r.2.mem ((c.tc : Thread Cert.KernelIdeal.nD Cert.KernelIdeal.τ).loc Cert.KernelIdeal.main_arg0)
          = m ((c.tc : Thread Cert.KernelIdeal.nD Cert.KernelIdeal.τ).loc Cert.KernelIdeal.main_arg0))
        ∧ r.2.sem = fun _ => 0) :=
    (θ_run Cert.KernelIdeal.defs _ _).mono
      (fun _ h => ⟨fun c => (h.1 c (0 : Fin 2)).trans (Cert.KernelIdeal.Cube.finalA_x m ρ c), h.2⟩)
      (Cert.KernelIdeal.Cube.run_main (F := Bits) m ρ)
  exact (congrArg (fun D => θ_run D (onTc (τ := Cert.Kernel.τ) (Cert.Kernel.main (F := Bits))) ⟨m, fun _ => 0, ρ⟩ _) tables_same).mpr h

/-- The reference runs and leaves its operand; it has no semaphore. -/
theorem frame_reference : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.Value.run (F := Ideal) m ρ)

/-- Every device's result is the reference's. -/
theorem value : Cert.algebraic_KernelIdeal_ReferenceIdeal := by
  intro m ρ m' ρ' _ hagree
  refine ⟨Cert.KernelIdeal.Cube.refOut (m' (((0 : Dev Cert.ReferenceIdeal.nD).tc : Thread Cert.ReferenceIdeal.nD Cert.ReferenceIdeal.τ).loc Cert.ReferenceIdeal.main_arg0)), ?_, ?_⟩
  · exact (θ_run Cert.KernelIdeal.defs _ _).mono
      (fun _ h c => ⟨(h.1 c (1 : Fin 2)).trans (Cert.KernelIdeal.Cube.result_eq m ρ _ hagree c),
        (h.1 c (0 : Fin 2)).trans (Cert.KernelIdeal.Cube.finalA_x m ρ c)⟩)
      (Cert.KernelIdeal.Cube.run_main (F := Ideal) m ρ)
  · exact (θ_run Cert.ReferenceIdeal.defs _ _).mono (fun _ h => h 0) (Cert.ReferenceIdeal.Value.run (F := Ideal) m' ρ')

theorem claim : Cert.Claim := ⟨Cert.Kernel.Gen.facts, Cert.KernelIdeal.Gen.facts, Cert.ReferenceIdeal.Gen.facts,
  frame_kernel, frame_ideal, frame_reference, trivial, value⟩

end Cert.Proof

end
